-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x12x2048x64 : Shape := ⟨4, ![1, 12, 2048, 64]⟩
abbrev S64x64 : Shape := ⟨2, ![64, 64]⟩
abbrev S64 : Shape := ⟨1, ![64]⟩
abbrev S_ : Shape := ⟨0, ![]⟩

class Facts : Prop where
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_
  h_S_ : 0 < S_.numel

variable [Facts]

def fn {F : FTy → Type} [FloatOps F] (main_arg0 : FVec F S1x12x2048x64 .f32) (main_arg1 : FVec F S1x12x2048x64 .f32) (main_arg2 : FVec F S1x12x2048x64 .f32) (main_arg3 : FVec F S64x64 .f32) (main_arg4 : FVec F S64 .f32) : IVec S_ 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_c : IVec S_ 1 := constantI S_ 1 1#1
  let main_v3 : IVec S_ 1 := (fun x v => Host.reduce IntOp.andi x v reducesTo_S1x12x2048x64_S_d0_1_2_3 h_S_) main_v2 main_c
  let main_v4 : FVec F S1x12x2048x64 .f32 := Host.absf main_arg1
  let main_cst_0 : FVec F S_ .f32 := constant S_ .f32 0x7F800000#32
  let main_v5 : FVec F S1x12x2048x64 .f32 := broadcastInDim S1x12x2048x64 ![] bcast_S_S1x12x2048x64 main_cst_0
  let main_v6 : IVec S1x12x2048x64 1 := cmpf .olt main_v4 main_v5
  let main_c_1 : IVec S_ 1 := constantI S_ 1 1#1
  let main_v7 : IVec S_ 1 := (fun x v => Host.reduce IntOp.andi x v reducesTo_S1x12x2048x64_S_d0_1_2_3 h_S_) main_v6 main_c_1
  let main_v8 : IVec S_ 1 := andi main_v3 main_v7
  let main_v9 : FVec F S1x12x2048x64 .f32 := Host.absf main_arg2
  let main_cst_2 : FVec F S_ .f32 := constant S_ .f32 0x7F800000#32
  let main_v10 : FVec F S1x12x2048x64 .f32 := broadcastInDim S1x12x2048x64 ![] bcast_S_S1x12x2048x64 main_cst_2
  let main_v11 : IVec S1x12x2048x64 1 := cmpf .olt main_v9 main_v10
  let main_c_3 : IVec S_ 1 := constantI S_ 1 1#1
  let main_v12 : IVec S_ 1 := (fun x v => Host.reduce IntOp.andi x v reducesTo_S1x12x2048x64_S_d0_1_2_3 h_S_) main_v11 main_c_3
  let main_v13 : IVec S_ 1 := andi main_v8 main_v12
  main_v13
-- ==== Kernel.lean ====
abbrev S1x12x2048x64 : Shape := ⟨4, ![1, 12, 2048, 64]⟩
abbrev S64x64 : Shape := ⟨2, ![64, 64]⟩
abbrev S64 : Shape := ⟨1, ![64]⟩
abbrev S12x2048x64 : Shape := ⟨3, ![12, 2048, 64]⟩
abbrev S1x12x32x64x64 : Shape := ⟨5, ![1, 12, 32, 64, 64]⟩
abbrev S_ : Shape := ⟨0, ![]⟩
abbrev S1x12x32x64 : Shape := ⟨4, ![1, 12, 32, 64]⟩
abbrev S1x12x32x32 : Shape := ⟨4, ![1, 12, 32, 32]⟩
abbrev S384x32 : Shape := ⟨2, ![384, 32]⟩
abbrev S32 : Shape := ⟨1, ![32]⟩
abbrev S1x32 : Shape := ⟨2, ![1, 32]⟩
abbrev S384 : Shape := ⟨1, ![384]⟩
abbrev S384x1 : Shape := ⟨2, ![384, 1]⟩
abbrev S384x4 : Shape := ⟨2, ![384, 4]⟩
abbrev S12x32x4 : Shape := ⟨3, ![12, 32, 4]⟩
abbrev S1x64 : Shape := ⟨2, ![1, 64]⟩
abbrev S1x2048x64 : Shape := ⟨3, ![1, 2048, 64]⟩
abbrev S2048x64 : Shape := ⟨2, ![2048, 64]⟩
abbrev S32x64x128 : Shape := ⟨3, ![32, 64, 128]⟩
abbrev S32x64x256 : Shape := ⟨3, ![32, 64, 256]⟩
abbrev S2048x128 : Shape := ⟨2, ![2048, 128]⟩
abbrev S2048 : Shape := ⟨1, ![2048]⟩
abbrev S2048x1 : Shape := ⟨2, ![2048, 1]⟩
abbrev S1x64x64 : Shape := ⟨3, ![1, 64, 64]⟩
abbrev S64x128 : Shape := ⟨2, ![64, 128]⟩
abbrev S1x64x128 : Shape := ⟨3, ![1, 64, 128]⟩
abbrev S1x1x1 : Shape := ⟨3, ![1, 1, 1]⟩

abbrev nBuf : Space → Nat
  | .hbm => 85
  | .vmem => 17
  | .smem => 1
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S64x64, .f32⟩
  | .hbm, ⟨4, _⟩ => ⟨S64, .f32⟩
  | .hbm, ⟨5, _⟩ => ⟨S12x2048x64, .f32⟩
  | .hbm, ⟨6, _⟩ => ⟨S12x2048x64, .f32⟩
  | .hbm, ⟨7, _⟩ => ⟨S12x2048x64, .f32⟩
  | .hbm, ⟨8, _⟩ => ⟨S1x12x32x64x64, .f32⟩
  | .hbm, ⟨9, _⟩ => ⟨S_, .f32⟩
  | .hbm, ⟨10, _⟩ => ⟨S1x12x32x64, .f32⟩
  | .hbm, ⟨11, _⟩ => ⟨S_, .f32⟩
  | .hbm, ⟨12, _⟩ => ⟨S1x12x32x64, .f32⟩
  | .hbm, ⟨13, _⟩ => ⟨S1x12x32x64, .f32⟩
  | .hbm, ⟨14, _⟩ => ⟨S1x12x32x64x64, .f32⟩
  | .hbm, ⟨15, _⟩ => ⟨S_, .f32⟩
  | .hbm, ⟨16, _⟩ => ⟨S1x12x32x64, .f32⟩
  | .hbm, ⟨17, _⟩ => ⟨S_, .f32⟩
  | .hbm, ⟨18, _⟩ => ⟨S1x12x32x64, .f32⟩
  | .hbm, ⟨19, _⟩ => ⟨S1x12x32x64, .f32⟩
  | .hbm, ⟨20, _⟩ => ⟨S1x12x32x32, .f32⟩
  | .hbm, ⟨21, _⟩ => ⟨S384x32, .f32⟩
  | .hbm, ⟨22, _⟩ => ⟨S32, .i32⟩
  | .hbm, ⟨23, _⟩ => ⟨S1x32, .i32⟩
  | .hbm, ⟨24, _⟩ => ⟨S384x32, .i32⟩
  | .hbm, ⟨25, _⟩ => ⟨S_, .f32⟩
  | .hbm, ⟨26, _⟩ => ⟨S_, .i32⟩
  | .hbm, ⟨27, _⟩ => ⟨S384, .f32⟩
  | .hbm, ⟨28, _⟩ => ⟨S384, .i32⟩
  | .hbm, ⟨29, _⟩ => ⟨S384x1, .i32⟩
  | .hbm, ⟨30, _⟩ => ⟨S384x32, .i32⟩
  | .hbm, ⟨31, _⟩ => ⟨S384x32, .i32⟩
  | .hbm, ⟨32, _⟩ => ⟨S384x32, .i1⟩
  | .hbm, ⟨33, _⟩ => ⟨S_, .f32⟩
  | .hbm, ⟨34, _⟩ => ⟨S_, .f32⟩
  | .hbm, ⟨35, _⟩ => ⟨S384x32, .f32⟩
  | .hbm, ⟨36, _⟩ => ⟨S384x32, .f32⟩
  | .hbm, ⟨37, _⟩ => ⟨S384x32, .i32⟩
  | .hbm, ⟨38, _⟩ => ⟨S_, .f32⟩
  | .hbm, ⟨39, _⟩ => ⟨S_, .i32⟩
  | .hbm, ⟨40, _⟩ => ⟨S384, .f32⟩
  | .hbm, ⟨41, _⟩ => ⟨S384, .i32⟩
  | .hbm, ⟨42, _⟩ => ⟨S384x1, .i32⟩
  | .hbm, ⟨43, _⟩ => ⟨S384x32, .i32⟩
  | .hbm, ⟨44, _⟩ => ⟨S384x32, .i32⟩
  | .hbm, ⟨45, _⟩ => ⟨S384x32, .i1⟩
  | .hbm, ⟨46, _⟩ => ⟨S_, .f32⟩
  | .hbm, ⟨47, _⟩ => ⟨S_, .f32⟩
  | .hbm, ⟨48, _⟩ => ⟨S384x32, .f32⟩
  | .hbm, ⟨49, _⟩ => ⟨S384x32, .f32⟩
  | .hbm, ⟨50, _⟩ => ⟨S384x32, .i32⟩
  | .hbm, ⟨51, _⟩ => ⟨S_, .f32⟩
  | .hbm, ⟨52, _⟩ => ⟨S_, .i32⟩
  | .hbm, ⟨53, _⟩ => ⟨S384, .f32⟩
  | .hbm, ⟨54, _⟩ => ⟨S384, .i32⟩
  | .hbm, ⟨55, _⟩ => ⟨S384x1, .i32⟩
  | .hbm, ⟨56, _⟩ => ⟨S384x32, .i32⟩
  | .hbm, ⟨57, _⟩ => ⟨S384x32, .i32⟩
  | .hbm, ⟨58, _⟩ => ⟨S384x32, .i1⟩
  | .hbm, ⟨59, _⟩ => ⟨S_, .f32⟩
  | .hbm, ⟨60, _⟩ => ⟨S_, .f32⟩
  | .hbm, ⟨61, _⟩ => ⟨S384x32, .f32⟩
  | .hbm, ⟨62, _⟩ => ⟨S384x32, .f32⟩
  | .hbm, ⟨63, _⟩ => ⟨S384x32, .i32⟩
  | .hbm, ⟨64, _⟩ => ⟨S_, .f32⟩
  | .hbm, ⟨65, _⟩ => ⟨S_, .i32⟩
  | .hbm, ⟨66, _⟩ => ⟨S384, .f32⟩
  | .hbm, ⟨67, _⟩ => ⟨S384, .i32⟩
  | .hbm, ⟨68, _⟩ => ⟨S384x1, .i32⟩
  | .hbm, ⟨69, _⟩ => ⟨S384x32, .i32⟩
  | .hbm, ⟨70, _⟩ => ⟨S384x32, .i32⟩
  | .hbm, ⟨71, _⟩ => ⟨S384x32, .i1⟩
  | .hbm, ⟨72, _⟩ => ⟨S_, .f32⟩
  | .hbm, ⟨73, _⟩ => ⟨S_, .f32⟩
  | .hbm, ⟨74, _⟩ => ⟨S384x32, .f32⟩
  | .hbm, ⟨75, _⟩ => ⟨S384x32, .f32⟩
  | .hbm, ⟨76, _⟩ => ⟨S384x1, .i32⟩
  | .hbm, ⟨77, _⟩ => ⟨S384x1, .i32⟩
  | .hbm, ⟨78, _⟩ => ⟨S384x1, .i32⟩
  | .hbm, ⟨79, _⟩ => ⟨S384x1, .i32⟩
  | .hbm, ⟨80, _⟩ => ⟨S384x4, .i32⟩
  | .hbm, ⟨81, _⟩ => ⟨S12x32x4, .i32⟩
  | .hbm, ⟨82, _⟩ => ⟨S1x64, .f32⟩
  | .hbm, ⟨83, _⟩ => ⟨S12x2048x64, .f32⟩
  | .hbm, ⟨84, _⟩ => ⟨S1x12x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S64x64, .f32⟩
  | .local _ .vmem, ⟨7, _⟩ => ⟨S1x64, .f32⟩
  | .local _ .vmem, ⟨8, _⟩ => ⟨S1x2048x64, .f32⟩
  | .local _ .vmem, ⟨9, _⟩ => ⟨S1x2048x64, .f32⟩
  | .local _ .vmem, ⟨10, _⟩ => ⟨S2048x64, .f32⟩
  | .local _ .vmem, ⟨11, _⟩ => ⟨S2048x64, .f32⟩
  | .local _ .vmem, ⟨12, _⟩ => ⟨S32x64x128, .f32⟩
  | .local _ .vmem, ⟨13, _⟩ => ⟨S32x64x128, .f32⟩
  | .local _ .vmem, ⟨14, _⟩ => ⟨S32x64x256, .f32⟩
  | .local _ .vmem, ⟨15, _⟩ => ⟨S2048x128, .f32⟩
  | .local _ .vmem, ⟨16, _⟩ => ⟨S2048x128, .f32⟩
  | .local _ .smem, ⟨0, _⟩ => ⟨S12x32x4, .i32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_cst_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_call0_v0 : Ref sig .tc := ⟨.hbm, 24, rfl⟩
abbrev main_call0_call0_cst : Ref sig .tc := ⟨.hbm, 25, rfl⟩
abbrev main_call0_call0_c : Ref sig .tc := ⟨.hbm, 26, rfl⟩
abbrev main_call0_call0_v1_0 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_cst_3 : Ref sig .tc := ⟨.hbm, 33, rfl⟩
abbrev main_call0_call1_v0 : Ref sig .tc := ⟨.hbm, 34, rfl⟩
abbrev main_call0_call1_v1 : Ref sig .tc := ⟨.hbm, 35, rfl⟩
abbrev main_call0_v20 : Ref sig .tc := ⟨.hbm, 36, rfl⟩
abbrev main_call0_call2_v0 : Ref sig .tc := ⟨.hbm, 37, rfl⟩
abbrev main_call0_call2_cst : Ref sig .tc := ⟨.hbm, 38, rfl⟩
abbrev main_call0_call2_c : Ref sig .tc := ⟨.hbm, 39, rfl⟩
abbrev main_call0_call2_v1_0 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_cst_4 : Ref sig .tc := ⟨.hbm, 46, rfl⟩
abbrev main_call0_call3_v0 : Ref sig .tc := ⟨.hbm, 47, rfl⟩
abbrev main_call0_call3_v1 : Ref sig .tc := ⟨.hbm, 48, rfl⟩
abbrev main_call0_v26 : Ref sig .tc := ⟨.hbm, 49, rfl⟩
abbrev main_call0_call4_v0 : Ref sig .tc := ⟨.hbm, 50, rfl⟩
abbrev main_call0_call4_cst : Ref sig .tc := ⟨.hbm, 51, rfl⟩
abbrev main_call0_call4_c : Ref sig .tc := ⟨.hbm, 52, rfl⟩
abbrev main_call0_call4_v1_0 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_cst_5 : Ref sig .tc := ⟨.hbm, 59, rfl⟩
abbrev main_call0_call5_v0 : Ref sig .tc := ⟨.hbm, 60, rfl⟩
abbrev main_call0_call5_v1 : Ref sig .tc := ⟨.hbm, 61, rfl⟩
abbrev main_call0_v32 : Ref sig .tc := ⟨.hbm, 62, rfl⟩
abbrev main_call0_call6_v0 : Ref sig .tc := ⟨.hbm, 63, rfl⟩
abbrev main_call0_call6_cst : Ref sig .tc := ⟨.hbm, 64, rfl⟩
abbrev main_call0_call6_c : Ref sig .tc := ⟨.hbm, 65, rfl⟩
abbrev main_call0_call6_v1_0 : Ref sig .tc := ⟨.hbm, 66, rfl⟩
abbrev main_call0_v33 : Ref sig .tc := ⟨.hbm, 67, rfl⟩
abbrev main_call0_v34 : Ref sig .tc := ⟨.hbm, 68, rfl⟩
abbrev main_call0_v35 : Ref sig .tc := ⟨.hbm, 69, rfl⟩
abbrev main_call0_v36 : Ref sig .tc := ⟨.hbm, 70, rfl⟩
abbrev main_call0_v37 : Ref sig .tc := ⟨.hbm, 71, rfl⟩
abbrev main_call0_cst_6 : Ref sig .tc := ⟨.hbm, 72, rfl⟩
abbrev main_call0_call7_v0 : Ref sig .tc := ⟨.hbm, 73, rfl⟩
abbrev main_call0_call7_v1 : Ref sig .tc := ⟨.hbm, 74, rfl⟩
abbrev main_call0_v38 : Ref sig .tc := ⟨.hbm, 75, rfl⟩
abbrev main_call0_v39 : Ref sig .tc := ⟨.hbm, 76, rfl⟩
abbrev main_call0_v40 : Ref sig .tc := ⟨.hbm, 77, rfl⟩
abbrev main_call0_v41 : Ref sig .tc := ⟨.hbm, 78, rfl⟩
abbrev main_call0_v42 : Ref sig .tc := ⟨.hbm, 79, rfl⟩
abbrev main_call0_v43 : Ref sig .tc := ⟨.hbm, 80, rfl⟩
abbrev main_call0_v44 : Ref sig .tc := ⟨.hbm, 81, rfl⟩
abbrev main_call0_v45 : Ref sig .tc := ⟨.hbm, 82, rfl⟩
abbrev main_call0_v46 : Ref sig .tc := ⟨.hbm, 83, rfl⟩
abbrev main_v0 : Ref sig .tc := ⟨.hbm, 84, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def k0_off1 (i : grid0.Coords) : Fin 3 → Nat :=
  let arg0 : BitVec 32 := BitVec.ofNat 32 (i 0).val
  let v536 : Index := Scalar.indexCast arg0
  let c0_528 : Index := 0#32
  let c0_529 : Index := 0#32
  ![v536.toNat, 0, 0]
def k0_off2 (i : grid0.Coords) : Fin 3 → Nat :=
  let arg0 : BitVec 32 := BitVec.ofNat 32 (i 0).val
  let v538 : Index := Scalar.indexCast arg0
  let c0_530 : Index := 0#32
  let c1_531 : Index := 1#32
  ![v538.toNat, 0, 1]
def k0_off3 (i : grid0.Coords) : Fin 3 → Nat :=
  let arg0 : BitVec 32 := BitVec.ofNat 32 (i 0).val
  let v540 : Index := Scalar.indexCast arg0
  let c0_532 : Index := 0#32
  let c2_533 : Index := 2#32
  ![v540.toNat, 0, 2]
def k0_off4 (i : grid0.Coords) : Fin 3 → Nat :=
  let arg0 : BitVec 32 := BitVec.ofNat 32 (i 0).val
  let v542 : Index := Scalar.indexCast arg0
  let c0_534 : Index := 0#32
  let c3_535 : Index := 3#32
  ![v542.toNat, 0, 3]
def k0_off5 (i : grid0.Coords) : Fin 3 → Nat :=
  let arg0 : BitVec 32 := BitVec.ofNat 32 (i 0).val
  let v544 : Index := Scalar.indexCast arg0
  let c1_536 : Index := 1#32
  let c0_537 : Index := 0#32
  ![v544.toNat, 1, 0]
def k0_off6 (i : grid0.Coords) : Fin 3 → Nat :=
  let arg0 : BitVec 32 := BitVec.ofNat 32 (i 0).val
  let v546 : Index := Scalar.indexCast arg0
  let c1_538 : Index := 1#32
  let c1_539 : Index := 1#32
  ![v546.toNat, 1, 1]
def k0_off7 (i : grid0.Coords) : Fin 3 → Nat :=
  let arg0 : BitVec 32 := BitVec.ofNat 32 (i 0).val
  let v548 : Index := Scalar.indexCast arg0
  let c1_540 : Index := 1#32
  let c2_541 : Index := 2#32
  ![v548.toNat, 1, 2]
def k0_off8 (i : grid0.Coords) : Fin 3 → Nat :=
  let arg0 : BitVec 32 := BitVec.ofNat 32 (i 0).val
  let v550 : Index := Scalar.indexCast arg0
  let c1_542 : Index := 1#32
  let c3_543 : Index := 3#32
  ![v550.toNat, 1, 3]
def k0_off9 (i : grid0.Coords) : Fin 3 → Nat :=
  let arg0 : BitVec 32 := BitVec.ofNat 32 (i 0).val
  let v552 : Index := Scalar.indexCast arg0
  let c2_544 : Index := 2#32
  let c0_545 : Index := 0#32
  ![v552.toNat, 2, 0]
def k0_off10 (i : grid0.Coords) : Fin 3 → Nat :=
  let arg0 : BitVec 32 := BitVec.ofNat 32 (i 0).val
  let v554 : Index := Scalar.indexCast arg0
  let c2_546 : Index := 2#32
  let c1_547 : Index := 1#32
  ![v554.toNat, 2, 1]
def k0_off11 (i : grid0.Coords) : Fin 3 → Nat :=
  let arg0 : BitVec 32 := BitVec.ofNat 32 (i 0).val
  let v556 : Index := Scalar.indexCast arg0
  let c2_548 : Index := 2#32
  let c2_549 : Index := 2#32
  ![v556.toNat, 2, 2]
def k0_off12 (i : grid0.Coords) : Fin 3 → Nat :=
  let arg0 : BitVec 32 := BitVec.ofNat 32 (i 0).val
  let v558 : Index := Scalar.indexCast arg0
  let c2_550 : Index := 2#32
  let c3_551 : Index := 3#32
  ![v558.toNat, 2, 3]
def k0_off13 (i : grid0.Coords) : Fin 3 → Nat :=
  let arg0 : BitVec 32 := BitVec.ofNat 32 (i 0).val
  let v560 : Index := Scalar.indexCast arg0
  let c3_552 : Index := 3#32
  let c0_553 : Index := 0#32
  ![v560.toNat, 3, 0]
def k0_off14 (i : grid0.Coords) : Fin 3 → Nat :=
  let arg0 : BitVec 32 := BitVec.ofNat 32 (i 0).val
  let v562 : Index := Scalar.indexCast arg0
  let c3_554 : Index := 3#32
  let c1_555 : Index := 1#32
  ![v562.toNat, 3, 1]
def k0_off15 (i : grid0.Coords) : Fin 3 → Nat :=
  let arg0 : BitVec 32 := BitVec.ofNat 32 (i 0).val
  let v564 : Index := Scalar.indexCast arg0
  let c3_556 : Index := 3#32
  let c2_557 : Index := 2#32
  ![v564.toNat, 3, 2]
def k0_off16 (i : grid0.Coords) : Fin 3 → Nat :=
  let arg0 : BitVec 32 := BitVec.ofNat 32 (i 0).val
  let v566 : Index := Scalar.indexCast arg0
  let c3_558 : Index := 3#32
  let c3_559 : Index := 3#32
  ![v566.toNat, 3, 3]
def k0_off17 (i : grid0.Coords) : Fin 3 → Nat :=
  let arg0 : BitVec 32 := BitVec.ofNat 32 (i 0).val
  let v568 : Index := Scalar.indexCast arg0
  let c4_560 : Index := 4#32
  let c0_561 : Index := 0#32
  ![v568.toNat, 4, 0]
def k0_off18 (i : grid0.Coords) : Fin 3 → Nat :=
  let arg0 : BitVec 32 := BitVec.ofNat 32 (i 0).val
  let v570 : Index := Scalar.indexCast arg0
  let c4_562 : Index := 4#32
  let c1_563 : Index := 1#32
  ![v570.toNat, 4, 1]
def k0_off19 (i : grid0.Coords) : Fin 3 → Nat :=
  let arg0 : BitVec 32 := BitVec.ofNat 32 (i 0).val
  let v572 : Index := Scalar.indexCast arg0
  let c4_564 : Index := 4#32
  let c2_565 : Index := 2#32
  ![v572.toNat, 4, 2]
def k0_off20 (i : grid0.Coords) : Fin 3 → Nat :=
  let arg0 : BitVec 32 := BitVec.ofNat 32 (i 0).val
  let v574 : Index := Scalar.indexCast arg0
  let c4_566 : Index := 4#32
  let c3_567 : Index := 3#32
  ![v574.toNat, 4, 3]
def k0_off21 (i : grid0.Coords) : Fin 3 → Nat :=
  let arg0 : BitVec 32 := BitVec.ofNat 32 (i 0).val
  let v576 : Index := Scalar.indexCast arg0
  let c5_568 : Index := 5#32
  let c0_569 : Index := 0#32
  ![v576.toNat, 5, 0]
def k0_off22 (i : grid0.Coords) : Fin 3 → Nat :=
  let arg0 : BitVec 32 := BitVec.ofNat 32 (i 0).val
  let v578 : Index := Scalar.indexCast arg0
  let c5_570 : Index := 5#32
  let c1_571 : Index := 1#32
  ![v578.toNat, 5, 1]
def k0_off23 (i : grid0.Coords) : Fin 3 → Nat :=
  let arg0 : BitVec 32 := BitVec.ofNat 32 (i 0).val
  let v580 : Index := Scalar.indexCast arg0
  let c5_572 : Index := 5#32
  let c2_573 : Index := 2#32
  ![v580.toNat, 5, 2]
def k0_off24 (i : grid0.Coords) : Fin 3 → Nat :=
  let arg0 : BitVec 32 := BitVec.ofNat 32 (i 0).val
  let v582 : Index := Scalar.indexCast arg0
  let c5_574 : Index := 5#32
  let c3_575 : Index := 3#32
  ![v582.toNat, 5, 3]
def k0_off25 (i : grid0.Coords) : Fin 3 → Nat :=
  let arg0 : BitVec 32 := BitVec.ofNat 32 (i 0).val
  let v584 : Index := Scalar.indexCast arg0
  let c6_576 : Index := 6#32
  let c0_577 : Index := 0#32
  ![v584.toNat, 6, 0]
def k0_off26 (i : grid0.Coords) : Fin 3 → Nat :=
  let arg0 : BitVec 32 := BitVec.ofNat 32 (i 0).val
  let v586 : Index := Scalar.indexCast arg0
  let c6_578 : Index := 6#32
  let c1_579 : Index := 1#32
  ![v586.toNat, 6, 1]
def k0_off27 (i : grid0.Coords) : Fin 3 → Nat :=
  let arg0 : BitVec 32 := BitVec.ofNat 32 (i 0).val
  let v588 : Index := Scalar.indexCast arg0
  let c6_580 : Index := 6#32
  let c2_581 : Index := 2#32
  ![v588.toNat, 6, 2]
def k0_off28 (i : grid0.Coords) : Fin 3 → Nat :=
  let arg0 : BitVec 32 := BitVec.ofNat 32 (i 0).val
  let v590 : Index := Scalar.indexCast arg0
  let c6_582 : Index := 6#32
  let c3_583 : Index := 3#32
  ![v590.toNat, 6, 3]
def k0_off29 (i : grid0.Coords) : Fin 3 → Nat :=
  let arg0 : BitVec 32 := BitVec.ofNat 32 (i 0).val
  let v592 : Index := Scalar.indexCast arg0
  let c7_584 : Index := 7#32
  let c0_585 : Index := 0#32
  ![v592.toNat, 7, 0]
def k0_off30 (i : grid0.Coords) : Fin 3 → Nat :=
  let arg0 : BitVec 32 := BitVec.ofNat 32 (i 0).val
  let v594 : Index := Scalar.indexCast arg0
  let c7_586 : Index := 7#32
  let c1_587 : Index := 1#32
  ![v594.toNat, 7, 1]
def k0_off31 (i : grid0.Coords) : Fin 3 → Nat :=
  let arg0 : BitVec 32 := BitVec.ofNat 32 (i 0).val
  let v596 : Index := Scalar.indexCast arg0
  let c7_588 : Index := 7#32
  let c2_589 : Index := 2#32
  ![v596.toNat, 7, 2]
def k0_off32 (i : grid0.Coords) : Fin 3 → Nat :=
  let arg0 : BitVec 32 := BitVec.ofNat 32 (i 0).val
  let v598 : Index := Scalar.indexCast arg0
  let c7_590 : Index := 7#32
  let c3_591 : Index := 3#32
  ![v598.toNat, 7, 3]
def k0_off33 (i : grid0.Coords) : Fin 3 → Nat :=
  let arg0 : BitVec 32 := BitVec.ofNat 32 (i 0).val
  let v600 : Index := Scalar.indexCast arg0
  let c8_592 : Index := 8#32
  let c0_593 : Index := 0#32
  ![v600.toNat, 8, 0]
def k0_off34 (i : grid0.Coords) : Fin 3 → Nat :=
  let arg0 : BitVec 32 := BitVec.ofNat 32 (i 0).val
  let v602 : Index := Scalar.indexCast arg0
  let c8_594 : Index := 8#32
  let c1_595 : Index := 1#32
  ![v602.toNat, 8, 1]
def k0_off35 (i : grid0.Coords) : Fin 3 → Nat :=
  let arg0 : BitVec 32 := BitVec.ofNat 32 (i 0).val
  let v604 : Index := Scalar.indexCast arg0
  let c8_596 : Index := 8#32
  let c2_597 : Index := 2#32
  ![v604.toNat, 8, 2]
def k0_off36 (i : grid0.Coords) : Fin 3 → Nat :=
  let arg0 : BitVec 32 := BitVec.ofNat 32 (i 0).val
  let v606 : Index := Scalar.indexCast arg0
  let c8_598 : Index := 8#32
  let c3_599 : Index := 3#32
  ![v606.toNat, 8, 3]
def k0_off37 (i : grid0.Coords) : Fin 3 → Nat :=
  let arg0 : BitVec 32 := BitVec.ofNat 32 (i 0).val
  let v608 : Index := Scalar.indexCast arg0
  let c9_600 : Index := 9#32
  let c0_601 : Index := 0#32
  ![v608.toNat, 9, 0]
def k0_off38 (i : grid0.Coords) : Fin 3 → Nat :=
  let arg0 : BitVec 32 := BitVec.ofNat 32 (i 0).val
  let v610 : Index := Scalar.indexCast arg0
  let c9_602 : Index := 9#32
  let c1_603 : Index := 1#32
  ![v610.toNat, 9, 1]
def k0_off39 (i : grid0.Coords) : Fin 3 → Nat :=
  let arg0 : BitVec 32 := BitVec.ofNat 32 (i 0).val
  let v612 : Index := Scalar.indexCast arg0
  let c9_604 : Index := 9#32
  let c2_605 : Index := 2#32
  ![v612.toNat, 9, 2]
def k0_off40 (i : grid0.Coords) : Fin 3 → Nat :=
  let arg0 : BitVec 32 := BitVec.ofNat 32 (i 0).val
  let v614 : Index := Scalar.indexCast arg0
  let c9_606 : Index := 9#32
  let c3_607 : Index := 3#32
  ![v614.toNat, 9, 3]
def k0_off41 (i : grid0.Coords) : Fin 3 → Nat :=
  let arg0 : BitVec 32 := BitVec.ofNat 32 (i 0).val
  let v616 : Index := Scalar.indexCast arg0
  let c10_608 : Index := 10#32
  let c0_609 : Index := 0#32
  ![v616.toNat, 10, 0]
def k0_off42 (i : grid0.Coords) : Fin 3 → Nat :=
  let arg0 : BitVec 32 := BitVec.ofNat 32 (i 0).val
  let v618 : Index := Scalar.indexCast arg0
  let c10_610 : Index := 10#32
  let c1_611 : Index := 1#32
  ![v618.toNat, 10, 1]
def k0_off43 (i : grid0.Coords) : Fin 3 → Nat :=
  let arg0 : BitVec 32 := BitVec.ofNat 32 (i 0).val
  let v620 : Index := Scalar.indexCast arg0
  let c10_612 : Index := 10#32
  let c2_613 : Index := 2#32
  ![v620.toNat, 10, 2]
def k0_off44 (i : grid0.Coords) : Fin 3 → Nat :=
  let arg0 : BitVec 32 := BitVec.ofNat 32 (i 0).val
  let v622 : Index := Scalar.indexCast arg0
  let c10_614 : Index := 10#32
  let c3_615 : Index := 3#32
  ![v622.toNat, 10, 3]
def k0_off45 (i : grid0.Coords) : Fin 3 → Nat :=
  let arg0 : BitVec 32 := BitVec.ofNat 32 (i 0).val
  let v624 : Index := Scalar.indexCast arg0
  let c11_616 : Index := 11#32
  let c0_617 : Index := 0#32
  ![v624.toNat, 11, 0]
def k0_off46 (i : grid0.Coords) : Fin 3 → Nat :=
  let arg0 : BitVec 32 := BitVec.ofNat 32 (i 0).val
  let v626 : Index := Scalar.indexCast arg0
  let c11_618 : Index := 11#32
  let c1_619 : Index := 1#32
  ![v626.toNat, 11, 1]
def k0_off47 (i : grid0.Coords) : Fin 3 → Nat :=
  let arg0 : BitVec 32 := BitVec.ofNat 32 (i 0).val
  let v628 : Index := Scalar.indexCast arg0
  let c11_620 : Index := 11#32
  let c2_621 : Index := 2#32
  ![v628.toNat, 11, 2]
def k0_off48 (i : grid0.Coords) : Fin 3 → Nat :=
  let arg0 : BitVec 32 := BitVec.ofNat 32 (i 0).val
  let v630 : Index := Scalar.indexCast arg0
  let c11_622 : Index := 11#32
  let c3_623 : Index := 3#32
  ![v630.toNat, 11, 3]
def k0_off49 (i : grid0.Coords) : Fin 3 → Nat :=
  let arg0 : BitVec 32 := BitVec.ofNat 32 (i 0).val
  let v632 : Index := Scalar.indexCast arg0
  let c12_624 : Index := 12#32
  let c0_625 : Index := 0#32
  ![v632.toNat, 12, 0]
def k0_off50 (i : grid0.Coords) : Fin 3 → Nat :=
  let arg0 : BitVec 32 := BitVec.ofNat 32 (i 0).val
  let v634 : Index := Scalar.indexCast arg0
  let c12_626 : Index := 12#32
  let c1_627 : Index := 1#32
  ![v634.toNat, 12, 1]
def k0_off51 (i : grid0.Coords) : Fin 3 → Nat :=
  let arg0 : BitVec 32 := BitVec.ofNat 32 (i 0).val
  let v636 : Index := Scalar.indexCast arg0
  let c12_628 : Index := 12#32
  let c2_629 : Index := 2#32
  ![v636.toNat, 12, 2]
def k0_off52 (i : grid0.Coords) : Fin 3 → Nat :=
  let arg0 : BitVec 32 := BitVec.ofNat 32 (i 0).val
  let v638 : Index := Scalar.indexCast arg0
  let c12_630 : Index := 12#32
  let c3_631 : Index := 3#32
  ![v638.toNat, 12, 3]
def k0_off53 (i : grid0.Coords) : Fin 3 → Nat :=
  let arg0 : BitVec 32 := BitVec.ofNat 32 (i 0).val
  let v640 : Index := Scalar.indexCast arg0
  let c13_632 : Index := 13#32
  let c0_633 : Index := 0#32
  ![v640.toNat, 13, 0]
def k0_off54 (i : grid0.Coords) : Fin 3 → Nat :=
  let arg0 : BitVec 32 := BitVec.ofNat 32 (i 0).val
  let v642 : Index := Scalar.indexCast arg0
  let c13_634 : Index := 13#32
  let c1_635 : Index := 1#32
  ![v642.toNat, 13, 1]
def k0_off55 (i : grid0.Coords) : Fin 3 → Nat :=
  let arg0 : BitVec 32 := BitVec.ofNat 32 (i 0).val
  let v644 : Index := Scalar.indexCast arg0
  let c13_636 : Index := 13#32
  let c2_637 : Index := 2#32
  ![v644.toNat, 13, 2]
def k0_off56 (i : grid0.Coords) : Fin 3 → Nat :=
  let arg0 : BitVec 32 := BitVec.ofNat 32 (i 0).val
  let v646 : Index := Scalar.indexCast arg0
  let c13_638 : Index := 13#32
  let c3_639 : Index := 3#32
  ![v646.toNat, 13, 3]
def k0_off57 (i : grid0.Coords) : Fin 3 → Nat :=
  let arg0 : BitVec 32 := BitVec.ofNat 32 (i 0).val
  let v648 : Index := Scalar.indexCast arg0
  let c14_640 : Index := 14#32
  let c0_641 : Index := 0#32
  ![v648.toNat, 14, 0]
def k0_off58 (i : grid0.Coords) : Fin 3 → Nat :=
  let arg0 : BitVec 32 := BitVec.ofNat 32 (i 0).val
  let v650 : Index := Scalar.indexCast arg0
  let c14_642 : Index := 14#32
  let c1_643 : Index := 1#32
  ![v650.toNat, 14, 1]
def k0_off59 (i : grid0.Coords) : Fin 3 → Nat :=
  let arg0 : BitVec 32 := BitVec.ofNat 32 (i 0).val
  let v652 : Index := Scalar.indexCast arg0
  let c14_644 : Index := 14#32
  let c2_645 : Index := 2#32
  ![v652.toNat, 14, 2]
def k0_off60 (i : grid0.Coords) : Fin 3 → Nat :=
  let arg0 : BitVec 32 := BitVec.ofNat 32 (i 0).val
  let v654 : Index := Scalar.indexCast arg0
  let c14_646 : Index := 14#32
  let c3_647 : Index := 3#32
  ![v654.toNat, 14, 3]
def k0_off61 (i : grid0.Coords) : Fin 3 → Nat :=
  let arg0 : BitVec 32 := BitVec.ofNat 32 (i 0).val
  let v656 : Index := Scalar.indexCast arg0
  let c15_648 : Index := 15#32
  let c0_649 : Index := 0#32
  ![v656.toNat, 15, 0]
def k0_off62 (i : grid0.Coords) : Fin 3 → Nat :=
  let arg0 : BitVec 32 := BitVec.ofNat 32 (i 0).val
  let v658 : Index := Scalar.indexCast arg0
  let c15_650 : Index := 15#32
  let c1_651 : Index := 1#32
  ![v658.toNat, 15, 1]
def k0_off63 (i : grid0.Coords) : Fin 3 → Nat :=
  let arg0 : BitVec 32 := BitVec.ofNat 32 (i 0).val
  let v660 : Index := Scalar.indexCast arg0
  let c15_652 : Index := 15#32
  let c2_653 : Index := 2#32
  ![v660.toNat, 15, 2]
def k0_off64 (i : grid0.Coords) : Fin 3 → Nat :=
  let arg0 : BitVec 32 := BitVec.ofNat 32 (i 0).val
  let v662 : Index := Scalar.indexCast arg0
  let c15_654 : Index := 15#32
  let c3_655 : Index := 3#32
  ![v662.toNat, 15, 3]
def k0_off65 (i : grid0.Coords) : Fin 3 → Nat :=
  let arg0 : BitVec 32 := BitVec.ofNat 32 (i 0).val
  let v664 : Index := Scalar.indexCast arg0
  let c16_656 : Index := 16#32
  let c0_657 : Index := 0#32
  ![v664.toNat, 16, 0]
def k0_off66 (i : grid0.Coords) : Fin 3 → Nat :=
  let arg0 : BitVec 32 := BitVec.ofNat 32 (i 0).val
  let v666 : Index := Scalar.indexCast arg0
  let c16_658 : Index := 16#32
  let c1_659 : Index := 1#32
  ![v666.toNat, 16, 1]
def k0_off67 (i : grid0.Coords) : Fin 3 → Nat :=
  let arg0 : BitVec 32 := BitVec.ofNat 32 (i 0).val
  let v668 : Index := Scalar.indexCast arg0
  let c16_660 : Index := 16#32
  let c2_661 : Index := 2#32
  ![v668.toNat, 16, 2]
def k0_off68 (i : grid0.Coords) : Fin 3 → Nat :=
  let arg0 : BitVec 32 := BitVec.ofNat 32 (i 0).val
  let v670 : Index := Scalar.indexCast arg0
  let c16_662 : Index := 16#32
  let c3_663 : Index := 3#32
  ![v670.toNat, 16, 3]
def k0_off69 (i : grid0.Coords) : Fin 3 → Nat :=
  let arg0 : BitVec 32 := BitVec.ofNat 32 (i 0).val
  let v672 : Index := Scalar.indexCast arg0
  let c17_664 : Index := 17#32
  let c0_665 : Index := 0#32
  ![v672.toNat, 17, 0]
def k0_off70 (i : grid0.Coords) : Fin 3 → Nat :=
  let arg0 : BitVec 32 := BitVec.ofNat 32 (i 0).val
  let v674 : Index := Scalar.indexCast arg0
  let c17_666 : Index := 17#32
  let c1_667 : Index := 1#32
  ![v674.toNat, 17, 1]
def k0_off71 (i : grid0.Coords) : Fin 3 → Nat :=
  let arg0 : BitVec 32 := BitVec.ofNat 32 (i 0).val
  let v676 : Index := Scalar.indexCast arg0
  let c17_668 : Index := 17#32
  let c2_669 : Index := 2#32
  ![v676.toNat, 17, 2]
def k0_off72 (i : grid0.Coords) : Fin 3 → Nat :=
  let arg0 : BitVec 32 := BitVec.ofNat 32 (i 0).val
  let v678 : Index := Scalar.indexCast arg0
  let c17_670 : Index := 17#32
  let c3_671 : Index := 3#32
  ![v678.toNat, 17, 3]
def k0_off73 (i : grid0.Coords) : Fin 3 → Nat :=
  let arg0 : BitVec 32 := BitVec.ofNat 32 (i 0).val
  let v680 : Index := Scalar.indexCast arg0
  let c18_672 : Index := 18#32
  let c0_673 : Index := 0#32
  ![v680.toNat, 18, 0]
def k0_off74 (i : grid0.Coords) : Fin 3 → Nat :=
  let arg0 : BitVec 32 := BitVec.ofNat 32 (i 0).val
  let v682 : Index := Scalar.indexCast arg0
  let c18_674 : Index := 18#32
  let c1_675 : Index := 1#32
  ![v682.toNat, 18, 1]
def k0_off75 (i : grid0.Coords) : Fin 3 → Nat :=
  let arg0 : BitVec 32 := BitVec.ofNat 32 (i 0).val
  let v684 : Index := Scalar.indexCast arg0
  let c18_676 : Index := 18#32
  let c2_677 : Index := 2#32
  ![v684.toNat, 18, 2]
def k0_off76 (i : grid0.Coords) : Fin 3 → Nat :=
  let arg0 : BitVec 32 := BitVec.ofNat 32 (i 0).val
  let v686 : Index := Scalar.indexCast arg0
  let c18_678 : Index := 18#32
  let c3_679 : Index := 3#32
  ![v686.toNat, 18, 3]
def k0_off77 (i : grid0.Coords) : Fin 3 → Nat :=
  let arg0 : BitVec 32 := BitVec.ofNat 32 (i 0).val
  let v688 : Index := Scalar.indexCast arg0
  let c19_680 : Index := 19#32
  let c0_681 : Index := 0#32
  ![v688.toNat, 19, 0]
def k0_off78 (i : grid0.Coords) : Fin 3 → Nat :=
  let arg0 : BitVec 32 := BitVec.ofNat 32 (i 0).val
  let v690 : Index := Scalar.indexCast arg0
  let c19_682 : Index := 19#32
  let c1_683 : Index := 1#32
  ![v690.toNat, 19, 1]
def k0_off79 (i : grid0.Coords) : Fin 3 → Nat :=
  let arg0 : BitVec 32 := BitVec.ofNat 32 (i 0).val
  let v692 : Index := Scalar.indexCast arg0
  let c19_684 : Index := 19#32
  let c2_685 : Index := 2#32
  ![v692.toNat, 19, 2]
def k0_off80 (i : grid0.Coords) : Fin 3 → Nat :=
  let arg0 : BitVec 32 := BitVec.ofNat 32 (i 0).val
  let v694 : Index := Scalar.indexCast arg0
  let c19_686 : Index := 19#32
  let c3_687 : Index := 3#32
  ![v694.toNat, 19, 3]
def k0_off81 (i : grid0.Coords) : Fin 3 → Nat :=
  let arg0 : BitVec 32 := BitVec.ofNat 32 (i 0).val
  let v696 : Index := Scalar.indexCast arg0
  let c20_688 : Index := 20#32
  let c0_689 : Index := 0#32
  ![v696.toNat, 20, 0]
def k0_off82 (i : grid0.Coords) : Fin 3 → Nat :=
  let arg0 : BitVec 32 := BitVec.ofNat 32 (i 0).val
  let v698 : Index := Scalar.indexCast arg0
  let c20_690 : Index := 20#32
  let c1_691 : Index := 1#32
  ![v698.toNat, 20, 1]
def k0_off83 (i : grid0.Coords) : Fin 3 → Nat :=
  let arg0 : BitVec 32 := BitVec.ofNat 32 (i 0).val
  let v700 : Index := Scalar.indexCast arg0
  let c20_692 : Index := 20#32
  let c2_693 : Index := 2#32
  ![v700.toNat, 20, 2]
def k0_off84 (i : grid0.Coords) : Fin 3 → Nat :=
  let arg0 : BitVec 32 := BitVec.ofNat 32 (i 0).val
  let v702 : Index := Scalar.indexCast arg0
  let c20_694 : Index := 20#32
  let c3_695 : Index := 3#32
  ![v702.toNat, 20, 3]
def k0_off85 (i : grid0.Coords) : Fin 3 → Nat :=
  let arg0 : BitVec 32 := BitVec.ofNat 32 (i 0).val
  let v704 : Index := Scalar.indexCast arg0
  let c21_696 : Index := 21#32
  let c0_697 : Index := 0#32
  ![v704.toNat, 21, 0]
def k0_off86 (i : grid0.Coords) : Fin 3 → Nat :=
  let arg0 : BitVec 32 := BitVec.ofNat 32 (i 0).val
  let v706 : Index := Scalar.indexCast arg0
  let c21_698 : Index := 21#32
  let c1_699 : Index := 1#32
  ![v706.toNat, 21, 1]
def k0_off87 (i : grid0.Coords) : Fin 3 → Nat :=
  let arg0 : BitVec 32 := BitVec.ofNat 32 (i 0).val
  let v708 : Index := Scalar.indexCast arg0
  let c21_700 : Index := 21#32
  let c2_701 : Index := 2#32
  ![v708.toNat, 21, 2]
def k0_off88 (i : grid0.Coords) : Fin 3 → Nat :=
  let arg0 : BitVec 32 := BitVec.ofNat 32 (i 0).val
  let v710 : Index := Scalar.indexCast arg0
  let c21_702 : Index := 21#32
  let c3_703 : Index := 3#32
  ![v710.toNat, 21, 3]
def k0_off89 (i : grid0.Coords) : Fin 3 → Nat :=
  let arg0 : BitVec 32 := BitVec.ofNat 32 (i 0).val
  let v712 : Index := Scalar.indexCast arg0
  let c22_704 : Index := 22#32
  let c0_705 : Index := 0#32
  ![v712.toNat, 22, 0]
def k0_off90 (i : grid0.Coords) : Fin 3 → Nat :=
  let arg0 : BitVec 32 := BitVec.ofNat 32 (i 0).val
  let v714 : Index := Scalar.indexCast arg0
  let c22_706 : Index := 22#32
  let c1_707 : Index := 1#32
  ![v714.toNat, 22, 1]
def k0_off91 (i : grid0.Coords) : Fin 3 → Nat :=
  let arg0 : BitVec 32 := BitVec.ofNat 32 (i 0).val
  let v716 : Index := Scalar.indexCast arg0
  let c22_708 : Index := 22#32
  let c2_709 : Index := 2#32
  ![v716.toNat, 22, 2]
def k0_off92 (i : grid0.Coords) : Fin 3 → Nat :=
  let arg0 : BitVec 32 := BitVec.ofNat 32 (i 0).val
  let v718 : Index := Scalar.indexCast arg0
  let c22_710 : Index := 22#32
  let c3_711 : Index := 3#32
  ![v718.toNat, 22, 3]
def k0_off93 (i : grid0.Coords) : Fin 3 → Nat :=
  let arg0 : BitVec 32 := BitVec.ofNat 32 (i 0).val
  let v720 : Index := Scalar.indexCast arg0
  let c23_712 : Index := 23#32
  let c0_713 : Index := 0#32
  ![v720.toNat, 23, 0]
def k0_off94 (i : grid0.Coords) : Fin 3 → Nat :=
  let arg0 : BitVec 32 := BitVec.ofNat 32 (i 0).val
  let v722 : Index := Scalar.indexCast arg0
  let c23_714 : Index := 23#32
  let c1_715 : Index := 1#32
  ![v722.toNat, 23, 1]
def k0_off95 (i : grid0.Coords) : Fin 3 → Nat :=
  let arg0 : BitVec 32 := BitVec.ofNat 32 (i 0).val
  let v724 : Index := Scalar.indexCast arg0
  let c23_716 : Index := 23#32
  let c2_717 : Index := 2#32
  ![v724.toNat, 23, 2]
def k0_off96 (i : grid0.Coords) : Fin 3 → Nat :=
  let arg0 : BitVec 32 := BitVec.ofNat 32 (i 0).val
  let v726 : Index := Scalar.indexCast arg0
  let c23_718 : Index := 23#32
  let c3_719 : Index := 3#32
  ![v726.toNat, 23, 3]
def k0_off97 (i : grid0.Coords) : Fin 3 → Nat :=
  let arg0 : BitVec 32 := BitVec.ofNat 32 (i 0).val
  let v728 : Index := Scalar.indexCast arg0
  let c24_720 : Index := 24#32
  let c0_721 : Index := 0#32
  ![v728.toNat, 24, 0]
def k0_off98 (i : grid0.Coords) : Fin 3 → Nat :=
  let arg0 : BitVec 32 := BitVec.ofNat 32 (i 0).val
  let v730 : Index := Scalar.indexCast arg0
  let c24_722 : Index := 24#32
  let c1_723 : Index := 1#32
  ![v730.toNat, 24, 1]
def k0_off99 (i : grid0.Coords) : Fin 3 → Nat :=
  let arg0 : BitVec 32 := BitVec.ofNat 32 (i 0).val
  let v732 : Index := Scalar.indexCast arg0
  let c24_724 : Index := 24#32
  let c2_725 : Index := 2#32
  ![v732.toNat, 24, 2]
def k0_off100 (i : grid0.Coords) : Fin 3 → Nat :=
  let arg0 : BitVec 32 := BitVec.ofNat 32 (i 0).val
  let v734 : Index := Scalar.indexCast arg0
  let c24_726 : Index := 24#32
  let c3_727 : Index := 3#32
  ![v734.toNat, 24, 3]
def k0_off101 (i : grid0.Coords) : Fin 3 → Nat :=
  let arg0 : BitVec 32 := BitVec.ofNat 32 (i 0).val
  let v736 : Index := Scalar.indexCast arg0
  let c25_728 : Index := 25#32
  let c0_729 : Index := 0#32
  ![v736.toNat, 25, 0]
def k0_off102 (i : grid0.Coords) : Fin 3 → Nat :=
  let arg0 : BitVec 32 := BitVec.ofNat 32 (i 0).val
  let v738 : Index := Scalar.indexCast arg0
  let c25_730 : Index := 25#32
  let c1_731 : Index := 1#32
  ![v738.toNat, 25, 1]
def k0_off103 (i : grid0.Coords) : Fin 3 → Nat :=
  let arg0 : BitVec 32 := BitVec.ofNat 32 (i 0).val
  let v740 : Index := Scalar.indexCast arg0
  let c25_732 : Index := 25#32
  let c2_733 : Index := 2#32
  ![v740.toNat, 25, 2]
def k0_off104 (i : grid0.Coords) : Fin 3 → Nat :=
  let arg0 : BitVec 32 := BitVec.ofNat 32 (i 0).val
  let v742 : Index := Scalar.indexCast arg0
  let c25_734 : Index := 25#32
  let c3_735 : Index := 3#32
  ![v742.toNat, 25, 3]
def k0_off105 (i : grid0.Coords) : Fin 3 → Nat :=
  let arg0 : BitVec 32 := BitVec.ofNat 32 (i 0).val
  let v744 : Index := Scalar.indexCast arg0
  let c26_736 : Index := 26#32
  let c0_737 : Index := 0#32
  ![v744.toNat, 26, 0]
def k0_off106 (i : grid0.Coords) : Fin 3 → Nat :=
  let arg0 : BitVec 32 := BitVec.ofNat 32 (i 0).val
  let v746 : Index := Scalar.indexCast arg0
  let c26_738 : Index := 26#32
  let c1_739 : Index := 1#32
  ![v746.toNat, 26, 1]
def k0_off107 (i : grid0.Coords) : Fin 3 → Nat :=
  let arg0 : BitVec 32 := BitVec.ofNat 32 (i 0).val
  let v748 : Index := Scalar.indexCast arg0
  let c26_740 : Index := 26#32
  let c2_741 : Index := 2#32
  ![v748.toNat, 26, 2]
def k0_off108 (i : grid0.Coords) : Fin 3 → Nat :=
  let arg0 : BitVec 32 := BitVec.ofNat 32 (i 0).val
  let v750 : Index := Scalar.indexCast arg0
  let c26_742 : Index := 26#32
  let c3_743 : Index := 3#32
  ![v750.toNat, 26, 3]
def k0_off109 (i : grid0.Coords) : Fin 3 → Nat :=
  let arg0 : BitVec 32 := BitVec.ofNat 32 (i 0).val
  let v752 : Index := Scalar.indexCast arg0
  let c27_744 : Index := 27#32
  let c0_745 : Index := 0#32
  ![v752.toNat, 27, 0]
def k0_off110 (i : grid0.Coords) : Fin 3 → Nat :=
  let arg0 : BitVec 32 := BitVec.ofNat 32 (i 0).val
  let v754 : Index := Scalar.indexCast arg0
  let c27_746 : Index := 27#32
  let c1_747 : Index := 1#32
  ![v754.toNat, 27, 1]
def k0_off111 (i : grid0.Coords) : Fin 3 → Nat :=
  let arg0 : BitVec 32 := BitVec.ofNat 32 (i 0).val
  let v756 : Index := Scalar.indexCast arg0
  let c27_748 : Index := 27#32
  let c2_749 : Index := 2#32
  ![v756.toNat, 27, 2]
def k0_off112 (i : grid0.Coords) : Fin 3 → Nat :=
  let arg0 : BitVec 32 := BitVec.ofNat 32 (i 0).val
  let v758 : Index := Scalar.indexCast arg0
  let c27_750 : Index := 27#32
  let c3_751 : Index := 3#32
  ![v758.toNat, 27, 3]
def k0_off113 (i : grid0.Coords) : Fin 3 → Nat :=
  let arg0 : BitVec 32 := BitVec.ofNat 32 (i 0).val
  let v760 : Index := Scalar.indexCast arg0
  let c28_752 : Index := 28#32
  let c0_753 : Index := 0#32
  ![v760.toNat, 28, 0]
def k0_off114 (i : grid0.Coords) : Fin 3 → Nat :=
  let arg0 : BitVec 32 := BitVec.ofNat 32 (i 0).val
  let v762 : Index := Scalar.indexCast arg0
  let c28_754 : Index := 28#32
  let c1_755 : Index := 1#32
  ![v762.toNat, 28, 1]
def k0_off115 (i : grid0.Coords) : Fin 3 → Nat :=
  let arg0 : BitVec 32 := BitVec.ofNat 32 (i 0).val
  let v764 : Index := Scalar.indexCast arg0
  let c28_756 : Index := 28#32
  let c2_757 : Index := 2#32
  ![v764.toNat, 28, 2]
def k0_off116 (i : grid0.Coords) : Fin 3 → Nat :=
  let arg0 : BitVec 32 := BitVec.ofNat 32 (i 0).val
  let v766 : Index := Scalar.indexCast arg0
  let c28_758 : Index := 28#32
  let c3_759 : Index := 3#32
  ![v766.toNat, 28, 3]
def k0_off117 (i : grid0.Coords) : Fin 3 → Nat :=
  let arg0 : BitVec 32 := BitVec.ofNat 32 (i 0).val
  let v768 : Index := Scalar.indexCast arg0
  let c29_760 : Index := 29#32
  let c0_761 : Index := 0#32
  ![v768.toNat, 29, 0]
def k0_off118 (i : grid0.Coords) : Fin 3 → Nat :=
  let arg0 : BitVec 32 := BitVec.ofNat 32 (i 0).val
  let v770 : Index := Scalar.indexCast arg0
  let c29_762 : Index := 29#32
  let c1_763 : Index := 1#32
  ![v770.toNat, 29, 1]
def k0_off119 (i : grid0.Coords) : Fin 3 → Nat :=
  let arg0 : BitVec 32 := BitVec.ofNat 32 (i 0).val
  let v772 : Index := Scalar.indexCast arg0
  let c29_764 : Index := 29#32
  let c2_765 : Index := 2#32
  ![v772.toNat, 29, 2]
def k0_off120 (i : grid0.Coords) : Fin 3 → Nat :=
  let arg0 : BitVec 32 := BitVec.ofNat 32 (i 0).val
  let v774 : Index := Scalar.indexCast arg0
  let c29_766 : Index := 29#32
  let c3_767 : Index := 3#32
  ![v774.toNat, 29, 3]
def k0_off121 (i : grid0.Coords) : Fin 3 → Nat :=
  let arg0 : BitVec 32 := BitVec.ofNat 32 (i 0).val
  let v776 : Index := Scalar.indexCast arg0
  let c30_768 : Index := 30#32
  let c0_769 : Index := 0#32
  ![v776.toNat, 30, 0]
def k0_off122 (i : grid0.Coords) : Fin 3 → Nat :=
  let arg0 : BitVec 32 := BitVec.ofNat 32 (i 0).val
  let v778 : Index := Scalar.indexCast arg0
  let c30_770 : Index := 30#32
  let c1_771 : Index := 1#32
  ![v778.toNat, 30, 1]
def k0_off123 (i : grid0.Coords) : Fin 3 → Nat :=
  let arg0 : BitVec 32 := BitVec.ofNat 32 (i 0).val
  let v780 : Index := Scalar.indexCast arg0
  let c30_772 : Index := 30#32
  let c2_773 : Index := 2#32
  ![v780.toNat, 30, 2]
def k0_off124 (i : grid0.Coords) : Fin 3 → Nat :=
  let arg0 : BitVec 32 := BitVec.ofNat 32 (i 0).val
  let v782 : Index := Scalar.indexCast arg0
  let c30_774 : Index := 30#32
  let c3_775 : Index := 3#32
  ![v782.toNat, 30, 3]
def k0_off125 (i : grid0.Coords) : Fin 3 → Nat :=
  let arg0 : BitVec 32 := BitVec.ofNat 32 (i 0).val
  let v784 : Index := Scalar.indexCast arg0
  let c31_776 : Index := 31#32
  let c0_777 : Index := 0#32
  ![v784.toNat, 31, 0]
def k0_off126 (i : grid0.Coords) : Fin 3 → Nat :=
  let arg0 : BitVec 32 := BitVec.ofNat 32 (i 0).val
  let v786 : Index := Scalar.indexCast arg0
  let c31_778 : Index := 31#32
  let c1_779 : Index := 1#32
  ![v786.toNat, 31, 1]
def k0_off127 (i : grid0.Coords) : Fin 3 → Nat :=
  let arg0 : BitVec 32 := BitVec.ofNat 32 (i 0).val
  let v788 : Index := Scalar.indexCast arg0
  let c31_780 : Index := 31#32
  let c2_781 : Index := 2#32
  ![v788.toNat, 31, 2]
def k0_off128 (i : grid0.Coords) : Fin 3 → Nat :=
  let arg0 : BitVec 32 := BitVec.ofNat 32 (i 0).val
  let v790 : Index := Scalar.indexCast arg0
  let c31_782 : Index := 31#32
  let c3_783 : Index := 3#32
  ![v790.toNat, 31, 3]
def k0_off129 (v537 : BitVec 32) : Fin 3 → Nat :=
  let c0_787 : Index := 0#32
  let c64_i32 : BitVec 32 := 64#32
  let v794 : BitVec 32 := Scalar.muli v537 c64_i32
  let v795 : Index := Scalar.indexCast v794
  let c0_788 : Index := 0#32
  ![0, v795.toNat, 0]

def k0_off130 (v539 : BitVec 32) : Fin 3 → Nat :=
  let c0_795 : Index := 0#32
  let c64_i32_794 : BitVec 32 := 64#32
  let v805 : BitVec 32 := Scalar.muli v539 c64_i32_794
  let v806 : Index := Scalar.indexCast v805
  let c0_796 : Index := 0#32
  ![0, v806.toNat, 0]

def k0_off131 (v541 : BitVec 32) : Fin 3 → Nat :=
  let c0_803 : Index := 0#32
  let c64_i32_802 : BitVec 32 := 64#32
  let v816 : BitVec 32 := Scalar.muli v541 c64_i32_802
  let v817 : Index := Scalar.indexCast v816
  let c0_804 : Index := 0#32
  ![0, v817.toNat, 0]

def k0_off132 (v543 : BitVec 32) : Fin 3 → Nat :=
  let c0_811 : Index := 0#32
  let c64_i32_810 : BitVec 32 := 64#32
  let v827 : BitVec 32 := Scalar.muli v543 c64_i32_810
  let v828 : Index := Scalar.indexCast v827
  let c0_812 : Index := 0#32
  ![0, v828.toNat, 0]

def k0_off133 (v545 : BitVec 32) : Fin 3 → Nat :=
  let c0_822 : Index := 0#32
  let c64_i32_821 : BitVec 32 := 64#32
  let v840 : BitVec 32 := Scalar.muli v545 c64_i32_821
  let v841 : Index := Scalar.indexCast v840
  let c0_823 : Index := 0#32
  ![0, v841.toNat, 0]

def k0_off134 (v547 : BitVec 32) : Fin 3 → Nat :=
  let c0_830 : Index := 0#32
  let c64_i32_829 : BitVec 32 := 64#32
  let v851 : BitVec 32 := Scalar.muli v547 c64_i32_829
  let v852 : Index := Scalar.indexCast v851
  let c0_831 : Index := 0#32
  ![0, v852.toNat, 0]

def k0_off135 (v549 : BitVec 32) : Fin 3 → Nat :=
  let c0_838 : Index := 0#32
  let c64_i32_837 : BitVec 32 := 64#32
  let v862 : BitVec 32 := Scalar.muli v549 c64_i32_837
  let v863 : Index := Scalar.indexCast v862
  let c0_839 : Index := 0#32
  ![0, v863.toNat, 0]

def k0_off136 (v551 : BitVec 32) : Fin 3 → Nat :=
  let c0_846 : Index := 0#32
  let c64_i32_845 : BitVec 32 := 64#32
  let v873 : BitVec 32 := Scalar.muli v551 c64_i32_845
  let v874 : Index := Scalar.indexCast v873
  let c0_847 : Index := 0#32
  ![0, v874.toNat, 0]

def k0_off137 (v553 : BitVec 32) : Fin 3 → Nat :=
  let c0_857 : Index := 0#32
  let c64_i32_856 : BitVec 32 := 64#32
  let v886 : BitVec 32 := Scalar.muli v553 c64_i32_856
  let v887 : Index := Scalar.indexCast v886
  let c0_858 : Index := 0#32
  ![0, v887.toNat, 0]

def k0_off138 (v555 : BitVec 32) : Fin 3 → Nat :=
  let c0_865 : Index := 0#32
  let c64_i32_864 : BitVec 32 := 64#32
  let v897 : BitVec 32 := Scalar.muli v555 c64_i32_864
  let v898 : Index := Scalar.indexCast v897
  let c0_866 : Index := 0#32
  ![0, v898.toNat, 0]

def k0_off139 (v557 : BitVec 32) : Fin 3 → Nat :=
  let c0_873 : Index := 0#32
  let c64_i32_872 : BitVec 32 := 64#32
  let v908 : BitVec 32 := Scalar.muli v557 c64_i32_872
  let v909 : Index := Scalar.indexCast v908
  let c0_874 : Index := 0#32
  ![0, v909.toNat, 0]

def k0_off140 (v559 : BitVec 32) : Fin 3 → Nat :=
  let c0_881 : Index := 0#32
  let c64_i32_880 : BitVec 32 := 64#32
  let v919 : BitVec 32 := Scalar.muli v559 c64_i32_880
  let v920 : Index := Scalar.indexCast v919
  let c0_882 : Index := 0#32
  ![0, v920.toNat, 0]

def k0_off141 (v561 : BitVec 32) : Fin 3 → Nat :=
  let c0_892 : Index := 0#32
  let c64_i32_891 : BitVec 32 := 64#32
  let v932 : BitVec 32 := Scalar.muli v561 c64_i32_891
  let v933 : Index := Scalar.indexCast v932
  let c0_893 : Index := 0#32
  ![0, v933.toNat, 0]

def k0_off142 (v563 : BitVec 32) : Fin 3 → Nat :=
  let c0_900 : Index := 0#32
  let c64_i32_899 : BitVec 32 := 64#32
  let v943 : BitVec 32 := Scalar.muli v563 c64_i32_899
  let v944 : Index := Scalar.indexCast v943
  let c0_901 : Index := 0#32
  ![0, v944.toNat, 0]

def k0_off143 (v565 : BitVec 32) : Fin 3 → Nat :=
  let c0_908 : Index := 0#32
  let c64_i32_907 : BitVec 32 := 64#32
  let v954 : BitVec 32 := Scalar.muli v565 c64_i32_907
  let v955 : Index := Scalar.indexCast v954
  let c0_909 : Index := 0#32
  ![0, v955.toNat, 0]

def k0_off144 (v567 : BitVec 32) : Fin 3 → Nat :=
  let c0_916 : Index := 0#32
  let c64_i32_915 : BitVec 32 := 64#32
  let v965 : BitVec 32 := Scalar.muli v567 c64_i32_915
  let v966 : Index := Scalar.indexCast v965
  let c0_917 : Index := 0#32
  ![0, v966.toNat, 0]

def k0_off145 (v569 : BitVec 32) : Fin 3 → Nat :=
  let c0_927 : Index := 0#32
  let c64_i32_926 : BitVec 32 := 64#32
  let v978 : BitVec 32 := Scalar.muli v569 c64_i32_926
  let v979 : Index := Scalar.indexCast v978
  let c0_928 : Index := 0#32
  ![0, v979.toNat, 0]

def k0_off146 (v571 : BitVec 32) : Fin 3 → Nat :=
  let c0_935 : Index := 0#32
  let c64_i32_934 : BitVec 32 := 64#32
  let v989 : BitVec 32 := Scalar.muli v571 c64_i32_934
  let v990 : Index := Scalar.indexCast v989
  let c0_936 : Index := 0#32
  ![0, v990.toNat, 0]

def k0_off147 (v573 : BitVec 32) : Fin 3 → Nat :=
  let c0_943 : Index := 0#32
  let c64_i32_942 : BitVec 32 := 64#32
  let v1000 : BitVec 32 := Scalar.muli v573 c64_i32_942
  let v1001 : Index := Scalar.indexCast v1000
  let c0_944 : Index := 0#32
  ![0, v1001.toNat, 0]

def k0_off148 (v575 : BitVec 32) : Fin 3 → Nat :=
  let c0_951 : Index := 0#32
  let c64_i32_950 : BitVec 32 := 64#32
  let v1011 : BitVec 32 := Scalar.muli v575 c64_i32_950
  let v1012 : Index := Scalar.indexCast v1011
  let c0_952 : Index := 0#32
  ![0, v1012.toNat, 0]

def k0_off149 (v577 : BitVec 32) : Fin 3 → Nat :=
  let c0_962 : Index := 0#32
  let c64_i32_961 : BitVec 32 := 64#32
  let v1024 : BitVec 32 := Scalar.muli v577 c64_i32_961
  let v1025 : Index := Scalar.indexCast v1024
  let c0_963 : Index := 0#32
  ![0, v1025.toNat, 0]

def k0_off150 (v579 : BitVec 32) : Fin 3 → Nat :=
  let c0_970 : Index := 0#32
  let c64_i32_969 : BitVec 32 := 64#32
  let v1035 : BitVec 32 := Scalar.muli v579 c64_i32_969
  let v1036 : Index := Scalar.indexCast v1035
  let c0_971 : Index := 0#32
  ![0, v1036.toNat, 0]

def k0_off151 (v581 : BitVec 32) : Fin 3 → Nat :=
  let c0_978 : Index := 0#32
  let c64_i32_977 : BitVec 32 := 64#32
  let v1046 : BitVec 32 := Scalar.muli v581 c64_i32_977
  let v1047 : Index := Scalar.indexCast v1046
  let c0_979 : Index := 0#32
  ![0, v1047.toNat, 0]

def k0_off152 (v583 : BitVec 32) : Fin 3 → Nat :=
  let c0_986 : Index := 0#32
  let c64_i32_985 : BitVec 32 := 64#32
  let v1057 : BitVec 32 := Scalar.muli v583 c64_i32_985
  let v1058 : Index := Scalar.indexCast v1057
  let c0_987 : Index := 0#32
  ![0, v1058.toNat, 0]

def k0_off153 (v585 : BitVec 32) : Fin 3 → Nat :=
  let c0_997 : Index := 0#32
  let c64_i32_996 : BitVec 32 := 64#32
  let v1070 : BitVec 32 := Scalar.muli v585 c64_i32_996
  let v1071 : Index := Scalar.indexCast v1070
  let c0_998 : Index := 0#32
  ![0, v1071.toNat, 0]

def k0_off154 (v587 : BitVec 32) : Fin 3 → Nat :=
  let c0_1005 : Index := 0#32
  let c64_i32_1004 : BitVec 32 := 64#32
  let v1081 : BitVec 32 := Scalar.muli v587 c64_i32_1004
  let v1082 : Index := Scalar.indexCast v1081
  let c0_1006 : Index := 0#32
  ![0, v1082.toNat, 0]

def k0_off155 (v589 : BitVec 32) : Fin 3 → Nat :=
  let c0_1013 : Index := 0#32
  let c64_i32_1012 : BitVec 32 := 64#32
  let v1092 : BitVec 32 := Scalar.muli v589 c64_i32_1012
  let v1093 : Index := Scalar.indexCast v1092
  let c0_1014 : Index := 0#32
  ![0, v1093.toNat, 0]

def k0_off156 (v591 : BitVec 32) : Fin 3 → Nat :=
  let c0_1021 : Index := 0#32
  let c64_i32_1020 : BitVec 32 := 64#32
  let v1103 : BitVec 32 := Scalar.muli v591 c64_i32_1020
  let v1104 : Index := Scalar.indexCast v1103
  let c0_1022 : Index := 0#32
  ![0, v1104.toNat, 0]

def k0_off157 (v593 : BitVec 32) : Fin 3 → Nat :=
  let c0_1032 : Index := 0#32
  let c64_i32_1031 : BitVec 32 := 64#32
  let v1116 : BitVec 32 := Scalar.muli v593 c64_i32_1031
  let v1117 : Index := Scalar.indexCast v1116
  let c0_1033 : Index := 0#32
  ![0, v1117.toNat, 0]

def k0_off158 (v595 : BitVec 32) : Fin 3 → Nat :=
  let c0_1040 : Index := 0#32
  let c64_i32_1039 : BitVec 32 := 64#32
  let v1127 : BitVec 32 := Scalar.muli v595 c64_i32_1039
  let v1128 : Index := Scalar.indexCast v1127
  let c0_1041 : Index := 0#32
  ![0, v1128.toNat, 0]

def k0_off159 (v597 : BitVec 32) : Fin 3 → Nat :=
  let c0_1048 : Index := 0#32
  let c64_i32_1047 : BitVec 32 := 64#32
  let v1138 : BitVec 32 := Scalar.muli v597 c64_i32_1047
  let v1139 : Index := Scalar.indexCast v1138
  let c0_1049 : Index := 0#32
  ![0, v1139.toNat, 0]

def k0_off160 (v599 : BitVec 32) : Fin 3 → Nat :=
  let c0_1056 : Index := 0#32
  let c64_i32_1055 : BitVec 32 := 64#32
  let v1149 : BitVec 32 := Scalar.muli v599 c64_i32_1055
  let v1150 : Index := Scalar.indexCast v1149
  let c0_1057 : Index := 0#32
  ![0, v1150.toNat, 0]

def k0_off161 (v601 : BitVec 32) : Fin 3 → Nat :=
  let c0_1067 : Index := 0#32
  let c64_i32_1066 : BitVec 32 := 64#32
  let v1162 : BitVec 32 := Scalar.muli v601 c64_i32_1066
  let v1163 : Index := Scalar.indexCast v1162
  let c0_1068 : Index := 0#32
  ![0, v1163.toNat, 0]

def k0_off162 (v603 : BitVec 32) : Fin 3 → Nat :=
  let c0_1075 : Index := 0#32
  let c64_i32_1074 : BitVec 32 := 64#32
  let v1173 : BitVec 32 := Scalar.muli v603 c64_i32_1074
  let v1174 : Index := Scalar.indexCast v1173
  let c0_1076 : Index := 0#32
  ![0, v1174.toNat, 0]

def k0_off163 (v605 : BitVec 32) : Fin 3 → Nat :=
  let c0_1083 : Index := 0#32
  let c64_i32_1082 : BitVec 32 := 64#32
  let v1184 : BitVec 32 := Scalar.muli v605 c64_i32_1082
  let v1185 : Index := Scalar.indexCast v1184
  let c0_1084 : Index := 0#32
  ![0, v1185.toNat, 0]

def k0_off164 (v607 : BitVec 32) : Fin 3 → Nat :=
  let c0_1091 : Index := 0#32
  let c64_i32_1090 : BitVec 32 := 64#32
  let v1195 : BitVec 32 := Scalar.muli v607 c64_i32_1090
  let v1196 : Index := Scalar.indexCast v1195
  let c0_1092 : Index := 0#32
  ![0, v1196.toNat, 0]

def k0_off165 (v609 : BitVec 32) : Fin 3 → Nat :=
  let c0_1102 : Index := 0#32
  let c64_i32_1101 : BitVec 32 := 64#32
  let v1208 : BitVec 32 := Scalar.muli v609 c64_i32_1101
  let v1209 : Index := Scalar.indexCast v1208
  let c0_1103 : Index := 0#32
  ![0, v1209.toNat, 0]

def k0_off166 (v611 : BitVec 32) : Fin 3 → Nat :=
  let c0_1110 : Index := 0#32
  let c64_i32_1109 : BitVec 32 := 64#32
  let v1219 : BitVec 32 := Scalar.muli v611 c64_i32_1109
  let v1220 : Index := Scalar.indexCast v1219
  let c0_1111 : Index := 0#32
  ![0, v1220.toNat, 0]

def k0_off167 (v613 : BitVec 32) : Fin 3 → Nat :=
  let c0_1118 : Index := 0#32
  let c64_i32_1117 : BitVec 32 := 64#32
  let v1230 : BitVec 32 := Scalar.muli v613 c64_i32_1117
  let v1231 : Index := Scalar.indexCast v1230
  let c0_1119 : Index := 0#32
  ![0, v1231.toNat, 0]

def k0_off168 (v615 : BitVec 32) : Fin 3 → Nat :=
  let c0_1126 : Index := 0#32
  let c64_i32_1125 : BitVec 32 := 64#32
  let v1241 : BitVec 32 := Scalar.muli v615 c64_i32_1125
  let v1242 : Index := Scalar.indexCast v1241
  let c0_1127 : Index := 0#32
  ![0, v1242.toNat, 0]

def k0_off169 (v617 : BitVec 32) : Fin 3 → Nat :=
  let c0_1137 : Index := 0#32
  let c64_i32_1136 : BitVec 32 := 64#32
  let v1254 : BitVec 32 := Scalar.muli v617 c64_i32_1136
  let v1255 : Index := Scalar.indexCast v1254
  let c0_1138 : Index := 0#32
  ![0, v1255.toNat, 0]

def k0_off170 (v619 : BitVec 32) : Fin 3 → Nat :=
  let c0_1145 : Index := 0#32
  let c64_i32_1144 : BitVec 32 := 64#32
  let v1265 : BitVec 32 := Scalar.muli v619 c64_i32_1144
  let v1266 : Index := Scalar.indexCast v1265
  let c0_1146 : Index := 0#32
  ![0, v1266.toNat, 0]

def k0_off171 (v621 : BitVec 32) : Fin 3 → Nat :=
  let c0_1153 : Index := 0#32
  let c64_i32_1152 : BitVec 32 := 64#32
  let v1276 : BitVec 32 := Scalar.muli v621 c64_i32_1152
  let v1277 : Index := Scalar.indexCast v1276
  let c0_1154 : Index := 0#32
  ![0, v1277.toNat, 0]

def k0_off172 (v623 : BitVec 32) : Fin 3 → Nat :=
  let c0_1161 : Index := 0#32
  let c64_i32_1160 : BitVec 32 := 64#32
  let v1287 : BitVec 32 := Scalar.muli v623 c64_i32_1160
  let v1288 : Index := Scalar.indexCast v1287
  let c0_1162 : Index := 0#32
  ![0, v1288.toNat, 0]

def k0_off173 (v625 : BitVec 32) : Fin 3 → Nat :=
  let c0_1172 : Index := 0#32
  let c64_i32_1171 : BitVec 32 := 64#32
  let v1300 : BitVec 32 := Scalar.muli v625 c64_i32_1171
  let v1301 : Index := Scalar.indexCast v1300
  let c0_1173 : Index := 0#32
  ![0, v1301.toNat, 0]

def k0_off174 (v627 : BitVec 32) : Fin 3 → Nat :=
  let c0_1180 : Index := 0#32
  let c64_i32_1179 : BitVec 32 := 64#32
  let v1311 : BitVec 32 := Scalar.muli v627 c64_i32_1179
  let v1312 : Index := Scalar.indexCast v1311
  let c0_1181 : Index := 0#32
  ![0, v1312.toNat, 0]

def k0_off175 (v629 : BitVec 32) : Fin 3 → Nat :=
  let c0_1188 : Index := 0#32
  let c64_i32_1187 : BitVec 32 := 64#32
  let v1322 : BitVec 32 := Scalar.muli v629 c64_i32_1187
  let v1323 : Index := Scalar.indexCast v1322
  let c0_1189 : Index := 0#32
  ![0, v1323.toNat, 0]

def k0_off176 (v631 : BitVec 32) : Fin 3 → Nat :=
  let c0_1196 : Index := 0#32
  let c64_i32_1195 : BitVec 32 := 64#32
  let v1333 : BitVec 32 := Scalar.muli v631 c64_i32_1195
  let v1334 : Index := Scalar.indexCast v1333
  let c0_1197 : Index := 0#32
  ![0, v1334.toNat, 0]

def k0_off177 (v633 : BitVec 32) : Fin 3 → Nat :=
  let c0_1207 : Index := 0#32
  let c64_i32_1206 : BitVec 32 := 64#32
  let v1346 : BitVec 32 := Scalar.muli v633 c64_i32_1206
  let v1347 : Index := Scalar.indexCast v1346
  let c0_1208 : Index := 0#32
  ![0, v1347.toNat, 0]

def k0_off178 (v635 : BitVec 32) : Fin 3 → Nat :=
  let c0_1215 : Index := 0#32
  let c64_i32_1214 : BitVec 32 := 64#32
  let v1357 : BitVec 32 := Scalar.muli v635 c64_i32_1214
  let v1358 : Index := Scalar.indexCast v1357
  let c0_1216 : Index := 0#32
  ![0, v1358.toNat, 0]

def k0_off179 (v637 : BitVec 32) : Fin 3 → Nat :=
  let c0_1223 : Index := 0#32
  let c64_i32_1222 : BitVec 32 := 64#32
  let v1368 : BitVec 32 := Scalar.muli v637 c64_i32_1222
  let v1369 : Index := Scalar.indexCast v1368
  let c0_1224 : Index := 0#32
  ![0, v1369.toNat, 0]

def k0_off180 (v639 : BitVec 32) : Fin 3 → Nat :=
  let c0_1231 : Index := 0#32
  let c64_i32_1230 : BitVec 32 := 64#32
  let v1379 : BitVec 32 := Scalar.muli v639 c64_i32_1230
  let v1380 : Index := Scalar.indexCast v1379
  let c0_1232 : Index := 0#32
  ![0, v1380.toNat, 0]

def k0_off181 (v641 : BitVec 32) : Fin 3 → Nat :=
  let c0_1242 : Index := 0#32
  let c64_i32_1241 : BitVec 32 := 64#32
  let v1392 : BitVec 32 := Scalar.muli v641 c64_i32_1241
  let v1393 : Index := Scalar.indexCast v1392
  let c0_1243 : Index := 0#32
  ![0, v1393.toNat, 0]

def k0_off182 (v643 : BitVec 32) : Fin 3 → Nat :=
  let c0_1250 : Index := 0#32
  let c64_i32_1249 : BitVec 32 := 64#32
  let v1403 : BitVec 32 := Scalar.muli v643 c64_i32_1249
  let v1404 : Index := Scalar.indexCast v1403
  let c0_1251 : Index := 0#32
  ![0, v1404.toNat, 0]

def k0_off183 (v645 : BitVec 32) : Fin 3 → Nat :=
  let c0_1258 : Index := 0#32
  let c64_i32_1257 : BitVec 32 := 64#32
  let v1414 : BitVec 32 := Scalar.muli v645 c64_i32_1257
  let v1415 : Index := Scalar.indexCast v1414
  let c0_1259 : Index := 0#32
  ![0, v1415.toNat, 0]

def k0_off184 (v647 : BitVec 32) : Fin 3 → Nat :=
  let c0_1266 : Index := 0#32
  let c64_i32_1265 : BitVec 32 := 64#32
  let v1425 : BitVec 32 := Scalar.muli v647 c64_i32_1265
  let v1426 : Index := Scalar.indexCast v1425
  let c0_1267 : Index := 0#32
  ![0, v1426.toNat, 0]

def k0_off185 (v649 : BitVec 32) : Fin 3 → Nat :=
  let c0_1277 : Index := 0#32
  let c64_i32_1276 : BitVec 32 := 64#32
  let v1438 : BitVec 32 := Scalar.muli v649 c64_i32_1276
  let v1439 : Index := Scalar.indexCast v1438
  let c0_1278 : Index := 0#32
  ![0, v1439.toNat, 0]

def k0_off186 (v651 : BitVec 32) : Fin 3 → Nat :=
  let c0_1285 : Index := 0#32
  let c64_i32_1284 : BitVec 32 := 64#32
  let v1449 : BitVec 32 := Scalar.muli v651 c64_i32_1284
  let v1450 : Index := Scalar.indexCast v1449
  let c0_1286 : Index := 0#32
  ![0, v1450.toNat, 0]

def k0_off187 (v653 : BitVec 32) : Fin 3 → Nat :=
  let c0_1293 : Index := 0#32
  let c64_i32_1292 : BitVec 32 := 64#32
  let v1460 : BitVec 32 := Scalar.muli v653 c64_i32_1292
  let v1461 : Index := Scalar.indexCast v1460
  let c0_1294 : Index := 0#32
  ![0, v1461.toNat, 0]

def k0_off188 (v655 : BitVec 32) : Fin 3 → Nat :=
  let c0_1301 : Index := 0#32
  let c64_i32_1300 : BitVec 32 := 64#32
  let v1471 : BitVec 32 := Scalar.muli v655 c64_i32_1300
  let v1472 : Index := Scalar.indexCast v1471
  let c0_1302 : Index := 0#32
  ![0, v1472.toNat, 0]

def k0_off189 (v657 : BitVec 32) : Fin 3 → Nat :=
  let c0_1312 : Index := 0#32
  let c64_i32_1311 : BitVec 32 := 64#32
  let v1484 : BitVec 32 := Scalar.muli v657 c64_i32_1311
  let v1485 : Index := Scalar.indexCast v1484
  let c0_1313 : Index := 0#32
  ![0, v1485.toNat, 0]

def k0_off190 (v659 : BitVec 32) : Fin 3 → Nat :=
  let c0_1320 : Index := 0#32
  let c64_i32_1319 : BitVec 32 := 64#32
  let v1495 : BitVec 32 := Scalar.muli v659 c64_i32_1319
  let v1496 : Index := Scalar.indexCast v1495
  let c0_1321 : Index := 0#32
  ![0, v1496.toNat, 0]

def k0_off191 (v661 : BitVec 32) : Fin 3 → Nat :=
  let c0_1328 : Index := 0#32
  let c64_i32_1327 : BitVec 32 := 64#32
  let v1506 : BitVec 32 := Scalar.muli v661 c64_i32_1327
  let v1507 : Index := Scalar.indexCast v1506
  let c0_1329 : Index := 0#32
  ![0, v1507.toNat, 0]

def k0_off192 (v663 : BitVec 32) : Fin 3 → Nat :=
  let c0_1336 : Index := 0#32
  let c64_i32_1335 : BitVec 32 := 64#32
  let v1517 : BitVec 32 := Scalar.muli v663 c64_i32_1335
  let v1518 : Index := Scalar.indexCast v1517
  let c0_1337 : Index := 0#32
  ![0, v1518.toNat, 0]

def k0_off193 (v665 : BitVec 32) : Fin 3 → Nat :=
  let c0_1347 : Index := 0#32
  let c64_i32_1346 : BitVec 32 := 64#32
  let v1530 : BitVec 32 := Scalar.muli v665 c64_i32_1346
  let v1531 : Index := Scalar.indexCast v1530
  let c0_1348 : Index := 0#32
  ![0, v1531.toNat, 0]

def k0_off194 (v667 : BitVec 32) : Fin 3 → Nat :=
  let c0_1355 : Index := 0#32
  let c64_i32_1354 : BitVec 32 := 64#32
  let v1541 : BitVec 32 := Scalar.muli v667 c64_i32_1354
  let v1542 : Index := Scalar.indexCast v1541
  let c0_1356 : Index := 0#32
  ![0, v1542.toNat, 0]

def k0_off195 (v669 : BitVec 32) : Fin 3 → Nat :=
  let c0_1363 : Index := 0#32
  let c64_i32_1362 : BitVec 32 := 64#32
  let v1552 : BitVec 32 := Scalar.muli v669 c64_i32_1362
  let v1553 : Index := Scalar.indexCast v1552
  let c0_1364 : Index := 0#32
  ![0, v1553.toNat, 0]

def k0_off196 (v671 : BitVec 32) : Fin 3 → Nat :=
  let c0_1371 : Index := 0#32
  let c64_i32_1370 : BitVec 32 := 64#32
  let v1563 : BitVec 32 := Scalar.muli v671 c64_i32_1370
  let v1564 : Index := Scalar.indexCast v1563
  let c0_1372 : Index := 0#32
  ![0, v1564.toNat, 0]

def k0_off197 (v673 : BitVec 32) : Fin 3 → Nat :=
  let c0_1382 : Index := 0#32
  let c64_i32_1381 : BitVec 32 := 64#32
  let v1576 : BitVec 32 := Scalar.muli v673 c64_i32_1381
  let v1577 : Index := Scalar.indexCast v1576
  let c0_1383 : Index := 0#32
  ![0, v1577.toNat, 0]

def k0_off198 (v675 : BitVec 32) : Fin 3 → Nat :=
  let c0_1390 : Index := 0#32
  let c64_i32_1389 : BitVec 32 := 64#32
  let v1587 : BitVec 32 := Scalar.muli v675 c64_i32_1389
  let v1588 : Index := Scalar.indexCast v1587
  let c0_1391 : Index := 0#32
  ![0, v1588.toNat, 0]

def k0_off199 (v677 : BitVec 32) : Fin 3 → Nat :=
  let c0_1398 : Index := 0#32
  let c64_i32_1397 : BitVec 32 := 64#32
  let v1598 : BitVec 32 := Scalar.muli v677 c64_i32_1397
  let v1599 : Index := Scalar.indexCast v1598
  let c0_1399 : Index := 0#32
  ![0, v1599.toNat, 0]

def k0_off200 (v679 : BitVec 32) : Fin 3 → Nat :=
  let c0_1406 : Index := 0#32
  let c64_i32_1405 : BitVec 32 := 64#32
  let v1609 : BitVec 32 := Scalar.muli v679 c64_i32_1405
  let v1610 : Index := Scalar.indexCast v1609
  let c0_1407 : Index := 0#32
  ![0, v1610.toNat, 0]

def k0_off201 (v681 : BitVec 32) : Fin 3 → Nat :=
  let c0_1417 : Index := 0#32
  let c64_i32_1416 : BitVec 32 := 64#32
  let v1622 : BitVec 32 := Scalar.muli v681 c64_i32_1416
  let v1623 : Index := Scalar.indexCast v1622
  let c0_1418 : Index := 0#32
  ![0, v1623.toNat, 0]

def k0_off202 (v683 : BitVec 32) : Fin 3 → Nat :=
  let c0_1425 : Index := 0#32
  let c64_i32_1424 : BitVec 32 := 64#32
  let v1633 : BitVec 32 := Scalar.muli v683 c64_i32_1424
  let v1634 : Index := Scalar.indexCast v1633
  let c0_1426 : Index := 0#32
  ![0, v1634.toNat, 0]

def k0_off203 (v685 : BitVec 32) : Fin 3 → Nat :=
  let c0_1433 : Index := 0#32
  let c64_i32_1432 : BitVec 32 := 64#32
  let v1644 : BitVec 32 := Scalar.muli v685 c64_i32_1432
  let v1645 : Index := Scalar.indexCast v1644
  let c0_1434 : Index := 0#32
  ![0, v1645.toNat, 0]

def k0_off204 (v687 : BitVec 32) : Fin 3 → Nat :=
  let c0_1441 : Index := 0#32
  let c64_i32_1440 : BitVec 32 := 64#32
  let v1655 : BitVec 32 := Scalar.muli v687 c64_i32_1440
  let v1656 : Index := Scalar.indexCast v1655
  let c0_1442 : Index := 0#32
  ![0, v1656.toNat, 0]

def k0_off205 (v689 : BitVec 32) : Fin 3 → Nat :=
  let c0_1452 : Index := 0#32
  let c64_i32_1451 : BitVec 32 := 64#32
  let v1668 : BitVec 32 := Scalar.muli v689 c64_i32_1451
  let v1669 : Index := Scalar.indexCast v1668
  let c0_1453 : Index := 0#32
  ![0, v1669.toNat, 0]

def k0_off206 (v691 : BitVec 32) : Fin 3 → Nat :=
  let c0_1460 : Index := 0#32
  let c64_i32_1459 : BitVec 32 := 64#32
  let v1679 : BitVec 32 := Scalar.muli v691 c64_i32_1459
  let v1680 : Index := Scalar.indexCast v1679
  let c0_1461 : Index := 0#32
  ![0, v1680.toNat, 0]

def k0_off207 (v693 : BitVec 32) : Fin 3 → Nat :=
  let c0_1468 : Index := 0#32
  let c64_i32_1467 : BitVec 32 := 64#32
  let v1690 : BitVec 32 := Scalar.muli v693 c64_i32_1467
  let v1691 : Index := Scalar.indexCast v1690
  let c0_1469 : Index := 0#32
  ![0, v1691.toNat, 0]

def k0_off208 (v695 : BitVec 32) : Fin 3 → Nat :=
  let c0_1476 : Index := 0#32
  let c64_i32_1475 : BitVec 32 := 64#32
  let v1701 : BitVec 32 := Scalar.muli v695 c64_i32_1475
  let v1702 : Index := Scalar.indexCast v1701
  let c0_1477 : Index := 0#32
  ![0, v1702.toNat, 0]

def k0_off209 (v697 : BitVec 32) : Fin 3 → Nat :=
  let c0_1487 : Index := 0#32
  let c64_i32_1486 : BitVec 32 := 64#32
  let v1714 : BitVec 32 := Scalar.muli v697 c64_i32_1486
  let v1715 : Index := Scalar.indexCast v1714
  let c0_1488 : Index := 0#32
  ![0, v1715.toNat, 0]

def k0_off210 (v699 : BitVec 32) : Fin 3 → Nat :=
  let c0_1495 : Index := 0#32
  let c64_i32_1494 : BitVec 32 := 64#32
  let v1725 : BitVec 32 := Scalar.muli v699 c64_i32_1494
  let v1726 : Index := Scalar.indexCast v1725
  let c0_1496 : Index := 0#32
  ![0, v1726.toNat, 0]

def k0_off211 (v701 : BitVec 32) : Fin 3 → Nat :=
  let c0_1503 : Index := 0#32
  let c64_i32_1502 : BitVec 32 := 64#32
  let v1736 : BitVec 32 := Scalar.muli v701 c64_i32_1502
  let v1737 : Index := Scalar.indexCast v1736
  let c0_1504 : Index := 0#32
  ![0, v1737.toNat, 0]

def k0_off212 (v703 : BitVec 32) : Fin 3 → Nat :=
  let c0_1511 : Index := 0#32
  let c64_i32_1510 : BitVec 32 := 64#32
  let v1747 : BitVec 32 := Scalar.muli v703 c64_i32_1510
  let v1748 : Index := Scalar.indexCast v1747
  let c0_1512 : Index := 0#32
  ![0, v1748.toNat, 0]

def k0_off213 (v705 : BitVec 32) : Fin 3 → Nat :=
  let c0_1522 : Index := 0#32
  let c64_i32_1521 : BitVec 32 := 64#32
  let v1760 : BitVec 32 := Scalar.muli v705 c64_i32_1521
  let v1761 : Index := Scalar.indexCast v1760
  let c0_1523 : Index := 0#32
  ![0, v1761.toNat, 0]

def k0_off214 (v707 : BitVec 32) : Fin 3 → Nat :=
  let c0_1530 : Index := 0#32
  let c64_i32_1529 : BitVec 32 := 64#32
  let v1771 : BitVec 32 := Scalar.muli v707 c64_i32_1529
  let v1772 : Index := Scalar.indexCast v1771
  let c0_1531 : Index := 0#32
  ![0, v1772.toNat, 0]

def k0_off215 (v709 : BitVec 32) : Fin 3 → Nat :=
  let c0_1538 : Index := 0#32
  let c64_i32_1537 : BitVec 32 := 64#32
  let v1782 : BitVec 32 := Scalar.muli v709 c64_i32_1537
  let v1783 : Index := Scalar.indexCast v1782
  let c0_1539 : Index := 0#32
  ![0, v1783.toNat, 0]

def k0_off216 (v711 : BitVec 32) : Fin 3 → Nat :=
  let c0_1546 : Index := 0#32
  let c64_i32_1545 : BitVec 32 := 64#32
  let v1793 : BitVec 32 := Scalar.muli v711 c64_i32_1545
  let v1794 : Index := Scalar.indexCast v1793
  let c0_1547 : Index := 0#32
  ![0, v1794.toNat, 0]

def k0_off217 (v713 : BitVec 32) : Fin 3 → Nat :=
  let c0_1557 : Index := 0#32
  let c64_i32_1556 : BitVec 32 := 64#32
  let v1806 : BitVec 32 := Scalar.muli v713 c64_i32_1556
  let v1807 : Index := Scalar.indexCast v1806
  let c0_1558 : Index := 0#32
  ![0, v1807.toNat, 0]

def k0_off218 (v715 : BitVec 32) : Fin 3 → Nat :=
  let c0_1565 : Index := 0#32
  let c64_i32_1564 : BitVec 32 := 64#32
  let v1817 : BitVec 32 := Scalar.muli v715 c64_i32_1564
  let v1818 : Index := Scalar.indexCast v1817
  let c0_1566 : Index := 0#32
  ![0, v1818.toNat, 0]

def k0_off219 (v717 : BitVec 32) : Fin 3 → Nat :=
  let c0_1573 : Index := 0#32
  let c64_i32_1572 : BitVec 32 := 64#32
  let v1828 : BitVec 32 := Scalar.muli v717 c64_i32_1572
  let v1829 : Index := Scalar.indexCast v1828
  let c0_1574 : Index := 0#32
  ![0, v1829.toNat, 0]

def k0_off220 (v719 : BitVec 32) : Fin 3 → Nat :=
  let c0_1581 : Index := 0#32
  let c64_i32_1580 : BitVec 32 := 64#32
  let v1839 : BitVec 32 := Scalar.muli v719 c64_i32_1580
  let v1840 : Index := Scalar.indexCast v1839
  let c0_1582 : Index := 0#32
  ![0, v1840.toNat, 0]

def k0_off221 (v721 : BitVec 32) : Fin 3 → Nat :=
  let c0_1592 : Index := 0#32
  let c64_i32_1591 : BitVec 32 := 64#32
  let v1852 : BitVec 32 := Scalar.muli v721 c64_i32_1591
  let v1853 : Index := Scalar.indexCast v1852
  let c0_1593 : Index := 0#32
  ![0, v1853.toNat, 0]

def k0_off222 (v723 : BitVec 32) : Fin 3 → Nat :=
  let c0_1600 : Index := 0#32
  let c64_i32_1599 : BitVec 32 := 64#32
  let v1863 : BitVec 32 := Scalar.muli v723 c64_i32_1599
  let v1864 : Index := Scalar.indexCast v1863
  let c0_1601 : Index := 0#32
  ![0, v1864.toNat, 0]

def k0_off223 (v725 : BitVec 32) : Fin 3 → Nat :=
  let c0_1608 : Index := 0#32
  let c64_i32_1607 : BitVec 32 := 64#32
  let v1874 : BitVec 32 := Scalar.muli v725 c64_i32_1607
  let v1875 : Index := Scalar.indexCast v1874
  let c0_1609 : Index := 0#32
  ![0, v1875.toNat, 0]

def k0_off224 (v727 : BitVec 32) : Fin 3 → Nat :=
  let c0_1616 : Index := 0#32
  let c64_i32_1615 : BitVec 32 := 64#32
  let v1885 : BitVec 32 := Scalar.muli v727 c64_i32_1615
  let v1886 : Index := Scalar.indexCast v1885
  let c0_1617 : Index := 0#32
  ![0, v1886.toNat, 0]

def k0_off225 (v729 : BitVec 32) : Fin 3 → Nat :=
  let c0_1627 : Index := 0#32
  let c64_i32_1626 : BitVec 32 := 64#32
  let v1898 : BitVec 32 := Scalar.muli v729 c64_i32_1626
  let v1899 : Index := Scalar.indexCast v1898
  let c0_1628 : Index := 0#32
  ![0, v1899.toNat, 0]

def k0_off226 (v731 : BitVec 32) : Fin 3 → Nat :=
  let c0_1635 : Index := 0#32
  let c64_i32_1634 : BitVec 32 := 64#32
  let v1909 : BitVec 32 := Scalar.muli v731 c64_i32_1634
  let v1910 : Index := Scalar.indexCast v1909
  let c0_1636 : Index := 0#32
  ![0, v1910.toNat, 0]

def k0_off227 (v733 : BitVec 32) : Fin 3 → Nat :=
  let c0_1643 : Index := 0#32
  let c64_i32_1642 : BitVec 32 := 64#32
  let v1920 : BitVec 32 := Scalar.muli v733 c64_i32_1642
  let v1921 : Index := Scalar.indexCast v1920
  let c0_1644 : Index := 0#32
  ![0, v1921.toNat, 0]

def k0_off228 (v735 : BitVec 32) : Fin 3 → Nat :=
  let c0_1651 : Index := 0#32
  let c64_i32_1650 : BitVec 32 := 64#32
  let v1931 : BitVec 32 := Scalar.muli v735 c64_i32_1650
  let v1932 : Index := Scalar.indexCast v1931
  let c0_1652 : Index := 0#32
  ![0, v1932.toNat, 0]

def k0_off229 (v737 : BitVec 32) : Fin 3 → Nat :=
  let c0_1662 : Index := 0#32
  let c64_i32_1661 : BitVec 32 := 64#32
  let v1944 : BitVec 32 := Scalar.muli v737 c64_i32_1661
  let v1945 : Index := Scalar.indexCast v1944
  let c0_1663 : Index := 0#32
  ![0, v1945.toNat, 0]

def k0_off230 (v739 : BitVec 32) : Fin 3 → Nat :=
  let c0_1670 : Index := 0#32
  let c64_i32_1669 : BitVec 32 := 64#32
  let v1955 : BitVec 32 := Scalar.muli v739 c64_i32_1669
  let v1956 : Index := Scalar.indexCast v1955
  let c0_1671 : Index := 0#32
  ![0, v1956.toNat, 0]

def k0_off231 (v741 : BitVec 32) : Fin 3 → Nat :=
  let c0_1678 : Index := 0#32
  let c64_i32_1677 : BitVec 32 := 64#32
  let v1966 : BitVec 32 := Scalar.muli v741 c64_i32_1677
  let v1967 : Index := Scalar.indexCast v1966
  let c0_1679 : Index := 0#32
  ![0, v1967.toNat, 0]

def k0_off232 (v743 : BitVec 32) : Fin 3 → Nat :=
  let c0_1686 : Index := 0#32
  let c64_i32_1685 : BitVec 32 := 64#32
  let v1977 : BitVec 32 := Scalar.muli v743 c64_i32_1685
  let v1978 : Index := Scalar.indexCast v1977
  let c0_1687 : Index := 0#32
  ![0, v1978.toNat, 0]

def k0_off233 (v745 : BitVec 32) : Fin 3 → Nat :=
  let c0_1697 : Index := 0#32
  let c64_i32_1696 : BitVec 32 := 64#32
  let v1990 : BitVec 32 := Scalar.muli v745 c64_i32_1696
  let v1991 : Index := Scalar.indexCast v1990
  let c0_1698 : Index := 0#32
  ![0, v1991.toNat, 0]

def k0_off234 (v747 : BitVec 32) : Fin 3 → Nat :=
  let c0_1705 : Index := 0#32
  let c64_i32_1704 : BitVec 32 := 64#32
  let v2001 : BitVec 32 := Scalar.muli v747 c64_i32_1704
  let v2002 : Index := Scalar.indexCast v2001
  let c0_1706 : Index := 0#32
  ![0, v2002.toNat, 0]

def k0_off235 (v749 : BitVec 32) : Fin 3 → Nat :=
  let c0_1713 : Index := 0#32
  let c64_i32_1712 : BitVec 32 := 64#32
  let v2012 : BitVec 32 := Scalar.muli v749 c64_i32_1712
  let v2013 : Index := Scalar.indexCast v2012
  let c0_1714 : Index := 0#32
  ![0, v2013.toNat, 0]

def k0_off236 (v751 : BitVec 32) : Fin 3 → Nat :=
  let c0_1721 : Index := 0#32
  let c64_i32_1720 : BitVec 32 := 64#32
  let v2023 : BitVec 32 := Scalar.muli v751 c64_i32_1720
  let v2024 : Index := Scalar.indexCast v2023
  let c0_1722 : Index := 0#32
  ![0, v2024.toNat, 0]

def k0_off237 (v753 : BitVec 32) : Fin 3 → Nat :=
  let c0_1732 : Index := 0#32
  let c64_i32_1731 : BitVec 32 := 64#32
  let v2036 : BitVec 32 := Scalar.muli v753 c64_i32_1731
  let v2037 : Index := Scalar.indexCast v2036
  let c0_1733 : Index := 0#32
  ![0, v2037.toNat, 0]

def k0_off238 (v755 : BitVec 32) : Fin 3 → Nat :=
  let c0_1740 : Index := 0#32
  let c64_i32_1739 : BitVec 32 := 64#32
  let v2047 : BitVec 32 := Scalar.muli v755 c64_i32_1739
  let v2048 : Index := Scalar.indexCast v2047
  let c0_1741 : Index := 0#32
  ![0, v2048.toNat, 0]

def k0_off239 (v757 : BitVec 32) : Fin 3 → Nat :=
  let c0_1748 : Index := 0#32
  let c64_i32_1747 : BitVec 32 := 64#32
  let v2058 : BitVec 32 := Scalar.muli v757 c64_i32_1747
  let v2059 : Index := Scalar.indexCast v2058
  let c0_1749 : Index := 0#32
  ![0, v2059.toNat, 0]

def k0_off240 (v759 : BitVec 32) : Fin 3 → Nat :=
  let c0_1756 : Index := 0#32
  let c64_i32_1755 : BitVec 32 := 64#32
  let v2069 : BitVec 32 := Scalar.muli v759 c64_i32_1755
  let v2070 : Index := Scalar.indexCast v2069
  let c0_1757 : Index := 0#32
  ![0, v2070.toNat, 0]

def k0_off241 (v761 : BitVec 32) : Fin 3 → Nat :=
  let c0_1767 : Index := 0#32
  let c64_i32_1766 : BitVec 32 := 64#32
  let v2082 : BitVec 32 := Scalar.muli v761 c64_i32_1766
  let v2083 : Index := Scalar.indexCast v2082
  let c0_1768 : Index := 0#32
  ![0, v2083.toNat, 0]

def k0_off242 (v763 : BitVec 32) : Fin 3 → Nat :=
  let c0_1775 : Index := 0#32
  let c64_i32_1774 : BitVec 32 := 64#32
  let v2093 : BitVec 32 := Scalar.muli v763 c64_i32_1774
  let v2094 : Index := Scalar.indexCast v2093
  let c0_1776 : Index := 0#32
  ![0, v2094.toNat, 0]

def k0_off243 (v765 : BitVec 32) : Fin 3 → Nat :=
  let c0_1783 : Index := 0#32
  let c64_i32_1782 : BitVec 32 := 64#32
  let v2104 : BitVec 32 := Scalar.muli v765 c64_i32_1782
  let v2105 : Index := Scalar.indexCast v2104
  let c0_1784 : Index := 0#32
  ![0, v2105.toNat, 0]

def k0_off244 (v767 : BitVec 32) : Fin 3 → Nat :=
  let c0_1791 : Index := 0#32
  let c64_i32_1790 : BitVec 32 := 64#32
  let v2115 : BitVec 32 := Scalar.muli v767 c64_i32_1790
  let v2116 : Index := Scalar.indexCast v2115
  let c0_1792 : Index := 0#32
  ![0, v2116.toNat, 0]

def k0_off245 (v769 : BitVec 32) : Fin 3 → Nat :=
  let c0_1802 : Index := 0#32
  let c64_i32_1801 : BitVec 32 := 64#32
  let v2128 : BitVec 32 := Scalar.muli v769 c64_i32_1801
  let v2129 : Index := Scalar.indexCast v2128
  let c0_1803 : Index := 0#32
  ![0, v2129.toNat, 0]

def k0_off246 (v771 : BitVec 32) : Fin 3 → Nat :=
  let c0_1810 : Index := 0#32
  let c64_i32_1809 : BitVec 32 := 64#32
  let v2139 : BitVec 32 := Scalar.muli v771 c64_i32_1809
  let v2140 : Index := Scalar.indexCast v2139
  let c0_1811 : Index := 0#32
  ![0, v2140.toNat, 0]

def k0_off247 (v773 : BitVec 32) : Fin 3 → Nat :=
  let c0_1818 : Index := 0#32
  let c64_i32_1817 : BitVec 32 := 64#32
  let v2150 : BitVec 32 := Scalar.muli v773 c64_i32_1817
  let v2151 : Index := Scalar.indexCast v2150
  let c0_1819 : Index := 0#32
  ![0, v2151.toNat, 0]

def k0_off248 (v775 : BitVec 32) : Fin 3 → Nat :=
  let c0_1826 : Index := 0#32
  let c64_i32_1825 : BitVec 32 := 64#32
  let v2161 : BitVec 32 := Scalar.muli v775 c64_i32_1825
  let v2162 : Index := Scalar.indexCast v2161
  let c0_1827 : Index := 0#32
  ![0, v2162.toNat, 0]

def k0_off249 (v777 : BitVec 32) : Fin 3 → Nat :=
  let c0_1837 : Index := 0#32
  let c64_i32_1836 : BitVec 32 := 64#32
  let v2174 : BitVec 32 := Scalar.muli v777 c64_i32_1836
  let v2175 : Index := Scalar.indexCast v2174
  let c0_1838 : Index := 0#32
  ![0, v2175.toNat, 0]

def k0_off250 (v779 : BitVec 32) : Fin 3 → Nat :=
  let c0_1845 : Index := 0#32
  let c64_i32_1844 : BitVec 32 := 64#32
  let v2185 : BitVec 32 := Scalar.muli v779 c64_i32_1844
  let v2186 : Index := Scalar.indexCast v2185
  let c0_1846 : Index := 0#32
  ![0, v2186.toNat, 0]

def k0_off251 (v781 : BitVec 32) : Fin 3 → Nat :=
  let c0_1853 : Index := 0#32
  let c64_i32_1852 : BitVec 32 := 64#32
  let v2196 : BitVec 32 := Scalar.muli v781 c64_i32_1852
  let v2197 : Index := Scalar.indexCast v2196
  let c0_1854 : Index := 0#32
  ![0, v2197.toNat, 0]

def k0_off252 (v783 : BitVec 32) : Fin 3 → Nat :=
  let c0_1861 : Index := 0#32
  let c64_i32_1860 : BitVec 32 := 64#32
  let v2207 : BitVec 32 := Scalar.muli v783 c64_i32_1860
  let v2208 : Index := Scalar.indexCast v2207
  let c0_1862 : Index := 0#32
  ![0, v2208.toNat, 0]

def k0_off253 (v785 : BitVec 32) : Fin 3 → Nat :=
  let c0_1872 : Index := 0#32
  let c64_i32_1871 : BitVec 32 := 64#32
  let v2220 : BitVec 32 := Scalar.muli v785 c64_i32_1871
  let v2221 : Index := Scalar.indexCast v2220
  let c0_1873 : Index := 0#32
  ![0, v2221.toNat, 0]

def k0_off254 (v787 : BitVec 32) : Fin 3 → Nat :=
  let c0_1880 : Index := 0#32
  let c64_i32_1879 : BitVec 32 := 64#32
  let v2231 : BitVec 32 := Scalar.muli v787 c64_i32_1879
  let v2232 : Index := Scalar.indexCast v2231
  let c0_1881 : Index := 0#32
  ![0, v2232.toNat, 0]

def k0_off255 (v789 : BitVec 32) : Fin 3 → Nat :=
  let c0_1888 : Index := 0#32
  let c64_i32_1887 : BitVec 32 := 64#32
  let v2242 : BitVec 32 := Scalar.muli v789 c64_i32_1887
  let v2243 : Index := Scalar.indexCast v2242
  let c0_1889 : Index := 0#32
  ![0, v2243.toNat, 0]

def k0_off256 (v791 : BitVec 32) : Fin 3 → Nat :=
  let c0_1896 : Index := 0#32
  let c64_i32_1895 : BitVec 32 := 64#32
  let v2253 : BitVec 32 := Scalar.muli v791 c64_i32_1895
  let v2254 : Index := Scalar.indexCast v2253
  let c0_1897 : Index := 0#32
  ![0, v2254.toNat, 0]

def k0_off257 (v537 : BitVec 32) : Fin 3 → Nat :=
  let v2264 : Index := Scalar.indexCast v537
  let c0_1903 : Index := 0#32
  let c0_1904 : Index := 0#32
  ![v2264.toNat, 0, 0]

def k0_chk1 (v537 : BitVec 32) : Prop :=
  (∀ a, (k0_off129 v537) a + S1x64x64.size a ≤ S1x2048x64.size a) ∧
  (∀ a, (k0_off257 v537) a + S1x64x128.size a ≤ S32x64x128.size a)
theorem k0_off129_inb : ∀ (v537 : BitVec 32) (k0_hw1 : k0_chk1 v537), ∀ a, (k0_off129 v537) a + S1x64x64.size a ≤ S1x2048x64.size a := fun v537 k0_hw1 => k0_hw1.1
theorem k0_off257_inb : ∀ (v537 : BitVec 32) (k0_hw1 : k0_chk1 v537), ∀ a, (k0_off257 v537) a + S1x64x128.size a ≤ S32x64x128.size a := fun v537 k0_hw1 => k0_hw1.2

def k0_off258 (v539 : BitVec 32) : Fin 3 → Nat :=
  let v2267 : Index := Scalar.indexCast v539
  let c0_1905 : Index := 0#32
  let c0_1906 : Index := 0#32
  ![v2267.toNat, 0, 0]

def k0_chk2 (v539 : BitVec 32) : Prop :=
  (∀ a, (k0_off130 v539) a + S1x64x64.size a ≤ S1x2048x64.size a) ∧
  (∀ a, (k0_off258 v539) a + S1x64x128.size a ≤ S32x64x128.size a)
theorem k0_off130_inb : ∀ (v539 : BitVec 32) (k0_hw2 : k0_chk2 v539), ∀ a, (k0_off130 v539) a + S1x64x64.size a ≤ S1x2048x64.size a := fun v539 k0_hw2 => k0_hw2.1
theorem k0_off258_inb : ∀ (v539 : BitVec 32) (k0_hw2 : k0_chk2 v539), ∀ a, (k0_off258 v539) a + S1x64x128.size a ≤ S32x64x128.size a := fun v539 k0_hw2 => k0_hw2.2

def k0_off259 (v541 : BitVec 32) : Fin 3 → Nat :=
  let v2270 : Index := Scalar.indexCast v541
  let c0_1907 : Index := 0#32
  let c0_1908 : Index := 0#32
  ![v2270.toNat, 0, 0]

def k0_chk3 (v541 : BitVec 32) : Prop :=
  (∀ a, (k0_off131 v541) a + S1x64x64.size a ≤ S1x2048x64.size a) ∧
  (∀ a, (k0_off259 v541) a + S1x64x128.size a ≤ S32x64x128.size a)
theorem k0_off131_inb : ∀ (v541 : BitVec 32) (k0_hw3 : k0_chk3 v541), ∀ a, (k0_off131 v541) a + S1x64x64.size a ≤ S1x2048x64.size a := fun v541 k0_hw3 => k0_hw3.1
theorem k0_off259_inb : ∀ (v541 : BitVec 32) (k0_hw3 : k0_chk3 v541), ∀ a, (k0_off259 v541) a + S1x64x128.size a ≤ S32x64x128.size a := fun v541 k0_hw3 => k0_hw3.2

def k0_off260 (v543 : BitVec 32) : Fin 3 → Nat :=
  let v2273 : Index := Scalar.indexCast v543
  let c0_1909 : Index := 0#32
  let c0_1910 : Index := 0#32
  ![v2273.toNat, 0, 0]

def k0_chk4 (v543 : BitVec 32) : Prop :=
  (∀ a, (k0_off132 v543) a + S1x64x64.size a ≤ S1x2048x64.size a) ∧
  (∀ a, (k0_off260 v543) a + S1x64x128.size a ≤ S32x64x128.size a)
theorem k0_off132_inb : ∀ (v543 : BitVec 32) (k0_hw4 : k0_chk4 v543), ∀ a, (k0_off132 v543) a + S1x64x64.size a ≤ S1x2048x64.size a := fun v543 k0_hw4 => k0_hw4.1
theorem k0_off260_inb : ∀ (v543 : BitVec 32) (k0_hw4 : k0_chk4 v543), ∀ a, (k0_off260 v543) a + S1x64x128.size a ≤ S32x64x128.size a := fun v543 k0_hw4 => k0_hw4.2

def k0_off261 (v545 : BitVec 32) : Fin 3 → Nat :=
  let v2315 : Index := Scalar.indexCast v545
  let c0_1942 : Index := 0#32
  let c0_1943 : Index := 0#32
  ![v2315.toNat, 0, 0]

def k0_chk5 (v545 : BitVec 32) : Prop :=
  (∀ a, (k0_off133 v545) a + S1x64x64.size a ≤ S1x2048x64.size a) ∧
  (∀ a, (k0_off261 v545) a + S1x64x128.size a ≤ S32x64x128.size a)
theorem k0_off133_inb : ∀ (v545 : BitVec 32) (k0_hw5 : k0_chk5 v545), ∀ a, (k0_off133 v545) a + S1x64x64.size a ≤ S1x2048x64.size a := fun v545 k0_hw5 => k0_hw5.1
theorem k0_off261_inb : ∀ (v545 : BitVec 32) (k0_hw5 : k0_chk5 v545), ∀ a, (k0_off261 v545) a + S1x64x128.size a ≤ S32x64x128.size a := fun v545 k0_hw5 => k0_hw5.2

def k0_off262 (v547 : BitVec 32) : Fin 3 → Nat :=
  let v2318 : Index := Scalar.indexCast v547
  let c0_1944 : Index := 0#32
  let c0_1945 : Index := 0#32
  ![v2318.toNat, 0, 0]

def k0_chk6 (v547 : BitVec 32) : Prop :=
  (∀ a, (k0_off134 v547) a + S1x64x64.size a ≤ S1x2048x64.size a) ∧
  (∀ a, (k0_off262 v547) a + S1x64x128.size a ≤ S32x64x128.size a)
theorem k0_off134_inb : ∀ (v547 : BitVec 32) (k0_hw6 : k0_chk6 v547), ∀ a, (k0_off134 v547) a + S1x64x64.size a ≤ S1x2048x64.size a := fun v547 k0_hw6 => k0_hw6.1
theorem k0_off262_inb : ∀ (v547 : BitVec 32) (k0_hw6 : k0_chk6 v547), ∀ a, (k0_off262 v547) a + S1x64x128.size a ≤ S32x64x128.size a := fun v547 k0_hw6 => k0_hw6.2

def k0_off263 (v549 : BitVec 32) : Fin 3 → Nat :=
  let v2321 : Index := Scalar.indexCast v549
  let c0_1946 : Index := 0#32
  let c0_1947 : Index := 0#32
  ![v2321.toNat, 0, 0]

def k0_chk7 (v549 : BitVec 32) : Prop :=
  (∀ a, (k0_off135 v549) a + S1x64x64.size a ≤ S1x2048x64.size a) ∧
  (∀ a, (k0_off263 v549) a + S1x64x128.size a ≤ S32x64x128.size a)
theorem k0_off135_inb : ∀ (v549 : BitVec 32) (k0_hw7 : k0_chk7 v549), ∀ a, (k0_off135 v549) a + S1x64x64.size a ≤ S1x2048x64.size a := fun v549 k0_hw7 => k0_hw7.1
theorem k0_off263_inb : ∀ (v549 : BitVec 32) (k0_hw7 : k0_chk7 v549), ∀ a, (k0_off263 v549) a + S1x64x128.size a ≤ S32x64x128.size a := fun v549 k0_hw7 => k0_hw7.2

def k0_off264 (v551 : BitVec 32) : Fin 3 → Nat :=
  let v2324 : Index := Scalar.indexCast v551
  let c0_1948 : Index := 0#32
  let c0_1949 : Index := 0#32
  ![v2324.toNat, 0, 0]

def k0_chk8 (v551 : BitVec 32) : Prop :=
  (∀ a, (k0_off136 v551) a + S1x64x64.size a ≤ S1x2048x64.size a) ∧
  (∀ a, (k0_off264 v551) a + S1x64x128.size a ≤ S32x64x128.size a)
theorem k0_off136_inb : ∀ (v551 : BitVec 32) (k0_hw8 : k0_chk8 v551), ∀ a, (k0_off136 v551) a + S1x64x64.size a ≤ S1x2048x64.size a := fun v551 k0_hw8 => k0_hw8.1
theorem k0_off264_inb : ∀ (v551 : BitVec 32) (k0_hw8 : k0_chk8 v551), ∀ a, (k0_off264 v551) a + S1x64x128.size a ≤ S32x64x128.size a := fun v551 k0_hw8 => k0_hw8.2

def k0_off265 (v553 : BitVec 32) : Fin 3 → Nat :=
  let v2366 : Index := Scalar.indexCast v553
  let c0_1981 : Index := 0#32
  let c0_1982 : Index := 0#32
  ![v2366.toNat, 0, 0]

def k0_chk9 (v553 : BitVec 32) : Prop :=
  (∀ a, (k0_off137 v553) a + S1x64x64.size a ≤ S1x2048x64.size a) ∧
  (∀ a, (k0_off265 v553) a + S1x64x128.size a ≤ S32x64x128.size a)
theorem k0_off137_inb : ∀ (v553 : BitVec 32) (k0_hw9 : k0_chk9 v553), ∀ a, (k0_off137 v553) a + S1x64x64.size a ≤ S1x2048x64.size a := fun v553 k0_hw9 => k0_hw9.1
theorem k0_off265_inb : ∀ (v553 : BitVec 32) (k0_hw9 : k0_chk9 v553), ∀ a, (k0_off265 v553) a + S1x64x128.size a ≤ S32x64x128.size a := fun v553 k0_hw9 => k0_hw9.2

def k0_off266 (v555 : BitVec 32) : Fin 3 → Nat :=
  let v2369 : Index := Scalar.indexCast v555
  let c0_1983 : Index := 0#32
  let c0_1984 : Index := 0#32
  ![v2369.toNat, 0, 0]

def k0_chk10 (v555 : BitVec 32) : Prop :=
  (∀ a, (k0_off138 v555) a + S1x64x64.size a ≤ S1x2048x64.size a) ∧
  (∀ a, (k0_off266 v555) a + S1x64x128.size a ≤ S32x64x128.size a)
theorem k0_off138_inb : ∀ (v555 : BitVec 32) (k0_hw10 : k0_chk10 v555), ∀ a, (k0_off138 v555) a + S1x64x64.size a ≤ S1x2048x64.size a := fun v555 k0_hw10 => k0_hw10.1
theorem k0_off266_inb : ∀ (v555 : BitVec 32) (k0_hw10 : k0_chk10 v555), ∀ a, (k0_off266 v555) a + S1x64x128.size a ≤ S32x64x128.size a := fun v555 k0_hw10 => k0_hw10.2

def k0_off267 (v557 : BitVec 32) : Fin 3 → Nat :=
  let v2372 : Index := Scalar.indexCast v557
  let c0_1985 : Index := 0#32
  let c0_1986 : Index := 0#32
  ![v2372.toNat, 0, 0]

def k0_chk11 (v557 : BitVec 32) : Prop :=
  (∀ a, (k0_off139 v557) a + S1x64x64.size a ≤ S1x2048x64.size a) ∧
  (∀ a, (k0_off267 v557) a + S1x64x128.size a ≤ S32x64x128.size a)
theorem k0_off139_inb : ∀ (v557 : BitVec 32) (k0_hw11 : k0_chk11 v557), ∀ a, (k0_off139 v557) a + S1x64x64.size a ≤ S1x2048x64.size a := fun v557 k0_hw11 => k0_hw11.1
theorem k0_off267_inb : ∀ (v557 : BitVec 32) (k0_hw11 : k0_chk11 v557), ∀ a, (k0_off267 v557) a + S1x64x128.size a ≤ S32x64x128.size a := fun v557 k0_hw11 => k0_hw11.2

def k0_off268 (v559 : BitVec 32) : Fin 3 → Nat :=
  let v2375 : Index := Scalar.indexCast v559
  let c0_1987 : Index := 0#32
  let c0_1988 : Index := 0#32
  ![v2375.toNat, 0, 0]

def k0_chk12 (v559 : BitVec 32) : Prop :=
  (∀ a, (k0_off140 v559) a + S1x64x64.size a ≤ S1x2048x64.size a) ∧
  (∀ a, (k0_off268 v559) a + S1x64x128.size a ≤ S32x64x128.size a)
theorem k0_off140_inb : ∀ (v559 : BitVec 32) (k0_hw12 : k0_chk12 v559), ∀ a, (k0_off140 v559) a + S1x64x64.size a ≤ S1x2048x64.size a := fun v559 k0_hw12 => k0_hw12.1
theorem k0_off268_inb : ∀ (v559 : BitVec 32) (k0_hw12 : k0_chk12 v559), ∀ a, (k0_off268 v559) a + S1x64x128.size a ≤ S32x64x128.size a := fun v559 k0_hw12 => k0_hw12.2

def k0_off269 (v561 : BitVec 32) : Fin 3 → Nat :=
  let v2417 : Index := Scalar.indexCast v561
  let c0_2020 : Index := 0#32
  let c0_2021 : Index := 0#32
  ![v2417.toNat, 0, 0]

def k0_chk13 (v561 : BitVec 32) : Prop :=
  (∀ a, (k0_off141 v561) a + S1x64x64.size a ≤ S1x2048x64.size a) ∧
  (∀ a, (k0_off269 v561) a + S1x64x128.size a ≤ S32x64x128.size a)
theorem k0_off141_inb : ∀ (v561 : BitVec 32) (k0_hw13 : k0_chk13 v561), ∀ a, (k0_off141 v561) a + S1x64x64.size a ≤ S1x2048x64.size a := fun v561 k0_hw13 => k0_hw13.1
theorem k0_off269_inb : ∀ (v561 : BitVec 32) (k0_hw13 : k0_chk13 v561), ∀ a, (k0_off269 v561) a + S1x64x128.size a ≤ S32x64x128.size a := fun v561 k0_hw13 => k0_hw13.2

def k0_off270 (v563 : BitVec 32) : Fin 3 → Nat :=
  let v2420 : Index := Scalar.indexCast v563
  let c0_2022 : Index := 0#32
  let c0_2023 : Index := 0#32
  ![v2420.toNat, 0, 0]

def k0_chk14 (v563 : BitVec 32) : Prop :=
  (∀ a, (k0_off142 v563) a + S1x64x64.size a ≤ S1x2048x64.size a) ∧
  (∀ a, (k0_off270 v563) a + S1x64x128.size a ≤ S32x64x128.size a)
theorem k0_off142_inb : ∀ (v563 : BitVec 32) (k0_hw14 : k0_chk14 v563), ∀ a, (k0_off142 v563) a + S1x64x64.size a ≤ S1x2048x64.size a := fun v563 k0_hw14 => k0_hw14.1
theorem k0_off270_inb : ∀ (v563 : BitVec 32) (k0_hw14 : k0_chk14 v563), ∀ a, (k0_off270 v563) a + S1x64x128.size a ≤ S32x64x128.size a := fun v563 k0_hw14 => k0_hw14.2

def k0_off271 (v565 : BitVec 32) : Fin 3 → Nat :=
  let v2423 : Index := Scalar.indexCast v565
  let c0_2024 : Index := 0#32
  let c0_2025 : Index := 0#32
  ![v2423.toNat, 0, 0]

def k0_chk15 (v565 : BitVec 32) : Prop :=
  (∀ a, (k0_off143 v565) a + S1x64x64.size a ≤ S1x2048x64.size a) ∧
  (∀ a, (k0_off271 v565) a + S1x64x128.size a ≤ S32x64x128.size a)
theorem k0_off143_inb : ∀ (v565 : BitVec 32) (k0_hw15 : k0_chk15 v565), ∀ a, (k0_off143 v565) a + S1x64x64.size a ≤ S1x2048x64.size a := fun v565 k0_hw15 => k0_hw15.1
theorem k0_off271_inb : ∀ (v565 : BitVec 32) (k0_hw15 : k0_chk15 v565), ∀ a, (k0_off271 v565) a + S1x64x128.size a ≤ S32x64x128.size a := fun v565 k0_hw15 => k0_hw15.2

def k0_off272 (v567 : BitVec 32) : Fin 3 → Nat :=
  let v2426 : Index := Scalar.indexCast v567
  let c0_2026 : Index := 0#32
  let c0_2027 : Index := 0#32
  ![v2426.toNat, 0, 0]

def k0_chk16 (v567 : BitVec 32) : Prop :=
  (∀ a, (k0_off144 v567) a + S1x64x64.size a ≤ S1x2048x64.size a) ∧
  (∀ a, (k0_off272 v567) a + S1x64x128.size a ≤ S32x64x128.size a)
theorem k0_off144_inb : ∀ (v567 : BitVec 32) (k0_hw16 : k0_chk16 v567), ∀ a, (k0_off144 v567) a + S1x64x64.size a ≤ S1x2048x64.size a := fun v567 k0_hw16 => k0_hw16.1
theorem k0_off272_inb : ∀ (v567 : BitVec 32) (k0_hw16 : k0_chk16 v567), ∀ a, (k0_off272 v567) a + S1x64x128.size a ≤ S32x64x128.size a := fun v567 k0_hw16 => k0_hw16.2

def k0_off273 (v569 : BitVec 32) : Fin 3 → Nat :=
  let v2468 : Index := Scalar.indexCast v569
  let c0_2059 : Index := 0#32
  let c0_2060 : Index := 0#32
  ![v2468.toNat, 0, 0]

def k0_chk17 (v569 : BitVec 32) : Prop :=
  (∀ a, (k0_off145 v569) a + S1x64x64.size a ≤ S1x2048x64.size a) ∧
  (∀ a, (k0_off273 v569) a + S1x64x128.size a ≤ S32x64x128.size a)
theorem k0_off145_inb : ∀ (v569 : BitVec 32) (k0_hw17 : k0_chk17 v569), ∀ a, (k0_off145 v569) a + S1x64x64.size a ≤ S1x2048x64.size a := fun v569 k0_hw17 => k0_hw17.1
theorem k0_off273_inb : ∀ (v569 : BitVec 32) (k0_hw17 : k0_chk17 v569), ∀ a, (k0_off273 v569) a + S1x64x128.size a ≤ S32x64x128.size a := fun v569 k0_hw17 => k0_hw17.2

def k0_off274 (v571 : BitVec 32) : Fin 3 → Nat :=
  let v2471 : Index := Scalar.indexCast v571
  let c0_2061 : Index := 0#32
  let c0_2062 : Index := 0#32
  ![v2471.toNat, 0, 0]

def k0_chk18 (v571 : BitVec 32) : Prop :=
  (∀ a, (k0_off146 v571) a + S1x64x64.size a ≤ S1x2048x64.size a) ∧
  (∀ a, (k0_off274 v571) a + S1x64x128.size a ≤ S32x64x128.size a)
theorem k0_off146_inb : ∀ (v571 : BitVec 32) (k0_hw18 : k0_chk18 v571), ∀ a, (k0_off146 v571) a + S1x64x64.size a ≤ S1x2048x64.size a := fun v571 k0_hw18 => k0_hw18.1
theorem k0_off274_inb : ∀ (v571 : BitVec 32) (k0_hw18 : k0_chk18 v571), ∀ a, (k0_off274 v571) a + S1x64x128.size a ≤ S32x64x128.size a := fun v571 k0_hw18 => k0_hw18.2

def k0_off275 (v573 : BitVec 32) : Fin 3 → Nat :=
  let v2474 : Index := Scalar.indexCast v573
  let c0_2063 : Index := 0#32
  let c0_2064 : Index := 0#32
  ![v2474.toNat, 0, 0]

def k0_chk19 (v573 : BitVec 32) : Prop :=
  (∀ a, (k0_off147 v573) a + S1x64x64.size a ≤ S1x2048x64.size a) ∧
  (∀ a, (k0_off275 v573) a + S1x64x128.size a ≤ S32x64x128.size a)
theorem k0_off147_inb : ∀ (v573 : BitVec 32) (k0_hw19 : k0_chk19 v573), ∀ a, (k0_off147 v573) a + S1x64x64.size a ≤ S1x2048x64.size a := fun v573 k0_hw19 => k0_hw19.1
theorem k0_off275_inb : ∀ (v573 : BitVec 32) (k0_hw19 : k0_chk19 v573), ∀ a, (k0_off275 v573) a + S1x64x128.size a ≤ S32x64x128.size a := fun v573 k0_hw19 => k0_hw19.2

def k0_off276 (v575 : BitVec 32) : Fin 3 → Nat :=
  let v2477 : Index := Scalar.indexCast v575
  let c0_2065 : Index := 0#32
  let c0_2066 : Index := 0#32
  ![v2477.toNat, 0, 0]

def k0_chk20 (v575 : BitVec 32) : Prop :=
  (∀ a, (k0_off148 v575) a + S1x64x64.size a ≤ S1x2048x64.size a) ∧
  (∀ a, (k0_off276 v575) a + S1x64x128.size a ≤ S32x64x128.size a)
theorem k0_off148_inb : ∀ (v575 : BitVec 32) (k0_hw20 : k0_chk20 v575), ∀ a, (k0_off148 v575) a + S1x64x64.size a ≤ S1x2048x64.size a := fun v575 k0_hw20 => k0_hw20.1
theorem k0_off276_inb : ∀ (v575 : BitVec 32) (k0_hw20 : k0_chk20 v575), ∀ a, (k0_off276 v575) a + S1x64x128.size a ≤ S32x64x128.size a := fun v575 k0_hw20 => k0_hw20.2

def k0_off277 (v577 : BitVec 32) : Fin 3 → Nat :=
  let v2519 : Index := Scalar.indexCast v577
  let c0_2098 : Index := 0#32
  let c0_2099 : Index := 0#32
  ![v2519.toNat, 0, 0]

def k0_chk21 (v577 : BitVec 32) : Prop :=
  (∀ a, (k0_off149 v577) a + S1x64x64.size a ≤ S1x2048x64.size a) ∧
  (∀ a, (k0_off277 v577) a + S1x64x128.size a ≤ S32x64x128.size a)
theorem k0_off149_inb : ∀ (v577 : BitVec 32) (k0_hw21 : k0_chk21 v577), ∀ a, (k0_off149 v577) a + S1x64x64.size a ≤ S1x2048x64.size a := fun v577 k0_hw21 => k0_hw21.1
theorem k0_off277_inb : ∀ (v577 : BitVec 32) (k0_hw21 : k0_chk21 v577), ∀ a, (k0_off277 v577) a + S1x64x128.size a ≤ S32x64x128.size a := fun v577 k0_hw21 => k0_hw21.2

def k0_off278 (v579 : BitVec 32) : Fin 3 → Nat :=
  let v2522 : Index := Scalar.indexCast v579
  let c0_2100 : Index := 0#32
  let c0_2101 : Index := 0#32
  ![v2522.toNat, 0, 0]

def k0_chk22 (v579 : BitVec 32) : Prop :=
  (∀ a, (k0_off150 v579) a + S1x64x64.size a ≤ S1x2048x64.size a) ∧
  (∀ a, (k0_off278 v579) a + S1x64x128.size a ≤ S32x64x128.size a)
theorem k0_off150_inb : ∀ (v579 : BitVec 32) (k0_hw22 : k0_chk22 v579), ∀ a, (k0_off150 v579) a + S1x64x64.size a ≤ S1x2048x64.size a := fun v579 k0_hw22 => k0_hw22.1
theorem k0_off278_inb : ∀ (v579 : BitVec 32) (k0_hw22 : k0_chk22 v579), ∀ a, (k0_off278 v579) a + S1x64x128.size a ≤ S32x64x128.size a := fun v579 k0_hw22 => k0_hw22.2

def k0_off279 (v581 : BitVec 32) : Fin 3 → Nat :=
  let v2525 : Index := Scalar.indexCast v581
  let c0_2102 : Index := 0#32
  let c0_2103 : Index := 0#32
  ![v2525.toNat, 0, 0]

def k0_chk23 (v581 : BitVec 32) : Prop :=
  (∀ a, (k0_off151 v581) a + S1x64x64.size a ≤ S1x2048x64.size a) ∧
  (∀ a, (k0_off279 v581) a + S1x64x128.size a ≤ S32x64x128.size a)
theorem k0_off151_inb : ∀ (v581 : BitVec 32) (k0_hw23 : k0_chk23 v581), ∀ a, (k0_off151 v581) a + S1x64x64.size a ≤ S1x2048x64.size a := fun v581 k0_hw23 => k0_hw23.1
theorem k0_off279_inb : ∀ (v581 : BitVec 32) (k0_hw23 : k0_chk23 v581), ∀ a, (k0_off279 v581) a + S1x64x128.size a ≤ S32x64x128.size a := fun v581 k0_hw23 => k0_hw23.2

def k0_off280 (v583 : BitVec 32) : Fin 3 → Nat :=
  let v2528 : Index := Scalar.indexCast v583
  let c0_2104 : Index := 0#32
  let c0_2105 : Index := 0#32
  ![v2528.toNat, 0, 0]

def k0_chk24 (v583 : BitVec 32) : Prop :=
  (∀ a, (k0_off152 v583) a + S1x64x64.size a ≤ S1x2048x64.size a) ∧
  (∀ a, (k0_off280 v583) a + S1x64x128.size a ≤ S32x64x128.size a)
theorem k0_off152_inb : ∀ (v583 : BitVec 32) (k0_hw24 : k0_chk24 v583), ∀ a, (k0_off152 v583) a + S1x64x64.size a ≤ S1x2048x64.size a := fun v583 k0_hw24 => k0_hw24.1
theorem k0_off280_inb : ∀ (v583 : BitVec 32) (k0_hw24 : k0_chk24 v583), ∀ a, (k0_off280 v583) a + S1x64x128.size a ≤ S32x64x128.size a := fun v583 k0_hw24 => k0_hw24.2

def k0_off281 (v585 : BitVec 32) : Fin 3 → Nat :=
  let v2570 : Index := Scalar.indexCast v585
  let c0_2137 : Index := 0#32
  let c0_2138 : Index := 0#32
  ![v2570.toNat, 0, 0]

def k0_chk25 (v585 : BitVec 32) : Prop :=
  (∀ a, (k0_off153 v585) a + S1x64x64.size a ≤ S1x2048x64.size a) ∧
  (∀ a, (k0_off281 v585) a + S1x64x128.size a ≤ S32x64x128.size a)
theorem k0_off153_inb : ∀ (v585 : BitVec 32) (k0_hw25 : k0_chk25 v585), ∀ a, (k0_off153 v585) a + S1x64x64.size a ≤ S1x2048x64.size a := fun v585 k0_hw25 => k0_hw25.1
theorem k0_off281_inb : ∀ (v585 : BitVec 32) (k0_hw25 : k0_chk25 v585), ∀ a, (k0_off281 v585) a + S1x64x128.size a ≤ S32x64x128.size a := fun v585 k0_hw25 => k0_hw25.2

def k0_off282 (v587 : BitVec 32) : Fin 3 → Nat :=
  let v2573 : Index := Scalar.indexCast v587
  let c0_2139 : Index := 0#32
  let c0_2140 : Index := 0#32
  ![v2573.toNat, 0, 0]

def k0_chk26 (v587 : BitVec 32) : Prop :=
  (∀ a, (k0_off154 v587) a + S1x64x64.size a ≤ S1x2048x64.size a) ∧
  (∀ a, (k0_off282 v587) a + S1x64x128.size a ≤ S32x64x128.size a)
theorem k0_off154_inb : ∀ (v587 : BitVec 32) (k0_hw26 : k0_chk26 v587), ∀ a, (k0_off154 v587) a + S1x64x64.size a ≤ S1x2048x64.size a := fun v587 k0_hw26 => k0_hw26.1
theorem k0_off282_inb : ∀ (v587 : BitVec 32) (k0_hw26 : k0_chk26 v587), ∀ a, (k0_off282 v587) a + S1x64x128.size a ≤ S32x64x128.size a := fun v587 k0_hw26 => k0_hw26.2

def k0_off283 (v589 : BitVec 32) : Fin 3 → Nat :=
  let v2576 : Index := Scalar.indexCast v589
  let c0_2141 : Index := 0#32
  let c0_2142 : Index := 0#32
  ![v2576.toNat, 0, 0]

def k0_chk27 (v589 : BitVec 32) : Prop :=
  (∀ a, (k0_off155 v589) a + S1x64x64.size a ≤ S1x2048x64.size a) ∧
  (∀ a, (k0_off283 v589) a + S1x64x128.size a ≤ S32x64x128.size a)
theorem k0_off155_inb : ∀ (v589 : BitVec 32) (k0_hw27 : k0_chk27 v589), ∀ a, (k0_off155 v589) a + S1x64x64.size a ≤ S1x2048x64.size a := fun v589 k0_hw27 => k0_hw27.1
theorem k0_off283_inb : ∀ (v589 : BitVec 32) (k0_hw27 : k0_chk27 v589), ∀ a, (k0_off283 v589) a + S1x64x128.size a ≤ S32x64x128.size a := fun v589 k0_hw27 => k0_hw27.2

def k0_off284 (v591 : BitVec 32) : Fin 3 → Nat :=
  let v2579 : Index := Scalar.indexCast v591
  let c0_2143 : Index := 0#32
  let c0_2144 : Index := 0#32
  ![v2579.toNat, 0, 0]

def k0_chk28 (v591 : BitVec 32) : Prop :=
  (∀ a, (k0_off156 v591) a + S1x64x64.size a ≤ S1x2048x64.size a) ∧
  (∀ a, (k0_off284 v591) a + S1x64x128.size a ≤ S32x64x128.size a)
theorem k0_off156_inb : ∀ (v591 : BitVec 32) (k0_hw28 : k0_chk28 v591), ∀ a, (k0_off156 v591) a + S1x64x64.size a ≤ S1x2048x64.size a := fun v591 k0_hw28 => k0_hw28.1
theorem k0_off284_inb : ∀ (v591 : BitVec 32) (k0_hw28 : k0_chk28 v591), ∀ a, (k0_off284 v591) a + S1x64x128.size a ≤ S32x64x128.size a := fun v591 k0_hw28 => k0_hw28.2

def k0_off285 (v593 : BitVec 32) : Fin 3 → Nat :=
  let v2621 : Index := Scalar.indexCast v593
  let c0_2176 : Index := 0#32
  let c0_2177 : Index := 0#32
  ![v2621.toNat, 0, 0]

def k0_chk29 (v593 : BitVec 32) : Prop :=
  (∀ a, (k0_off157 v593) a + S1x64x64.size a ≤ S1x2048x64.size a) ∧
  (∀ a, (k0_off285 v593) a + S1x64x128.size a ≤ S32x64x128.size a)
theorem k0_off157_inb : ∀ (v593 : BitVec 32) (k0_hw29 : k0_chk29 v593), ∀ a, (k0_off157 v593) a + S1x64x64.size a ≤ S1x2048x64.size a := fun v593 k0_hw29 => k0_hw29.1
theorem k0_off285_inb : ∀ (v593 : BitVec 32) (k0_hw29 : k0_chk29 v593), ∀ a, (k0_off285 v593) a + S1x64x128.size a ≤ S32x64x128.size a := fun v593 k0_hw29 => k0_hw29.2

def k0_off286 (v595 : BitVec 32) : Fin 3 → Nat :=
  let v2624 : Index := Scalar.indexCast v595
  let c0_2178 : Index := 0#32
  let c0_2179 : Index := 0#32
  ![v2624.toNat, 0, 0]

def k0_chk30 (v595 : BitVec 32) : Prop :=
  (∀ a, (k0_off158 v595) a + S1x64x64.size a ≤ S1x2048x64.size a) ∧
  (∀ a, (k0_off286 v595) a + S1x64x128.size a ≤ S32x64x128.size a)
theorem k0_off158_inb : ∀ (v595 : BitVec 32) (k0_hw30 : k0_chk30 v595), ∀ a, (k0_off158 v595) a + S1x64x64.size a ≤ S1x2048x64.size a := fun v595 k0_hw30 => k0_hw30.1
theorem k0_off286_inb : ∀ (v595 : BitVec 32) (k0_hw30 : k0_chk30 v595), ∀ a, (k0_off286 v595) a + S1x64x128.size a ≤ S32x64x128.size a := fun v595 k0_hw30 => k0_hw30.2

def k0_off287 (v597 : BitVec 32) : Fin 3 → Nat :=
  let v2627 : Index := Scalar.indexCast v597
  let c0_2180 : Index := 0#32
  let c0_2181 : Index := 0#32
  ![v2627.toNat, 0, 0]

def k0_chk31 (v597 : BitVec 32) : Prop :=
  (∀ a, (k0_off159 v597) a + S1x64x64.size a ≤ S1x2048x64.size a) ∧
  (∀ a, (k0_off287 v597) a + S1x64x128.size a ≤ S32x64x128.size a)
theorem k0_off159_inb : ∀ (v597 : BitVec 32) (k0_hw31 : k0_chk31 v597), ∀ a, (k0_off159 v597) a + S1x64x64.size a ≤ S1x2048x64.size a := fun v597 k0_hw31 => k0_hw31.1
theorem k0_off287_inb : ∀ (v597 : BitVec 32) (k0_hw31 : k0_chk31 v597), ∀ a, (k0_off287 v597) a + S1x64x128.size a ≤ S32x64x128.size a := fun v597 k0_hw31 => k0_hw31.2

def k0_off288 (v599 : BitVec 32) : Fin 3 → Nat :=
  let v2630 : Index := Scalar.indexCast v599
  let c0_2182 : Index := 0#32
  let c0_2183 : Index := 0#32
  ![v2630.toNat, 0, 0]

def k0_chk32 (v599 : BitVec 32) : Prop :=
  (∀ a, (k0_off160 v599) a + S1x64x64.size a ≤ S1x2048x64.size a) ∧
  (∀ a, (k0_off288 v599) a + S1x64x128.size a ≤ S32x64x128.size a)
theorem k0_off160_inb : ∀ (v599 : BitVec 32) (k0_hw32 : k0_chk32 v599), ∀ a, (k0_off160 v599) a + S1x64x64.size a ≤ S1x2048x64.size a := fun v599 k0_hw32 => k0_hw32.1
theorem k0_off288_inb : ∀ (v599 : BitVec 32) (k0_hw32 : k0_chk32 v599), ∀ a, (k0_off288 v599) a + S1x64x128.size a ≤ S32x64x128.size a := fun v599 k0_hw32 => k0_hw32.2

def k0_off289 (v601 : BitVec 32) : Fin 3 → Nat :=
  let v2672 : Index := Scalar.indexCast v601
  let c0_2215 : Index := 0#32
  let c0_2216 : Index := 0#32
  ![v2672.toNat, 0, 0]

def k0_chk33 (v601 : BitVec 32) : Prop :=
  (∀ a, (k0_off161 v601) a + S1x64x64.size a ≤ S1x2048x64.size a) ∧
  (∀ a, (k0_off289 v601) a + S1x64x128.size a ≤ S32x64x128.size a)
theorem k0_off161_inb : ∀ (v601 : BitVec 32) (k0_hw33 : k0_chk33 v601), ∀ a, (k0_off161 v601) a + S1x64x64.size a ≤ S1x2048x64.size a := fun v601 k0_hw33 => k0_hw33.1
theorem k0_off289_inb : ∀ (v601 : BitVec 32) (k0_hw33 : k0_chk33 v601), ∀ a, (k0_off289 v601) a + S1x64x128.size a ≤ S32x64x128.size a := fun v601 k0_hw33 => k0_hw33.2

def k0_off290 (v603 : BitVec 32) : Fin 3 → Nat :=
  let v2675 : Index := Scalar.indexCast v603
  let c0_2217 : Index := 0#32
  let c0_2218 : Index := 0#32
  ![v2675.toNat, 0, 0]

def k0_chk34 (v603 : BitVec 32) : Prop :=
  (∀ a, (k0_off162 v603) a + S1x64x64.size a ≤ S1x2048x64.size a) ∧
  (∀ a, (k0_off290 v603) a + S1x64x128.size a ≤ S32x64x128.size a)
theorem k0_off162_inb : ∀ (v603 : BitVec 32) (k0_hw34 : k0_chk34 v603), ∀ a, (k0_off162 v603) a + S1x64x64.size a ≤ S1x2048x64.size a := fun v603 k0_hw34 => k0_hw34.1
theorem k0_off290_inb : ∀ (v603 : BitVec 32) (k0_hw34 : k0_chk34 v603), ∀ a, (k0_off290 v603) a + S1x64x128.size a ≤ S32x64x128.size a := fun v603 k0_hw34 => k0_hw34.2

def k0_off291 (v605 : BitVec 32) : Fin 3 → Nat :=
  let v2678 : Index := Scalar.indexCast v605
  let c0_2219 : Index := 0#32
  let c0_2220 : Index := 0#32
  ![v2678.toNat, 0, 0]

def k0_chk35 (v605 : BitVec 32) : Prop :=
  (∀ a, (k0_off163 v605) a + S1x64x64.size a ≤ S1x2048x64.size a) ∧
  (∀ a, (k0_off291 v605) a + S1x64x128.size a ≤ S32x64x128.size a)
theorem k0_off163_inb : ∀ (v605 : BitVec 32) (k0_hw35 : k0_chk35 v605), ∀ a, (k0_off163 v605) a + S1x64x64.size a ≤ S1x2048x64.size a := fun v605 k0_hw35 => k0_hw35.1
theorem k0_off291_inb : ∀ (v605 : BitVec 32) (k0_hw35 : k0_chk35 v605), ∀ a, (k0_off291 v605) a + S1x64x128.size a ≤ S32x64x128.size a := fun v605 k0_hw35 => k0_hw35.2

def k0_off292 (v607 : BitVec 32) : Fin 3 → Nat :=
  let v2681 : Index := Scalar.indexCast v607
  let c0_2221 : Index := 0#32
  let c0_2222 : Index := 0#32
  ![v2681.toNat, 0, 0]

def k0_chk36 (v607 : BitVec 32) : Prop :=
  (∀ a, (k0_off164 v607) a + S1x64x64.size a ≤ S1x2048x64.size a) ∧
  (∀ a, (k0_off292 v607) a + S1x64x128.size a ≤ S32x64x128.size a)
theorem k0_off164_inb : ∀ (v607 : BitVec 32) (k0_hw36 : k0_chk36 v607), ∀ a, (k0_off164 v607) a + S1x64x64.size a ≤ S1x2048x64.size a := fun v607 k0_hw36 => k0_hw36.1
theorem k0_off292_inb : ∀ (v607 : BitVec 32) (k0_hw36 : k0_chk36 v607), ∀ a, (k0_off292 v607) a + S1x64x128.size a ≤ S32x64x128.size a := fun v607 k0_hw36 => k0_hw36.2

def k0_off293 (v609 : BitVec 32) : Fin 3 → Nat :=
  let v2723 : Index := Scalar.indexCast v609
  let c0_2254 : Index := 0#32
  let c0_2255 : Index := 0#32
  ![v2723.toNat, 0, 0]

def k0_chk37 (v609 : BitVec 32) : Prop :=
  (∀ a, (k0_off165 v609) a + S1x64x64.size a ≤ S1x2048x64.size a) ∧
  (∀ a, (k0_off293 v609) a + S1x64x128.size a ≤ S32x64x128.size a)
theorem k0_off165_inb : ∀ (v609 : BitVec 32) (k0_hw37 : k0_chk37 v609), ∀ a, (k0_off165 v609) a + S1x64x64.size a ≤ S1x2048x64.size a := fun v609 k0_hw37 => k0_hw37.1
theorem k0_off293_inb : ∀ (v609 : BitVec 32) (k0_hw37 : k0_chk37 v609), ∀ a, (k0_off293 v609) a + S1x64x128.size a ≤ S32x64x128.size a := fun v609 k0_hw37 => k0_hw37.2

def k0_off294 (v611 : BitVec 32) : Fin 3 → Nat :=
  let v2726 : Index := Scalar.indexCast v611
  let c0_2256 : Index := 0#32
  let c0_2257 : Index := 0#32
  ![v2726.toNat, 0, 0]

def k0_chk38 (v611 : BitVec 32) : Prop :=
  (∀ a, (k0_off166 v611) a + S1x64x64.size a ≤ S1x2048x64.size a) ∧
  (∀ a, (k0_off294 v611) a + S1x64x128.size a ≤ S32x64x128.size a)
theorem k0_off166_inb : ∀ (v611 : BitVec 32) (k0_hw38 : k0_chk38 v611), ∀ a, (k0_off166 v611) a + S1x64x64.size a ≤ S1x2048x64.size a := fun v611 k0_hw38 => k0_hw38.1
theorem k0_off294_inb : ∀ (v611 : BitVec 32) (k0_hw38 : k0_chk38 v611), ∀ a, (k0_off294 v611) a + S1x64x128.size a ≤ S32x64x128.size a := fun v611 k0_hw38 => k0_hw38.2

def k0_off295 (v613 : BitVec 32) : Fin 3 → Nat :=
  let v2729 : Index := Scalar.indexCast v613
  let c0_2258 : Index := 0#32
  let c0_2259 : Index := 0#32
  ![v2729.toNat, 0, 0]

def k0_chk39 (v613 : BitVec 32) : Prop :=
  (∀ a, (k0_off167 v613) a + S1x64x64.size a ≤ S1x2048x64.size a) ∧
  (∀ a, (k0_off295 v613) a + S1x64x128.size a ≤ S32x64x128.size a)
theorem k0_off167_inb : ∀ (v613 : BitVec 32) (k0_hw39 : k0_chk39 v613), ∀ a, (k0_off167 v613) a + S1x64x64.size a ≤ S1x2048x64.size a := fun v613 k0_hw39 => k0_hw39.1
theorem k0_off295_inb : ∀ (v613 : BitVec 32) (k0_hw39 : k0_chk39 v613), ∀ a, (k0_off295 v613) a + S1x64x128.size a ≤ S32x64x128.size a := fun v613 k0_hw39 => k0_hw39.2

def k0_off296 (v615 : BitVec 32) : Fin 3 → Nat :=
  let v2732 : Index := Scalar.indexCast v615
  let c0_2260 : Index := 0#32
  let c0_2261 : Index := 0#32
  ![v2732.toNat, 0, 0]

def k0_chk40 (v615 : BitVec 32) : Prop :=
  (∀ a, (k0_off168 v615) a + S1x64x64.size a ≤ S1x2048x64.size a) ∧
  (∀ a, (k0_off296 v615) a + S1x64x128.size a ≤ S32x64x128.size a)
theorem k0_off168_inb : ∀ (v615 : BitVec 32) (k0_hw40 : k0_chk40 v615), ∀ a, (k0_off168 v615) a + S1x64x64.size a ≤ S1x2048x64.size a := fun v615 k0_hw40 => k0_hw40.1
theorem k0_off296_inb : ∀ (v615 : BitVec 32) (k0_hw40 : k0_chk40 v615), ∀ a, (k0_off296 v615) a + S1x64x128.size a ≤ S32x64x128.size a := fun v615 k0_hw40 => k0_hw40.2

def k0_off297 (v617 : BitVec 32) : Fin 3 → Nat :=
  let v2774 : Index := Scalar.indexCast v617
  let c0_2293 : Index := 0#32
  let c0_2294 : Index := 0#32
  ![v2774.toNat, 0, 0]

def k0_chk41 (v617 : BitVec 32) : Prop :=
  (∀ a, (k0_off169 v617) a + S1x64x64.size a ≤ S1x2048x64.size a) ∧
  (∀ a, (k0_off297 v617) a + S1x64x128.size a ≤ S32x64x128.size a)
theorem k0_off169_inb : ∀ (v617 : BitVec 32) (k0_hw41 : k0_chk41 v617), ∀ a, (k0_off169 v617) a + S1x64x64.size a ≤ S1x2048x64.size a := fun v617 k0_hw41 => k0_hw41.1
theorem k0_off297_inb : ∀ (v617 : BitVec 32) (k0_hw41 : k0_chk41 v617), ∀ a, (k0_off297 v617) a + S1x64x128.size a ≤ S32x64x128.size a := fun v617 k0_hw41 => k0_hw41.2

def k0_off298 (v619 : BitVec 32) : Fin 3 → Nat :=
  let v2777 : Index := Scalar.indexCast v619
  let c0_2295 : Index := 0#32
  let c0_2296 : Index := 0#32
  ![v2777.toNat, 0, 0]

def k0_chk42 (v619 : BitVec 32) : Prop :=
  (∀ a, (k0_off170 v619) a + S1x64x64.size a ≤ S1x2048x64.size a) ∧
  (∀ a, (k0_off298 v619) a + S1x64x128.size a ≤ S32x64x128.size a)
theorem k0_off170_inb : ∀ (v619 : BitVec 32) (k0_hw42 : k0_chk42 v619), ∀ a, (k0_off170 v619) a + S1x64x64.size a ≤ S1x2048x64.size a := fun v619 k0_hw42 => k0_hw42.1
theorem k0_off298_inb : ∀ (v619 : BitVec 32) (k0_hw42 : k0_chk42 v619), ∀ a, (k0_off298 v619) a + S1x64x128.size a ≤ S32x64x128.size a := fun v619 k0_hw42 => k0_hw42.2

def k0_off299 (v621 : BitVec 32) : Fin 3 → Nat :=
  let v2780 : Index := Scalar.indexCast v621
  let c0_2297 : Index := 0#32
  let c0_2298 : Index := 0#32
  ![v2780.toNat, 0, 0]

def k0_chk43 (v621 : BitVec 32) : Prop :=
  (∀ a, (k0_off171 v621) a + S1x64x64.size a ≤ S1x2048x64.size a) ∧
  (∀ a, (k0_off299 v621) a + S1x64x128.size a ≤ S32x64x128.size a)
theorem k0_off171_inb : ∀ (v621 : BitVec 32) (k0_hw43 : k0_chk43 v621), ∀ a, (k0_off171 v621) a + S1x64x64.size a ≤ S1x2048x64.size a := fun v621 k0_hw43 => k0_hw43.1
theorem k0_off299_inb : ∀ (v621 : BitVec 32) (k0_hw43 : k0_chk43 v621), ∀ a, (k0_off299 v621) a + S1x64x128.size a ≤ S32x64x128.size a := fun v621 k0_hw43 => k0_hw43.2

def k0_off300 (v623 : BitVec 32) : Fin 3 → Nat :=
  let v2783 : Index := Scalar.indexCast v623
  let c0_2299 : Index := 0#32
  let c0_2300 : Index := 0#32
  ![v2783.toNat, 0, 0]

def k0_chk44 (v623 : BitVec 32) : Prop :=
  (∀ a, (k0_off172 v623) a + S1x64x64.size a ≤ S1x2048x64.size a) ∧
  (∀ a, (k0_off300 v623) a + S1x64x128.size a ≤ S32x64x128.size a)
theorem k0_off172_inb : ∀ (v623 : BitVec 32) (k0_hw44 : k0_chk44 v623), ∀ a, (k0_off172 v623) a + S1x64x64.size a ≤ S1x2048x64.size a := fun v623 k0_hw44 => k0_hw44.1
theorem k0_off300_inb : ∀ (v623 : BitVec 32) (k0_hw44 : k0_chk44 v623), ∀ a, (k0_off300 v623) a + S1x64x128.size a ≤ S32x64x128.size a := fun v623 k0_hw44 => k0_hw44.2

def k0_off301 (v625 : BitVec 32) : Fin 3 → Nat :=
  let v2825 : Index := Scalar.indexCast v625
  let c0_2332 : Index := 0#32
  let c0_2333 : Index := 0#32
  ![v2825.toNat, 0, 0]

def k0_chk45 (v625 : BitVec 32) : Prop :=
  (∀ a, (k0_off173 v625) a + S1x64x64.size a ≤ S1x2048x64.size a) ∧
  (∀ a, (k0_off301 v625) a + S1x64x128.size a ≤ S32x64x128.size a)
theorem k0_off173_inb : ∀ (v625 : BitVec 32) (k0_hw45 : k0_chk45 v625), ∀ a, (k0_off173 v625) a + S1x64x64.size a ≤ S1x2048x64.size a := fun v625 k0_hw45 => k0_hw45.1
theorem k0_off301_inb : ∀ (v625 : BitVec 32) (k0_hw45 : k0_chk45 v625), ∀ a, (k0_off301 v625) a + S1x64x128.size a ≤ S32x64x128.size a := fun v625 k0_hw45 => k0_hw45.2

def k0_off302 (v627 : BitVec 32) : Fin 3 → Nat :=
  let v2828 : Index := Scalar.indexCast v627
  let c0_2334 : Index := 0#32
  let c0_2335 : Index := 0#32
  ![v2828.toNat, 0, 0]

def k0_chk46 (v627 : BitVec 32) : Prop :=
  (∀ a, (k0_off174 v627) a + S1x64x64.size a ≤ S1x2048x64.size a) ∧
  (∀ a, (k0_off302 v627) a + S1x64x128.size a ≤ S32x64x128.size a)
theorem k0_off174_inb : ∀ (v627 : BitVec 32) (k0_hw46 : k0_chk46 v627), ∀ a, (k0_off174 v627) a + S1x64x64.size a ≤ S1x2048x64.size a := fun v627 k0_hw46 => k0_hw46.1
theorem k0_off302_inb : ∀ (v627 : BitVec 32) (k0_hw46 : k0_chk46 v627), ∀ a, (k0_off302 v627) a + S1x64x128.size a ≤ S32x64x128.size a := fun v627 k0_hw46 => k0_hw46.2

def k0_off303 (v629 : BitVec 32) : Fin 3 → Nat :=
  let v2831 : Index := Scalar.indexCast v629
  let c0_2336 : Index := 0#32
  let c0_2337 : Index := 0#32
  ![v2831.toNat, 0, 0]

def k0_chk47 (v629 : BitVec 32) : Prop :=
  (∀ a, (k0_off175 v629) a + S1x64x64.size a ≤ S1x2048x64.size a) ∧
  (∀ a, (k0_off303 v629) a + S1x64x128.size a ≤ S32x64x128.size a)
theorem k0_off175_inb : ∀ (v629 : BitVec 32) (k0_hw47 : k0_chk47 v629), ∀ a, (k0_off175 v629) a + S1x64x64.size a ≤ S1x2048x64.size a := fun v629 k0_hw47 => k0_hw47.1
theorem k0_off303_inb : ∀ (v629 : BitVec 32) (k0_hw47 : k0_chk47 v629), ∀ a, (k0_off303 v629) a + S1x64x128.size a ≤ S32x64x128.size a := fun v629 k0_hw47 => k0_hw47.2

def k0_off304 (v631 : BitVec 32) : Fin 3 → Nat :=
  let v2834 : Index := Scalar.indexCast v631
  let c0_2338 : Index := 0#32
  let c0_2339 : Index := 0#32
  ![v2834.toNat, 0, 0]

def k0_chk48 (v631 : BitVec 32) : Prop :=
  (∀ a, (k0_off176 v631) a + S1x64x64.size a ≤ S1x2048x64.size a) ∧
  (∀ a, (k0_off304 v631) a + S1x64x128.size a ≤ S32x64x128.size a)
theorem k0_off176_inb : ∀ (v631 : BitVec 32) (k0_hw48 : k0_chk48 v631), ∀ a, (k0_off176 v631) a + S1x64x64.size a ≤ S1x2048x64.size a := fun v631 k0_hw48 => k0_hw48.1
theorem k0_off304_inb : ∀ (v631 : BitVec 32) (k0_hw48 : k0_chk48 v631), ∀ a, (k0_off304 v631) a + S1x64x128.size a ≤ S32x64x128.size a := fun v631 k0_hw48 => k0_hw48.2

def k0_off305 (v633 : BitVec 32) : Fin 3 → Nat :=
  let v2876 : Index := Scalar.indexCast v633
  let c0_2371 : Index := 0#32
  let c0_2372 : Index := 0#32
  ![v2876.toNat, 0, 0]

def k0_chk49 (v633 : BitVec 32) : Prop :=
  (∀ a, (k0_off177 v633) a + S1x64x64.size a ≤ S1x2048x64.size a) ∧
  (∀ a, (k0_off305 v633) a + S1x64x128.size a ≤ S32x64x128.size a)
theorem k0_off177_inb : ∀ (v633 : BitVec 32) (k0_hw49 : k0_chk49 v633), ∀ a, (k0_off177 v633) a + S1x64x64.size a ≤ S1x2048x64.size a := fun v633 k0_hw49 => k0_hw49.1
theorem k0_off305_inb : ∀ (v633 : BitVec 32) (k0_hw49 : k0_chk49 v633), ∀ a, (k0_off305 v633) a + S1x64x128.size a ≤ S32x64x128.size a := fun v633 k0_hw49 => k0_hw49.2

def k0_off306 (v635 : BitVec 32) : Fin 3 → Nat :=
  let v2879 : Index := Scalar.indexCast v635
  let c0_2373 : Index := 0#32
  let c0_2374 : Index := 0#32
  ![v2879.toNat, 0, 0]

def k0_chk50 (v635 : BitVec 32) : Prop :=
  (∀ a, (k0_off178 v635) a + S1x64x64.size a ≤ S1x2048x64.size a) ∧
  (∀ a, (k0_off306 v635) a + S1x64x128.size a ≤ S32x64x128.size a)
theorem k0_off178_inb : ∀ (v635 : BitVec 32) (k0_hw50 : k0_chk50 v635), ∀ a, (k0_off178 v635) a + S1x64x64.size a ≤ S1x2048x64.size a := fun v635 k0_hw50 => k0_hw50.1
theorem k0_off306_inb : ∀ (v635 : BitVec 32) (k0_hw50 : k0_chk50 v635), ∀ a, (k0_off306 v635) a + S1x64x128.size a ≤ S32x64x128.size a := fun v635 k0_hw50 => k0_hw50.2

def k0_off307 (v637 : BitVec 32) : Fin 3 → Nat :=
  let v2882 : Index := Scalar.indexCast v637
  let c0_2375 : Index := 0#32
  let c0_2376 : Index := 0#32
  ![v2882.toNat, 0, 0]

def k0_chk51 (v637 : BitVec 32) : Prop :=
  (∀ a, (k0_off179 v637) a + S1x64x64.size a ≤ S1x2048x64.size a) ∧
  (∀ a, (k0_off307 v637) a + S1x64x128.size a ≤ S32x64x128.size a)
theorem k0_off179_inb : ∀ (v637 : BitVec 32) (k0_hw51 : k0_chk51 v637), ∀ a, (k0_off179 v637) a + S1x64x64.size a ≤ S1x2048x64.size a := fun v637 k0_hw51 => k0_hw51.1
theorem k0_off307_inb : ∀ (v637 : BitVec 32) (k0_hw51 : k0_chk51 v637), ∀ a, (k0_off307 v637) a + S1x64x128.size a ≤ S32x64x128.size a := fun v637 k0_hw51 => k0_hw51.2

def k0_off308 (v639 : BitVec 32) : Fin 3 → Nat :=
  let v2885 : Index := Scalar.indexCast v639
  let c0_2377 : Index := 0#32
  let c0_2378 : Index := 0#32
  ![v2885.toNat, 0, 0]

def k0_chk52 (v639 : BitVec 32) : Prop :=
  (∀ a, (k0_off180 v639) a + S1x64x64.size a ≤ S1x2048x64.size a) ∧
  (∀ a, (k0_off308 v639) a + S1x64x128.size a ≤ S32x64x128.size a)
theorem k0_off180_inb : ∀ (v639 : BitVec 32) (k0_hw52 : k0_chk52 v639), ∀ a, (k0_off180 v639) a + S1x64x64.size a ≤ S1x2048x64.size a := fun v639 k0_hw52 => k0_hw52.1
theorem k0_off308_inb : ∀ (v639 : BitVec 32) (k0_hw52 : k0_chk52 v639), ∀ a, (k0_off308 v639) a + S1x64x128.size a ≤ S32x64x128.size a := fun v639 k0_hw52 => k0_hw52.2

def k0_off309 (v641 : BitVec 32) : Fin 3 → Nat :=
  let v2927 : Index := Scalar.indexCast v641
  let c0_2410 : Index := 0#32
  let c0_2411 : Index := 0#32
  ![v2927.toNat, 0, 0]

def k0_chk53 (v641 : BitVec 32) : Prop :=
  (∀ a, (k0_off181 v641) a + S1x64x64.size a ≤ S1x2048x64.size a) ∧
  (∀ a, (k0_off309 v641) a + S1x64x128.size a ≤ S32x64x128.size a)
theorem k0_off181_inb : ∀ (v641 : BitVec 32) (k0_hw53 : k0_chk53 v641), ∀ a, (k0_off181 v641) a + S1x64x64.size a ≤ S1x2048x64.size a := fun v641 k0_hw53 => k0_hw53.1
theorem k0_off309_inb : ∀ (v641 : BitVec 32) (k0_hw53 : k0_chk53 v641), ∀ a, (k0_off309 v641) a + S1x64x128.size a ≤ S32x64x128.size a := fun v641 k0_hw53 => k0_hw53.2

def k0_off310 (v643 : BitVec 32) : Fin 3 → Nat :=
  let v2930 : Index := Scalar.indexCast v643
  let c0_2412 : Index := 0#32
  let c0_2413 : Index := 0#32
  ![v2930.toNat, 0, 0]

def k0_chk54 (v643 : BitVec 32) : Prop :=
  (∀ a, (k0_off182 v643) a + S1x64x64.size a ≤ S1x2048x64.size a) ∧
  (∀ a, (k0_off310 v643) a + S1x64x128.size a ≤ S32x64x128.size a)
theorem k0_off182_inb : ∀ (v643 : BitVec 32) (k0_hw54 : k0_chk54 v643), ∀ a, (k0_off182 v643) a + S1x64x64.size a ≤ S1x2048x64.size a := fun v643 k0_hw54 => k0_hw54.1
theorem k0_off310_inb : ∀ (v643 : BitVec 32) (k0_hw54 : k0_chk54 v643), ∀ a, (k0_off310 v643) a + S1x64x128.size a ≤ S32x64x128.size a := fun v643 k0_hw54 => k0_hw54.2

def k0_off311 (v645 : BitVec 32) : Fin 3 → Nat :=
  let v2933 : Index := Scalar.indexCast v645
  let c0_2414 : Index := 0#32
  let c0_2415 : Index := 0#32
  ![v2933.toNat, 0, 0]

def k0_chk55 (v645 : BitVec 32) : Prop :=
  (∀ a, (k0_off183 v645) a + S1x64x64.size a ≤ S1x2048x64.size a) ∧
  (∀ a, (k0_off311 v645) a + S1x64x128.size a ≤ S32x64x128.size a)
theorem k0_off183_inb : ∀ (v645 : BitVec 32) (k0_hw55 : k0_chk55 v645), ∀ a, (k0_off183 v645) a + S1x64x64.size a ≤ S1x2048x64.size a := fun v645 k0_hw55 => k0_hw55.1
theorem k0_off311_inb : ∀ (v645 : BitVec 32) (k0_hw55 : k0_chk55 v645), ∀ a, (k0_off311 v645) a + S1x64x128.size a ≤ S32x64x128.size a := fun v645 k0_hw55 => k0_hw55.2

def k0_off312 (v647 : BitVec 32) : Fin 3 → Nat :=
  let v2936 : Index := Scalar.indexCast v647
  let c0_2416 : Index := 0#32
  let c0_2417 : Index := 0#32
  ![v2936.toNat, 0, 0]

def k0_chk56 (v647 : BitVec 32) : Prop :=
  (∀ a, (k0_off184 v647) a + S1x64x64.size a ≤ S1x2048x64.size a) ∧
  (∀ a, (k0_off312 v647) a + S1x64x128.size a ≤ S32x64x128.size a)
theorem k0_off184_inb : ∀ (v647 : BitVec 32) (k0_hw56 : k0_chk56 v647), ∀ a, (k0_off184 v647) a + S1x64x64.size a ≤ S1x2048x64.size a := fun v647 k0_hw56 => k0_hw56.1
theorem k0_off312_inb : ∀ (v647 : BitVec 32) (k0_hw56 : k0_chk56 v647), ∀ a, (k0_off312 v647) a + S1x64x128.size a ≤ S32x64x128.size a := fun v647 k0_hw56 => k0_hw56.2

def k0_off313 (v649 : BitVec 32) : Fin 3 → Nat :=
  let v2978 : Index := Scalar.indexCast v649
  let c0_2449 : Index := 0#32
  let c0_2450 : Index := 0#32
  ![v2978.toNat, 0, 0]

def k0_chk57 (v649 : BitVec 32) : Prop :=
  (∀ a, (k0_off185 v649) a + S1x64x64.size a ≤ S1x2048x64.size a) ∧
  (∀ a, (k0_off313 v649) a + S1x64x128.size a ≤ S32x64x128.size a)
theorem k0_off185_inb : ∀ (v649 : BitVec 32) (k0_hw57 : k0_chk57 v649), ∀ a, (k0_off185 v649) a + S1x64x64.size a ≤ S1x2048x64.size a := fun v649 k0_hw57 => k0_hw57.1
theorem k0_off313_inb : ∀ (v649 : BitVec 32) (k0_hw57 : k0_chk57 v649), ∀ a, (k0_off313 v649) a + S1x64x128.size a ≤ S32x64x128.size a := fun v649 k0_hw57 => k0_hw57.2

def k0_off314 (v651 : BitVec 32) : Fin 3 → Nat :=
  let v2981 : Index := Scalar.indexCast v651
  let c0_2451 : Index := 0#32
  let c0_2452 : Index := 0#32
  ![v2981.toNat, 0, 0]

def k0_chk58 (v651 : BitVec 32) : Prop :=
  (∀ a, (k0_off186 v651) a + S1x64x64.size a ≤ S1x2048x64.size a) ∧
  (∀ a, (k0_off314 v651) a + S1x64x128.size a ≤ S32x64x128.size a)
theorem k0_off186_inb : ∀ (v651 : BitVec 32) (k0_hw58 : k0_chk58 v651), ∀ a, (k0_off186 v651) a + S1x64x64.size a ≤ S1x2048x64.size a := fun v651 k0_hw58 => k0_hw58.1
theorem k0_off314_inb : ∀ (v651 : BitVec 32) (k0_hw58 : k0_chk58 v651), ∀ a, (k0_off314 v651) a + S1x64x128.size a ≤ S32x64x128.size a := fun v651 k0_hw58 => k0_hw58.2

def k0_off315 (v653 : BitVec 32) : Fin 3 → Nat :=
  let v2984 : Index := Scalar.indexCast v653
  let c0_2453 : Index := 0#32
  let c0_2454 : Index := 0#32
  ![v2984.toNat, 0, 0]

def k0_chk59 (v653 : BitVec 32) : Prop :=
  (∀ a, (k0_off187 v653) a + S1x64x64.size a ≤ S1x2048x64.size a) ∧
  (∀ a, (k0_off315 v653) a + S1x64x128.size a ≤ S32x64x128.size a)
theorem k0_off187_inb : ∀ (v653 : BitVec 32) (k0_hw59 : k0_chk59 v653), ∀ a, (k0_off187 v653) a + S1x64x64.size a ≤ S1x2048x64.size a := fun v653 k0_hw59 => k0_hw59.1
theorem k0_off315_inb : ∀ (v653 : BitVec 32) (k0_hw59 : k0_chk59 v653), ∀ a, (k0_off315 v653) a + S1x64x128.size a ≤ S32x64x128.size a := fun v653 k0_hw59 => k0_hw59.2

def k0_off316 (v655 : BitVec 32) : Fin 3 → Nat :=
  let v2987 : Index := Scalar.indexCast v655
  let c0_2455 : Index := 0#32
  let c0_2456 : Index := 0#32
  ![v2987.toNat, 0, 0]

def k0_chk60 (v655 : BitVec 32) : Prop :=
  (∀ a, (k0_off188 v655) a + S1x64x64.size a ≤ S1x2048x64.size a) ∧
  (∀ a, (k0_off316 v655) a + S1x64x128.size a ≤ S32x64x128.size a)
theorem k0_off188_inb : ∀ (v655 : BitVec 32) (k0_hw60 : k0_chk60 v655), ∀ a, (k0_off188 v655) a + S1x64x64.size a ≤ S1x2048x64.size a := fun v655 k0_hw60 => k0_hw60.1
theorem k0_off316_inb : ∀ (v655 : BitVec 32) (k0_hw60 : k0_chk60 v655), ∀ a, (k0_off316 v655) a + S1x64x128.size a ≤ S32x64x128.size a := fun v655 k0_hw60 => k0_hw60.2

def k0_off317 (v657 : BitVec 32) : Fin 3 → Nat :=
  let v3029 : Index := Scalar.indexCast v657
  let c0_2488 : Index := 0#32
  let c0_2489 : Index := 0#32
  ![v3029.toNat, 0, 0]

def k0_chk61 (v657 : BitVec 32) : Prop :=
  (∀ a, (k0_off189 v657) a + S1x64x64.size a ≤ S1x2048x64.size a) ∧
  (∀ a, (k0_off317 v657) a + S1x64x128.size a ≤ S32x64x128.size a)
theorem k0_off189_inb : ∀ (v657 : BitVec 32) (k0_hw61 : k0_chk61 v657), ∀ a, (k0_off189 v657) a + S1x64x64.size a ≤ S1x2048x64.size a := fun v657 k0_hw61 => k0_hw61.1
theorem k0_off317_inb : ∀ (v657 : BitVec 32) (k0_hw61 : k0_chk61 v657), ∀ a, (k0_off317 v657) a + S1x64x128.size a ≤ S32x64x128.size a := fun v657 k0_hw61 => k0_hw61.2

def k0_off318 (v659 : BitVec 32) : Fin 3 → Nat :=
  let v3032 : Index := Scalar.indexCast v659
  let c0_2490 : Index := 0#32
  let c0_2491 : Index := 0#32
  ![v3032.toNat, 0, 0]

def k0_chk62 (v659 : BitVec 32) : Prop :=
  (∀ a, (k0_off190 v659) a + S1x64x64.size a ≤ S1x2048x64.size a) ∧
  (∀ a, (k0_off318 v659) a + S1x64x128.size a ≤ S32x64x128.size a)
theorem k0_off190_inb : ∀ (v659 : BitVec 32) (k0_hw62 : k0_chk62 v659), ∀ a, (k0_off190 v659) a + S1x64x64.size a ≤ S1x2048x64.size a := fun v659 k0_hw62 => k0_hw62.1
theorem k0_off318_inb : ∀ (v659 : BitVec 32) (k0_hw62 : k0_chk62 v659), ∀ a, (k0_off318 v659) a + S1x64x128.size a ≤ S32x64x128.size a := fun v659 k0_hw62 => k0_hw62.2

def k0_off319 (v661 : BitVec 32) : Fin 3 → Nat :=
  let v3035 : Index := Scalar.indexCast v661
  let c0_2492 : Index := 0#32
  let c0_2493 : Index := 0#32
  ![v3035.toNat, 0, 0]

def k0_chk63 (v661 : BitVec 32) : Prop :=
  (∀ a, (k0_off191 v661) a + S1x64x64.size a ≤ S1x2048x64.size a) ∧
  (∀ a, (k0_off319 v661) a + S1x64x128.size a ≤ S32x64x128.size a)
theorem k0_off191_inb : ∀ (v661 : BitVec 32) (k0_hw63 : k0_chk63 v661), ∀ a, (k0_off191 v661) a + S1x64x64.size a ≤ S1x2048x64.size a := fun v661 k0_hw63 => k0_hw63.1
theorem k0_off319_inb : ∀ (v661 : BitVec 32) (k0_hw63 : k0_chk63 v661), ∀ a, (k0_off319 v661) a + S1x64x128.size a ≤ S32x64x128.size a := fun v661 k0_hw63 => k0_hw63.2

def k0_off320 (v663 : BitVec 32) : Fin 3 → Nat :=
  let v3038 : Index := Scalar.indexCast v663
  let c0_2494 : Index := 0#32
  let c0_2495 : Index := 0#32
  ![v3038.toNat, 0, 0]

def k0_chk64 (v663 : BitVec 32) : Prop :=
  (∀ a, (k0_off192 v663) a + S1x64x64.size a ≤ S1x2048x64.size a) ∧
  (∀ a, (k0_off320 v663) a + S1x64x128.size a ≤ S32x64x128.size a)
theorem k0_off192_inb : ∀ (v663 : BitVec 32) (k0_hw64 : k0_chk64 v663), ∀ a, (k0_off192 v663) a + S1x64x64.size a ≤ S1x2048x64.size a := fun v663 k0_hw64 => k0_hw64.1
theorem k0_off320_inb : ∀ (v663 : BitVec 32) (k0_hw64 : k0_chk64 v663), ∀ a, (k0_off320 v663) a + S1x64x128.size a ≤ S32x64x128.size a := fun v663 k0_hw64 => k0_hw64.2

def k0_off321 (v665 : BitVec 32) : Fin 3 → Nat :=
  let v3080 : Index := Scalar.indexCast v665
  let c0_2527 : Index := 0#32
  let c0_2528 : Index := 0#32
  ![v3080.toNat, 0, 0]

def k0_chk65 (v665 : BitVec 32) : Prop :=
  (∀ a, (k0_off193 v665) a + S1x64x64.size a ≤ S1x2048x64.size a) ∧
  (∀ a, (k0_off321 v665) a + S1x64x128.size a ≤ S32x64x128.size a)
theorem k0_off193_inb : ∀ (v665 : BitVec 32) (k0_hw65 : k0_chk65 v665), ∀ a, (k0_off193 v665) a + S1x64x64.size a ≤ S1x2048x64.size a := fun v665 k0_hw65 => k0_hw65.1
theorem k0_off321_inb : ∀ (v665 : BitVec 32) (k0_hw65 : k0_chk65 v665), ∀ a, (k0_off321 v665) a + S1x64x128.size a ≤ S32x64x128.size a := fun v665 k0_hw65 => k0_hw65.2

def k0_off322 (v667 : BitVec 32) : Fin 3 → Nat :=
  let v3083 : Index := Scalar.indexCast v667
  let c0_2529 : Index := 0#32
  let c0_2530 : Index := 0#32
  ![v3083.toNat, 0, 0]

def k0_chk66 (v667 : BitVec 32) : Prop :=
  (∀ a, (k0_off194 v667) a + S1x64x64.size a ≤ S1x2048x64.size a) ∧
  (∀ a, (k0_off322 v667) a + S1x64x128.size a ≤ S32x64x128.size a)
theorem k0_off194_inb : ∀ (v667 : BitVec 32) (k0_hw66 : k0_chk66 v667), ∀ a, (k0_off194 v667) a + S1x64x64.size a ≤ S1x2048x64.size a := fun v667 k0_hw66 => k0_hw66.1
theorem k0_off322_inb : ∀ (v667 : BitVec 32) (k0_hw66 : k0_chk66 v667), ∀ a, (k0_off322 v667) a + S1x64x128.size a ≤ S32x64x128.size a := fun v667 k0_hw66 => k0_hw66.2

def k0_off323 (v669 : BitVec 32) : Fin 3 → Nat :=
  let v3086 : Index := Scalar.indexCast v669
  let c0_2531 : Index := 0#32
  let c0_2532 : Index := 0#32
  ![v3086.toNat, 0, 0]

def k0_chk67 (v669 : BitVec 32) : Prop :=
  (∀ a, (k0_off195 v669) a + S1x64x64.size a ≤ S1x2048x64.size a) ∧
  (∀ a, (k0_off323 v669) a + S1x64x128.size a ≤ S32x64x128.size a)
theorem k0_off195_inb : ∀ (v669 : BitVec 32) (k0_hw67 : k0_chk67 v669), ∀ a, (k0_off195 v669) a + S1x64x64.size a ≤ S1x2048x64.size a := fun v669 k0_hw67 => k0_hw67.1
theorem k0_off323_inb : ∀ (v669 : BitVec 32) (k0_hw67 : k0_chk67 v669), ∀ a, (k0_off323 v669) a + S1x64x128.size a ≤ S32x64x128.size a := fun v669 k0_hw67 => k0_hw67.2

def k0_off324 (v671 : BitVec 32) : Fin 3 → Nat :=
  let v3089 : Index := Scalar.indexCast v671
  let c0_2533 : Index := 0#32
  let c0_2534 : Index := 0#32
  ![v3089.toNat, 0, 0]

def k0_chk68 (v671 : BitVec 32) : Prop :=
  (∀ a, (k0_off196 v671) a + S1x64x64.size a ≤ S1x2048x64.size a) ∧
  (∀ a, (k0_off324 v671) a + S1x64x128.size a ≤ S32x64x128.size a)
theorem k0_off196_inb : ∀ (v671 : BitVec 32) (k0_hw68 : k0_chk68 v671), ∀ a, (k0_off196 v671) a + S1x64x64.size a ≤ S1x2048x64.size a := fun v671 k0_hw68 => k0_hw68.1
theorem k0_off324_inb : ∀ (v671 : BitVec 32) (k0_hw68 : k0_chk68 v671), ∀ a, (k0_off324 v671) a + S1x64x128.size a ≤ S32x64x128.size a := fun v671 k0_hw68 => k0_hw68.2

def k0_off325 (v673 : BitVec 32) : Fin 3 → Nat :=
  let v3131 : Index := Scalar.indexCast v673
  let c0_2566 : Index := 0#32
  let c0_2567 : Index := 0#32
  ![v3131.toNat, 0, 0]

def k0_chk69 (v673 : BitVec 32) : Prop :=
  (∀ a, (k0_off197 v673) a + S1x64x64.size a ≤ S1x2048x64.size a) ∧
  (∀ a, (k0_off325 v673) a + S1x64x128.size a ≤ S32x64x128.size a)
theorem k0_off197_inb : ∀ (v673 : BitVec 32) (k0_hw69 : k0_chk69 v673), ∀ a, (k0_off197 v673) a + S1x64x64.size a ≤ S1x2048x64.size a := fun v673 k0_hw69 => k0_hw69.1
theorem k0_off325_inb : ∀ (v673 : BitVec 32) (k0_hw69 : k0_chk69 v673), ∀ a, (k0_off325 v673) a + S1x64x128.size a ≤ S32x64x128.size a := fun v673 k0_hw69 => k0_hw69.2

def k0_off326 (v675 : BitVec 32) : Fin 3 → Nat :=
  let v3134 : Index := Scalar.indexCast v675
  let c0_2568 : Index := 0#32
  let c0_2569 : Index := 0#32
  ![v3134.toNat, 0, 0]

def k0_chk70 (v675 : BitVec 32) : Prop :=
  (∀ a, (k0_off198 v675) a + S1x64x64.size a ≤ S1x2048x64.size a) ∧
  (∀ a, (k0_off326 v675) a + S1x64x128.size a ≤ S32x64x128.size a)
theorem k0_off198_inb : ∀ (v675 : BitVec 32) (k0_hw70 : k0_chk70 v675), ∀ a, (k0_off198 v675) a + S1x64x64.size a ≤ S1x2048x64.size a := fun v675 k0_hw70 => k0_hw70.1
theorem k0_off326_inb : ∀ (v675 : BitVec 32) (k0_hw70 : k0_chk70 v675), ∀ a, (k0_off326 v675) a + S1x64x128.size a ≤ S32x64x128.size a := fun v675 k0_hw70 => k0_hw70.2

def k0_off327 (v677 : BitVec 32) : Fin 3 → Nat :=
  let v3137 : Index := Scalar.indexCast v677
  let c0_2570 : Index := 0#32
  let c0_2571 : Index := 0#32
  ![v3137.toNat, 0, 0]

def k0_chk71 (v677 : BitVec 32) : Prop :=
  (∀ a, (k0_off199 v677) a + S1x64x64.size a ≤ S1x2048x64.size a) ∧
  (∀ a, (k0_off327 v677) a + S1x64x128.size a ≤ S32x64x128.size a)
theorem k0_off199_inb : ∀ (v677 : BitVec 32) (k0_hw71 : k0_chk71 v677), ∀ a, (k0_off199 v677) a + S1x64x64.size a ≤ S1x2048x64.size a := fun v677 k0_hw71 => k0_hw71.1
theorem k0_off327_inb : ∀ (v677 : BitVec 32) (k0_hw71 : k0_chk71 v677), ∀ a, (k0_off327 v677) a + S1x64x128.size a ≤ S32x64x128.size a := fun v677 k0_hw71 => k0_hw71.2

def k0_off328 (v679 : BitVec 32) : Fin 3 → Nat :=
  let v3140 : Index := Scalar.indexCast v679
  let c0_2572 : Index := 0#32
  let c0_2573 : Index := 0#32
  ![v3140.toNat, 0, 0]

def k0_chk72 (v679 : BitVec 32) : Prop :=
  (∀ a, (k0_off200 v679) a + S1x64x64.size a ≤ S1x2048x64.size a) ∧
  (∀ a, (k0_off328 v679) a + S1x64x128.size a ≤ S32x64x128.size a)
theorem k0_off200_inb : ∀ (v679 : BitVec 32) (k0_hw72 : k0_chk72 v679), ∀ a, (k0_off200 v679) a + S1x64x64.size a ≤ S1x2048x64.size a := fun v679 k0_hw72 => k0_hw72.1
theorem k0_off328_inb : ∀ (v679 : BitVec 32) (k0_hw72 : k0_chk72 v679), ∀ a, (k0_off328 v679) a + S1x64x128.size a ≤ S32x64x128.size a := fun v679 k0_hw72 => k0_hw72.2

def k0_off329 (v681 : BitVec 32) : Fin 3 → Nat :=
  let v3182 : Index := Scalar.indexCast v681
  let c0_2605 : Index := 0#32
  let c0_2606 : Index := 0#32
  ![v3182.toNat, 0, 0]

def k0_chk73 (v681 : BitVec 32) : Prop :=
  (∀ a, (k0_off201 v681) a + S1x64x64.size a ≤ S1x2048x64.size a) ∧
  (∀ a, (k0_off329 v681) a + S1x64x128.size a ≤ S32x64x128.size a)
theorem k0_off201_inb : ∀ (v681 : BitVec 32) (k0_hw73 : k0_chk73 v681), ∀ a, (k0_off201 v681) a + S1x64x64.size a ≤ S1x2048x64.size a := fun v681 k0_hw73 => k0_hw73.1
theorem k0_off329_inb : ∀ (v681 : BitVec 32) (k0_hw73 : k0_chk73 v681), ∀ a, (k0_off329 v681) a + S1x64x128.size a ≤ S32x64x128.size a := fun v681 k0_hw73 => k0_hw73.2

def k0_off330 (v683 : BitVec 32) : Fin 3 → Nat :=
  let v3185 : Index := Scalar.indexCast v683
  let c0_2607 : Index := 0#32
  let c0_2608 : Index := 0#32
  ![v3185.toNat, 0, 0]

def k0_chk74 (v683 : BitVec 32) : Prop :=
  (∀ a, (k0_off202 v683) a + S1x64x64.size a ≤ S1x2048x64.size a) ∧
  (∀ a, (k0_off330 v683) a + S1x64x128.size a ≤ S32x64x128.size a)
theorem k0_off202_inb : ∀ (v683 : BitVec 32) (k0_hw74 : k0_chk74 v683), ∀ a, (k0_off202 v683) a + S1x64x64.size a ≤ S1x2048x64.size a := fun v683 k0_hw74 => k0_hw74.1
theorem k0_off330_inb : ∀ (v683 : BitVec 32) (k0_hw74 : k0_chk74 v683), ∀ a, (k0_off330 v683) a + S1x64x128.size a ≤ S32x64x128.size a := fun v683 k0_hw74 => k0_hw74.2

def k0_off331 (v685 : BitVec 32) : Fin 3 → Nat :=
  let v3188 : Index := Scalar.indexCast v685
  let c0_2609 : Index := 0#32
  let c0_2610 : Index := 0#32
  ![v3188.toNat, 0, 0]

def k0_chk75 (v685 : BitVec 32) : Prop :=
  (∀ a, (k0_off203 v685) a + S1x64x64.size a ≤ S1x2048x64.size a) ∧
  (∀ a, (k0_off331 v685) a + S1x64x128.size a ≤ S32x64x128.size a)
theorem k0_off203_inb : ∀ (v685 : BitVec 32) (k0_hw75 : k0_chk75 v685), ∀ a, (k0_off203 v685) a + S1x64x64.size a ≤ S1x2048x64.size a := fun v685 k0_hw75 => k0_hw75.1
theorem k0_off331_inb : ∀ (v685 : BitVec 32) (k0_hw75 : k0_chk75 v685), ∀ a, (k0_off331 v685) a + S1x64x128.size a ≤ S32x64x128.size a := fun v685 k0_hw75 => k0_hw75.2

def k0_off332 (v687 : BitVec 32) : Fin 3 → Nat :=
  let v3191 : Index := Scalar.indexCast v687
  let c0_2611 : Index := 0#32
  let c0_2612 : Index := 0#32
  ![v3191.toNat, 0, 0]

def k0_chk76 (v687 : BitVec 32) : Prop :=
  (∀ a, (k0_off204 v687) a + S1x64x64.size a ≤ S1x2048x64.size a) ∧
  (∀ a, (k0_off332 v687) a + S1x64x128.size a ≤ S32x64x128.size a)
theorem k0_off204_inb : ∀ (v687 : BitVec 32) (k0_hw76 : k0_chk76 v687), ∀ a, (k0_off204 v687) a + S1x64x64.size a ≤ S1x2048x64.size a := fun v687 k0_hw76 => k0_hw76.1
theorem k0_off332_inb : ∀ (v687 : BitVec 32) (k0_hw76 : k0_chk76 v687), ∀ a, (k0_off332 v687) a + S1x64x128.size a ≤ S32x64x128.size a := fun v687 k0_hw76 => k0_hw76.2

def k0_off333 (v689 : BitVec 32) : Fin 3 → Nat :=
  let v3233 : Index := Scalar.indexCast v689
  let c0_2644 : Index := 0#32
  let c0_2645 : Index := 0#32
  ![v3233.toNat, 0, 0]

def k0_chk77 (v689 : BitVec 32) : Prop :=
  (∀ a, (k0_off205 v689) a + S1x64x64.size a ≤ S1x2048x64.size a) ∧
  (∀ a, (k0_off333 v689) a + S1x64x128.size a ≤ S32x64x128.size a)
theorem k0_off205_inb : ∀ (v689 : BitVec 32) (k0_hw77 : k0_chk77 v689), ∀ a, (k0_off205 v689) a + S1x64x64.size a ≤ S1x2048x64.size a := fun v689 k0_hw77 => k0_hw77.1
theorem k0_off333_inb : ∀ (v689 : BitVec 32) (k0_hw77 : k0_chk77 v689), ∀ a, (k0_off333 v689) a + S1x64x128.size a ≤ S32x64x128.size a := fun v689 k0_hw77 => k0_hw77.2

def k0_off334 (v691 : BitVec 32) : Fin 3 → Nat :=
  let v3236 : Index := Scalar.indexCast v691
  let c0_2646 : Index := 0#32
  let c0_2647 : Index := 0#32
  ![v3236.toNat, 0, 0]

def k0_chk78 (v691 : BitVec 32) : Prop :=
  (∀ a, (k0_off206 v691) a + S1x64x64.size a ≤ S1x2048x64.size a) ∧
  (∀ a, (k0_off334 v691) a + S1x64x128.size a ≤ S32x64x128.size a)
theorem k0_off206_inb : ∀ (v691 : BitVec 32) (k0_hw78 : k0_chk78 v691), ∀ a, (k0_off206 v691) a + S1x64x64.size a ≤ S1x2048x64.size a := fun v691 k0_hw78 => k0_hw78.1
theorem k0_off334_inb : ∀ (v691 : BitVec 32) (k0_hw78 : k0_chk78 v691), ∀ a, (k0_off334 v691) a + S1x64x128.size a ≤ S32x64x128.size a := fun v691 k0_hw78 => k0_hw78.2

def k0_off335 (v693 : BitVec 32) : Fin 3 → Nat :=
  let v3239 : Index := Scalar.indexCast v693
  let c0_2648 : Index := 0#32
  let c0_2649 : Index := 0#32
  ![v3239.toNat, 0, 0]

def k0_chk79 (v693 : BitVec 32) : Prop :=
  (∀ a, (k0_off207 v693) a + S1x64x64.size a ≤ S1x2048x64.size a) ∧
  (∀ a, (k0_off335 v693) a + S1x64x128.size a ≤ S32x64x128.size a)
theorem k0_off207_inb : ∀ (v693 : BitVec 32) (k0_hw79 : k0_chk79 v693), ∀ a, (k0_off207 v693) a + S1x64x64.size a ≤ S1x2048x64.size a := fun v693 k0_hw79 => k0_hw79.1
theorem k0_off335_inb : ∀ (v693 : BitVec 32) (k0_hw79 : k0_chk79 v693), ∀ a, (k0_off335 v693) a + S1x64x128.size a ≤ S32x64x128.size a := fun v693 k0_hw79 => k0_hw79.2

def k0_off336 (v695 : BitVec 32) : Fin 3 → Nat :=
  let v3242 : Index := Scalar.indexCast v695
  let c0_2650 : Index := 0#32
  let c0_2651 : Index := 0#32
  ![v3242.toNat, 0, 0]

def k0_chk80 (v695 : BitVec 32) : Prop :=
  (∀ a, (k0_off208 v695) a + S1x64x64.size a ≤ S1x2048x64.size a) ∧
  (∀ a, (k0_off336 v695) a + S1x64x128.size a ≤ S32x64x128.size a)
theorem k0_off208_inb : ∀ (v695 : BitVec 32) (k0_hw80 : k0_chk80 v695), ∀ a, (k0_off208 v695) a + S1x64x64.size a ≤ S1x2048x64.size a := fun v695 k0_hw80 => k0_hw80.1
theorem k0_off336_inb : ∀ (v695 : BitVec 32) (k0_hw80 : k0_chk80 v695), ∀ a, (k0_off336 v695) a + S1x64x128.size a ≤ S32x64x128.size a := fun v695 k0_hw80 => k0_hw80.2

def k0_off337 (v697 : BitVec 32) : Fin 3 → Nat :=
  let v3284 : Index := Scalar.indexCast v697
  let c0_2683 : Index := 0#32
  let c0_2684 : Index := 0#32
  ![v3284.toNat, 0, 0]

def k0_chk81 (v697 : BitVec 32) : Prop :=
  (∀ a, (k0_off209 v697) a + S1x64x64.size a ≤ S1x2048x64.size a) ∧
  (∀ a, (k0_off337 v697) a + S1x64x128.size a ≤ S32x64x128.size a)
theorem k0_off209_inb : ∀ (v697 : BitVec 32) (k0_hw81 : k0_chk81 v697), ∀ a, (k0_off209 v697) a + S1x64x64.size a ≤ S1x2048x64.size a := fun v697 k0_hw81 => k0_hw81.1
theorem k0_off337_inb : ∀ (v697 : BitVec 32) (k0_hw81 : k0_chk81 v697), ∀ a, (k0_off337 v697) a + S1x64x128.size a ≤ S32x64x128.size a := fun v697 k0_hw81 => k0_hw81.2

def k0_off338 (v699 : BitVec 32) : Fin 3 → Nat :=
  let v3287 : Index := Scalar.indexCast v699
  let c0_2685 : Index := 0#32
  let c0_2686 : Index := 0#32
  ![v3287.toNat, 0, 0]

def k0_chk82 (v699 : BitVec 32) : Prop :=
  (∀ a, (k0_off210 v699) a + S1x64x64.size a ≤ S1x2048x64.size a) ∧
  (∀ a, (k0_off338 v699) a + S1x64x128.size a ≤ S32x64x128.size a)
theorem k0_off210_inb : ∀ (v699 : BitVec 32) (k0_hw82 : k0_chk82 v699), ∀ a, (k0_off210 v699) a + S1x64x64.size a ≤ S1x2048x64.size a := fun v699 k0_hw82 => k0_hw82.1
theorem k0_off338_inb : ∀ (v699 : BitVec 32) (k0_hw82 : k0_chk82 v699), ∀ a, (k0_off338 v699) a + S1x64x128.size a ≤ S32x64x128.size a := fun v699 k0_hw82 => k0_hw82.2

def k0_off339 (v701 : BitVec 32) : Fin 3 → Nat :=
  let v3290 : Index := Scalar.indexCast v701
  let c0_2687 : Index := 0#32
  let c0_2688 : Index := 0#32
  ![v3290.toNat, 0, 0]

def k0_chk83 (v701 : BitVec 32) : Prop :=
  (∀ a, (k0_off211 v701) a + S1x64x64.size a ≤ S1x2048x64.size a) ∧
  (∀ a, (k0_off339 v701) a + S1x64x128.size a ≤ S32x64x128.size a)
theorem k0_off211_inb : ∀ (v701 : BitVec 32) (k0_hw83 : k0_chk83 v701), ∀ a, (k0_off211 v701) a + S1x64x64.size a ≤ S1x2048x64.size a := fun v701 k0_hw83 => k0_hw83.1
theorem k0_off339_inb : ∀ (v701 : BitVec 32) (k0_hw83 : k0_chk83 v701), ∀ a, (k0_off339 v701) a + S1x64x128.size a ≤ S32x64x128.size a := fun v701 k0_hw83 => k0_hw83.2

def k0_off340 (v703 : BitVec 32) : Fin 3 → Nat :=
  let v3293 : Index := Scalar.indexCast v703
  let c0_2689 : Index := 0#32
  let c0_2690 : Index := 0#32
  ![v3293.toNat, 0, 0]

def k0_chk84 (v703 : BitVec 32) : Prop :=
  (∀ a, (k0_off212 v703) a + S1x64x64.size a ≤ S1x2048x64.size a) ∧
  (∀ a, (k0_off340 v703) a + S1x64x128.size a ≤ S32x64x128.size a)
theorem k0_off212_inb : ∀ (v703 : BitVec 32) (k0_hw84 : k0_chk84 v703), ∀ a, (k0_off212 v703) a + S1x64x64.size a ≤ S1x2048x64.size a := fun v703 k0_hw84 => k0_hw84.1
theorem k0_off340_inb : ∀ (v703 : BitVec 32) (k0_hw84 : k0_chk84 v703), ∀ a, (k0_off340 v703) a + S1x64x128.size a ≤ S32x64x128.size a := fun v703 k0_hw84 => k0_hw84.2

def k0_off341 (v705 : BitVec 32) : Fin 3 → Nat :=
  let v3335 : Index := Scalar.indexCast v705
  let c0_2722 : Index := 0#32
  let c0_2723 : Index := 0#32
  ![v3335.toNat, 0, 0]

def k0_chk85 (v705 : BitVec 32) : Prop :=
  (∀ a, (k0_off213 v705) a + S1x64x64.size a ≤ S1x2048x64.size a) ∧
  (∀ a, (k0_off341 v705) a + S1x64x128.size a ≤ S32x64x128.size a)
theorem k0_off213_inb : ∀ (v705 : BitVec 32) (k0_hw85 : k0_chk85 v705), ∀ a, (k0_off213 v705) a + S1x64x64.size a ≤ S1x2048x64.size a := fun v705 k0_hw85 => k0_hw85.1
theorem k0_off341_inb : ∀ (v705 : BitVec 32) (k0_hw85 : k0_chk85 v705), ∀ a, (k0_off341 v705) a + S1x64x128.size a ≤ S32x64x128.size a := fun v705 k0_hw85 => k0_hw85.2

def k0_off342 (v707 : BitVec 32) : Fin 3 → Nat :=
  let v3338 : Index := Scalar.indexCast v707
  let c0_2724 : Index := 0#32
  let c0_2725 : Index := 0#32
  ![v3338.toNat, 0, 0]

def k0_chk86 (v707 : BitVec 32) : Prop :=
  (∀ a, (k0_off214 v707) a + S1x64x64.size a ≤ S1x2048x64.size a) ∧
  (∀ a, (k0_off342 v707) a + S1x64x128.size a ≤ S32x64x128.size a)
theorem k0_off214_inb : ∀ (v707 : BitVec 32) (k0_hw86 : k0_chk86 v707), ∀ a, (k0_off214 v707) a + S1x64x64.size a ≤ S1x2048x64.size a := fun v707 k0_hw86 => k0_hw86.1
theorem k0_off342_inb : ∀ (v707 : BitVec 32) (k0_hw86 : k0_chk86 v707), ∀ a, (k0_off342 v707) a + S1x64x128.size a ≤ S32x64x128.size a := fun v707 k0_hw86 => k0_hw86.2

def k0_off343 (v709 : BitVec 32) : Fin 3 → Nat :=
  let v3341 : Index := Scalar.indexCast v709
  let c0_2726 : Index := 0#32
  let c0_2727 : Index := 0#32
  ![v3341.toNat, 0, 0]

def k0_chk87 (v709 : BitVec 32) : Prop :=
  (∀ a, (k0_off215 v709) a + S1x64x64.size a ≤ S1x2048x64.size a) ∧
  (∀ a, (k0_off343 v709) a + S1x64x128.size a ≤ S32x64x128.size a)
theorem k0_off215_inb : ∀ (v709 : BitVec 32) (k0_hw87 : k0_chk87 v709), ∀ a, (k0_off215 v709) a + S1x64x64.size a ≤ S1x2048x64.size a := fun v709 k0_hw87 => k0_hw87.1
theorem k0_off343_inb : ∀ (v709 : BitVec 32) (k0_hw87 : k0_chk87 v709), ∀ a, (k0_off343 v709) a + S1x64x128.size a ≤ S32x64x128.size a := fun v709 k0_hw87 => k0_hw87.2

def k0_off344 (v711 : BitVec 32) : Fin 3 → Nat :=
  let v3344 : Index := Scalar.indexCast v711
  let c0_2728 : Index := 0#32
  let c0_2729 : Index := 0#32
  ![v3344.toNat, 0, 0]

def k0_chk88 (v711 : BitVec 32) : Prop :=
  (∀ a, (k0_off216 v711) a + S1x64x64.size a ≤ S1x2048x64.size a) ∧
  (∀ a, (k0_off344 v711) a + S1x64x128.size a ≤ S32x64x128.size a)
theorem k0_off216_inb : ∀ (v711 : BitVec 32) (k0_hw88 : k0_chk88 v711), ∀ a, (k0_off216 v711) a + S1x64x64.size a ≤ S1x2048x64.size a := fun v711 k0_hw88 => k0_hw88.1
theorem k0_off344_inb : ∀ (v711 : BitVec 32) (k0_hw88 : k0_chk88 v711), ∀ a, (k0_off344 v711) a + S1x64x128.size a ≤ S32x64x128.size a := fun v711 k0_hw88 => k0_hw88.2

def k0_off345 (v713 : BitVec 32) : Fin 3 → Nat :=
  let v3386 : Index := Scalar.indexCast v713
  let c0_2761 : Index := 0#32
  let c0_2762 : Index := 0#32
  ![v3386.toNat, 0, 0]

def k0_chk89 (v713 : BitVec 32) : Prop :=
  (∀ a, (k0_off217 v713) a + S1x64x64.size a ≤ S1x2048x64.size a) ∧
  (∀ a, (k0_off345 v713) a + S1x64x128.size a ≤ S32x64x128.size a)
theorem k0_off217_inb : ∀ (v713 : BitVec 32) (k0_hw89 : k0_chk89 v713), ∀ a, (k0_off217 v713) a + S1x64x64.size a ≤ S1x2048x64.size a := fun v713 k0_hw89 => k0_hw89.1
theorem k0_off345_inb : ∀ (v713 : BitVec 32) (k0_hw89 : k0_chk89 v713), ∀ a, (k0_off345 v713) a + S1x64x128.size a ≤ S32x64x128.size a := fun v713 k0_hw89 => k0_hw89.2

def k0_off346 (v715 : BitVec 32) : Fin 3 → Nat :=
  let v3389 : Index := Scalar.indexCast v715
  let c0_2763 : Index := 0#32
  let c0_2764 : Index := 0#32
  ![v3389.toNat, 0, 0]

def k0_chk90 (v715 : BitVec 32) : Prop :=
  (∀ a, (k0_off218 v715) a + S1x64x64.size a ≤ S1x2048x64.size a) ∧
  (∀ a, (k0_off346 v715) a + S1x64x128.size a ≤ S32x64x128.size a)
theorem k0_off218_inb : ∀ (v715 : BitVec 32) (k0_hw90 : k0_chk90 v715), ∀ a, (k0_off218 v715) a + S1x64x64.size a ≤ S1x2048x64.size a := fun v715 k0_hw90 => k0_hw90.1
theorem k0_off346_inb : ∀ (v715 : BitVec 32) (k0_hw90 : k0_chk90 v715), ∀ a, (k0_off346 v715) a + S1x64x128.size a ≤ S32x64x128.size a := fun v715 k0_hw90 => k0_hw90.2

def k0_off347 (v717 : BitVec 32) : Fin 3 → Nat :=
  let v3392 : Index := Scalar.indexCast v717
  let c0_2765 : Index := 0#32
  let c0_2766 : Index := 0#32
  ![v3392.toNat, 0, 0]

def k0_chk91 (v717 : BitVec 32) : Prop :=
  (∀ a, (k0_off219 v717) a + S1x64x64.size a ≤ S1x2048x64.size a) ∧
  (∀ a, (k0_off347 v717) a + S1x64x128.size a ≤ S32x64x128.size a)
theorem k0_off219_inb : ∀ (v717 : BitVec 32) (k0_hw91 : k0_chk91 v717), ∀ a, (k0_off219 v717) a + S1x64x64.size a ≤ S1x2048x64.size a := fun v717 k0_hw91 => k0_hw91.1
theorem k0_off347_inb : ∀ (v717 : BitVec 32) (k0_hw91 : k0_chk91 v717), ∀ a, (k0_off347 v717) a + S1x64x128.size a ≤ S32x64x128.size a := fun v717 k0_hw91 => k0_hw91.2

def k0_off348 (v719 : BitVec 32) : Fin 3 → Nat :=
  let v3395 : Index := Scalar.indexCast v719
  let c0_2767 : Index := 0#32
  let c0_2768 : Index := 0#32
  ![v3395.toNat, 0, 0]

def k0_chk92 (v719 : BitVec 32) : Prop :=
  (∀ a, (k0_off220 v719) a + S1x64x64.size a ≤ S1x2048x64.size a) ∧
  (∀ a, (k0_off348 v719) a + S1x64x128.size a ≤ S32x64x128.size a)
theorem k0_off220_inb : ∀ (v719 : BitVec 32) (k0_hw92 : k0_chk92 v719), ∀ a, (k0_off220 v719) a + S1x64x64.size a ≤ S1x2048x64.size a := fun v719 k0_hw92 => k0_hw92.1
theorem k0_off348_inb : ∀ (v719 : BitVec 32) (k0_hw92 : k0_chk92 v719), ∀ a, (k0_off348 v719) a + S1x64x128.size a ≤ S32x64x128.size a := fun v719 k0_hw92 => k0_hw92.2

def k0_off349 (v721 : BitVec 32) : Fin 3 → Nat :=
  let v3437 : Index := Scalar.indexCast v721
  let c0_2800 : Index := 0#32
  let c0_2801 : Index := 0#32
  ![v3437.toNat, 0, 0]

def k0_chk93 (v721 : BitVec 32) : Prop :=
  (∀ a, (k0_off221 v721) a + S1x64x64.size a ≤ S1x2048x64.size a) ∧
  (∀ a, (k0_off349 v721) a + S1x64x128.size a ≤ S32x64x128.size a)
theorem k0_off221_inb : ∀ (v721 : BitVec 32) (k0_hw93 : k0_chk93 v721), ∀ a, (k0_off221 v721) a + S1x64x64.size a ≤ S1x2048x64.size a := fun v721 k0_hw93 => k0_hw93.1
theorem k0_off349_inb : ∀ (v721 : BitVec 32) (k0_hw93 : k0_chk93 v721), ∀ a, (k0_off349 v721) a + S1x64x128.size a ≤ S32x64x128.size a := fun v721 k0_hw93 => k0_hw93.2

def k0_off350 (v723 : BitVec 32) : Fin 3 → Nat :=
  let v3440 : Index := Scalar.indexCast v723
  let c0_2802 : Index := 0#32
  let c0_2803 : Index := 0#32
  ![v3440.toNat, 0, 0]

def k0_chk94 (v723 : BitVec 32) : Prop :=
  (∀ a, (k0_off222 v723) a + S1x64x64.size a ≤ S1x2048x64.size a) ∧
  (∀ a, (k0_off350 v723) a + S1x64x128.size a ≤ S32x64x128.size a)
theorem k0_off222_inb : ∀ (v723 : BitVec 32) (k0_hw94 : k0_chk94 v723), ∀ a, (k0_off222 v723) a + S1x64x64.size a ≤ S1x2048x64.size a := fun v723 k0_hw94 => k0_hw94.1
theorem k0_off350_inb : ∀ (v723 : BitVec 32) (k0_hw94 : k0_chk94 v723), ∀ a, (k0_off350 v723) a + S1x64x128.size a ≤ S32x64x128.size a := fun v723 k0_hw94 => k0_hw94.2

def k0_off351 (v725 : BitVec 32) : Fin 3 → Nat :=
  let v3443 : Index := Scalar.indexCast v725
  let c0_2804 : Index := 0#32
  let c0_2805 : Index := 0#32
  ![v3443.toNat, 0, 0]

def k0_chk95 (v725 : BitVec 32) : Prop :=
  (∀ a, (k0_off223 v725) a + S1x64x64.size a ≤ S1x2048x64.size a) ∧
  (∀ a, (k0_off351 v725) a + S1x64x128.size a ≤ S32x64x128.size a)
theorem k0_off223_inb : ∀ (v725 : BitVec 32) (k0_hw95 : k0_chk95 v725), ∀ a, (k0_off223 v725) a + S1x64x64.size a ≤ S1x2048x64.size a := fun v725 k0_hw95 => k0_hw95.1
theorem k0_off351_inb : ∀ (v725 : BitVec 32) (k0_hw95 : k0_chk95 v725), ∀ a, (k0_off351 v725) a + S1x64x128.size a ≤ S32x64x128.size a := fun v725 k0_hw95 => k0_hw95.2

def k0_off352 (v727 : BitVec 32) : Fin 3 → Nat :=
  let v3446 : Index := Scalar.indexCast v727
  let c0_2806 : Index := 0#32
  let c0_2807 : Index := 0#32
  ![v3446.toNat, 0, 0]

def k0_chk96 (v727 : BitVec 32) : Prop :=
  (∀ a, (k0_off224 v727) a + S1x64x64.size a ≤ S1x2048x64.size a) ∧
  (∀ a, (k0_off352 v727) a + S1x64x128.size a ≤ S32x64x128.size a)
theorem k0_off224_inb : ∀ (v727 : BitVec 32) (k0_hw96 : k0_chk96 v727), ∀ a, (k0_off224 v727) a + S1x64x64.size a ≤ S1x2048x64.size a := fun v727 k0_hw96 => k0_hw96.1
theorem k0_off352_inb : ∀ (v727 : BitVec 32) (k0_hw96 : k0_chk96 v727), ∀ a, (k0_off352 v727) a + S1x64x128.size a ≤ S32x64x128.size a := fun v727 k0_hw96 => k0_hw96.2

def k0_off353 (v729 : BitVec 32) : Fin 3 → Nat :=
  let v3488 : Index := Scalar.indexCast v729
  let c0_2839 : Index := 0#32
  let c0_2840 : Index := 0#32
  ![v3488.toNat, 0, 0]

def k0_chk97 (v729 : BitVec 32) : Prop :=
  (∀ a, (k0_off225 v729) a + S1x64x64.size a ≤ S1x2048x64.size a) ∧
  (∀ a, (k0_off353 v729) a + S1x64x128.size a ≤ S32x64x128.size a)
theorem k0_off225_inb : ∀ (v729 : BitVec 32) (k0_hw97 : k0_chk97 v729), ∀ a, (k0_off225 v729) a + S1x64x64.size a ≤ S1x2048x64.size a := fun v729 k0_hw97 => k0_hw97.1
theorem k0_off353_inb : ∀ (v729 : BitVec 32) (k0_hw97 : k0_chk97 v729), ∀ a, (k0_off353 v729) a + S1x64x128.size a ≤ S32x64x128.size a := fun v729 k0_hw97 => k0_hw97.2

def k0_off354 (v731 : BitVec 32) : Fin 3 → Nat :=
  let v3491 : Index := Scalar.indexCast v731
  let c0_2841 : Index := 0#32
  let c0_2842 : Index := 0#32
  ![v3491.toNat, 0, 0]

def k0_chk98 (v731 : BitVec 32) : Prop :=
  (∀ a, (k0_off226 v731) a + S1x64x64.size a ≤ S1x2048x64.size a) ∧
  (∀ a, (k0_off354 v731) a + S1x64x128.size a ≤ S32x64x128.size a)
theorem k0_off226_inb : ∀ (v731 : BitVec 32) (k0_hw98 : k0_chk98 v731), ∀ a, (k0_off226 v731) a + S1x64x64.size a ≤ S1x2048x64.size a := fun v731 k0_hw98 => k0_hw98.1
theorem k0_off354_inb : ∀ (v731 : BitVec 32) (k0_hw98 : k0_chk98 v731), ∀ a, (k0_off354 v731) a + S1x64x128.size a ≤ S32x64x128.size a := fun v731 k0_hw98 => k0_hw98.2

def k0_off355 (v733 : BitVec 32) : Fin 3 → Nat :=
  let v3494 : Index := Scalar.indexCast v733
  let c0_2843 : Index := 0#32
  let c0_2844 : Index := 0#32
  ![v3494.toNat, 0, 0]

def k0_chk99 (v733 : BitVec 32) : Prop :=
  (∀ a, (k0_off227 v733) a + S1x64x64.size a ≤ S1x2048x64.size a) ∧
  (∀ a, (k0_off355 v733) a + S1x64x128.size a ≤ S32x64x128.size a)
theorem k0_off227_inb : ∀ (v733 : BitVec 32) (k0_hw99 : k0_chk99 v733), ∀ a, (k0_off227 v733) a + S1x64x64.size a ≤ S1x2048x64.size a := fun v733 k0_hw99 => k0_hw99.1
theorem k0_off355_inb : ∀ (v733 : BitVec 32) (k0_hw99 : k0_chk99 v733), ∀ a, (k0_off355 v733) a + S1x64x128.size a ≤ S32x64x128.size a := fun v733 k0_hw99 => k0_hw99.2

def k0_off356 (v735 : BitVec 32) : Fin 3 → Nat :=
  let v3497 : Index := Scalar.indexCast v735
  let c0_2845 : Index := 0#32
  let c0_2846 : Index := 0#32
  ![v3497.toNat, 0, 0]

def k0_chk100 (v735 : BitVec 32) : Prop :=
  (∀ a, (k0_off228 v735) a + S1x64x64.size a ≤ S1x2048x64.size a) ∧
  (∀ a, (k0_off356 v735) a + S1x64x128.size a ≤ S32x64x128.size a)
theorem k0_off228_inb : ∀ (v735 : BitVec 32) (k0_hw100 : k0_chk100 v735), ∀ a, (k0_off228 v735) a + S1x64x64.size a ≤ S1x2048x64.size a := fun v735 k0_hw100 => k0_hw100.1
theorem k0_off356_inb : ∀ (v735 : BitVec 32) (k0_hw100 : k0_chk100 v735), ∀ a, (k0_off356 v735) a + S1x64x128.size a ≤ S32x64x128.size a := fun v735 k0_hw100 => k0_hw100.2

def k0_off357 (v737 : BitVec 32) : Fin 3 → Nat :=
  let v3539 : Index := Scalar.indexCast v737
  let c0_2878 : Index := 0#32
  let c0_2879 : Index := 0#32
  ![v3539.toNat, 0, 0]

def k0_chk101 (v737 : BitVec 32) : Prop :=
  (∀ a, (k0_off229 v737) a + S1x64x64.size a ≤ S1x2048x64.size a) ∧
  (∀ a, (k0_off357 v737) a + S1x64x128.size a ≤ S32x64x128.size a)
theorem k0_off229_inb : ∀ (v737 : BitVec 32) (k0_hw101 : k0_chk101 v737), ∀ a, (k0_off229 v737) a + S1x64x64.size a ≤ S1x2048x64.size a := fun v737 k0_hw101 => k0_hw101.1
theorem k0_off357_inb : ∀ (v737 : BitVec 32) (k0_hw101 : k0_chk101 v737), ∀ a, (k0_off357 v737) a + S1x64x128.size a ≤ S32x64x128.size a := fun v737 k0_hw101 => k0_hw101.2

def k0_off358 (v739 : BitVec 32) : Fin 3 → Nat :=
  let v3542 : Index := Scalar.indexCast v739
  let c0_2880 : Index := 0#32
  let c0_2881 : Index := 0#32
  ![v3542.toNat, 0, 0]

def k0_chk102 (v739 : BitVec 32) : Prop :=
  (∀ a, (k0_off230 v739) a + S1x64x64.size a ≤ S1x2048x64.size a) ∧
  (∀ a, (k0_off358 v739) a + S1x64x128.size a ≤ S32x64x128.size a)
theorem k0_off230_inb : ∀ (v739 : BitVec 32) (k0_hw102 : k0_chk102 v739), ∀ a, (k0_off230 v739) a + S1x64x64.size a ≤ S1x2048x64.size a := fun v739 k0_hw102 => k0_hw102.1
theorem k0_off358_inb : ∀ (v739 : BitVec 32) (k0_hw102 : k0_chk102 v739), ∀ a, (k0_off358 v739) a + S1x64x128.size a ≤ S32x64x128.size a := fun v739 k0_hw102 => k0_hw102.2

def k0_off359 (v741 : BitVec 32) : Fin 3 → Nat :=
  let v3545 : Index := Scalar.indexCast v741
  let c0_2882 : Index := 0#32
  let c0_2883 : Index := 0#32
  ![v3545.toNat, 0, 0]

def k0_chk103 (v741 : BitVec 32) : Prop :=
  (∀ a, (k0_off231 v741) a + S1x64x64.size a ≤ S1x2048x64.size a) ∧
  (∀ a, (k0_off359 v741) a + S1x64x128.size a ≤ S32x64x128.size a)
theorem k0_off231_inb : ∀ (v741 : BitVec 32) (k0_hw103 : k0_chk103 v741), ∀ a, (k0_off231 v741) a + S1x64x64.size a ≤ S1x2048x64.size a := fun v741 k0_hw103 => k0_hw103.1
theorem k0_off359_inb : ∀ (v741 : BitVec 32) (k0_hw103 : k0_chk103 v741), ∀ a, (k0_off359 v741) a + S1x64x128.size a ≤ S32x64x128.size a := fun v741 k0_hw103 => k0_hw103.2

def k0_off360 (v743 : BitVec 32) : Fin 3 → Nat :=
  let v3548 : Index := Scalar.indexCast v743
  let c0_2884 : Index := 0#32
  let c0_2885 : Index := 0#32
  ![v3548.toNat, 0, 0]

def k0_chk104 (v743 : BitVec 32) : Prop :=
  (∀ a, (k0_off232 v743) a + S1x64x64.size a ≤ S1x2048x64.size a) ∧
  (∀ a, (k0_off360 v743) a + S1x64x128.size a ≤ S32x64x128.size a)
theorem k0_off232_inb : ∀ (v743 : BitVec 32) (k0_hw104 : k0_chk104 v743), ∀ a, (k0_off232 v743) a + S1x64x64.size a ≤ S1x2048x64.size a := fun v743 k0_hw104 => k0_hw104.1
theorem k0_off360_inb : ∀ (v743 : BitVec 32) (k0_hw104 : k0_chk104 v743), ∀ a, (k0_off360 v743) a + S1x64x128.size a ≤ S32x64x128.size a := fun v743 k0_hw104 => k0_hw104.2

def k0_off361 (v745 : BitVec 32) : Fin 3 → Nat :=
  let v3590 : Index := Scalar.indexCast v745
  let c0_2917 : Index := 0#32
  let c0_2918 : Index := 0#32
  ![v3590.toNat, 0, 0]

def k0_chk105 (v745 : BitVec 32) : Prop :=
  (∀ a, (k0_off233 v745) a + S1x64x64.size a ≤ S1x2048x64.size a) ∧
  (∀ a, (k0_off361 v745) a + S1x64x128.size a ≤ S32x64x128.size a)
theorem k0_off233_inb : ∀ (v745 : BitVec 32) (k0_hw105 : k0_chk105 v745), ∀ a, (k0_off233 v745) a + S1x64x64.size a ≤ S1x2048x64.size a := fun v745 k0_hw105 => k0_hw105.1
theorem k0_off361_inb : ∀ (v745 : BitVec 32) (k0_hw105 : k0_chk105 v745), ∀ a, (k0_off361 v745) a + S1x64x128.size a ≤ S32x64x128.size a := fun v745 k0_hw105 => k0_hw105.2

def k0_off362 (v747 : BitVec 32) : Fin 3 → Nat :=
  let v3593 : Index := Scalar.indexCast v747
  let c0_2919 : Index := 0#32
  let c0_2920 : Index := 0#32
  ![v3593.toNat, 0, 0]

def k0_chk106 (v747 : BitVec 32) : Prop :=
  (∀ a, (k0_off234 v747) a + S1x64x64.size a ≤ S1x2048x64.size a) ∧
  (∀ a, (k0_off362 v747) a + S1x64x128.size a ≤ S32x64x128.size a)
theorem k0_off234_inb : ∀ (v747 : BitVec 32) (k0_hw106 : k0_chk106 v747), ∀ a, (k0_off234 v747) a + S1x64x64.size a ≤ S1x2048x64.size a := fun v747 k0_hw106 => k0_hw106.1
theorem k0_off362_inb : ∀ (v747 : BitVec 32) (k0_hw106 : k0_chk106 v747), ∀ a, (k0_off362 v747) a + S1x64x128.size a ≤ S32x64x128.size a := fun v747 k0_hw106 => k0_hw106.2

def k0_off363 (v749 : BitVec 32) : Fin 3 → Nat :=
  let v3596 : Index := Scalar.indexCast v749
  let c0_2921 : Index := 0#32
  let c0_2922 : Index := 0#32
  ![v3596.toNat, 0, 0]

def k0_chk107 (v749 : BitVec 32) : Prop :=
  (∀ a, (k0_off235 v749) a + S1x64x64.size a ≤ S1x2048x64.size a) ∧
  (∀ a, (k0_off363 v749) a + S1x64x128.size a ≤ S32x64x128.size a)
theorem k0_off235_inb : ∀ (v749 : BitVec 32) (k0_hw107 : k0_chk107 v749), ∀ a, (k0_off235 v749) a + S1x64x64.size a ≤ S1x2048x64.size a := fun v749 k0_hw107 => k0_hw107.1
theorem k0_off363_inb : ∀ (v749 : BitVec 32) (k0_hw107 : k0_chk107 v749), ∀ a, (k0_off363 v749) a + S1x64x128.size a ≤ S32x64x128.size a := fun v749 k0_hw107 => k0_hw107.2

def k0_off364 (v751 : BitVec 32) : Fin 3 → Nat :=
  let v3599 : Index := Scalar.indexCast v751
  let c0_2923 : Index := 0#32
  let c0_2924 : Index := 0#32
  ![v3599.toNat, 0, 0]

def k0_chk108 (v751 : BitVec 32) : Prop :=
  (∀ a, (k0_off236 v751) a + S1x64x64.size a ≤ S1x2048x64.size a) ∧
  (∀ a, (k0_off364 v751) a + S1x64x128.size a ≤ S32x64x128.size a)
theorem k0_off236_inb : ∀ (v751 : BitVec 32) (k0_hw108 : k0_chk108 v751), ∀ a, (k0_off236 v751) a + S1x64x64.size a ≤ S1x2048x64.size a := fun v751 k0_hw108 => k0_hw108.1
theorem k0_off364_inb : ∀ (v751 : BitVec 32) (k0_hw108 : k0_chk108 v751), ∀ a, (k0_off364 v751) a + S1x64x128.size a ≤ S32x64x128.size a := fun v751 k0_hw108 => k0_hw108.2

def k0_off365 (v753 : BitVec 32) : Fin 3 → Nat :=
  let v3641 : Index := Scalar.indexCast v753
  let c0_2956 : Index := 0#32
  let c0_2957 : Index := 0#32
  ![v3641.toNat, 0, 0]

def k0_chk109 (v753 : BitVec 32) : Prop :=
  (∀ a, (k0_off237 v753) a + S1x64x64.size a ≤ S1x2048x64.size a) ∧
  (∀ a, (k0_off365 v753) a + S1x64x128.size a ≤ S32x64x128.size a)
theorem k0_off237_inb : ∀ (v753 : BitVec 32) (k0_hw109 : k0_chk109 v753), ∀ a, (k0_off237 v753) a + S1x64x64.size a ≤ S1x2048x64.size a := fun v753 k0_hw109 => k0_hw109.1
theorem k0_off365_inb : ∀ (v753 : BitVec 32) (k0_hw109 : k0_chk109 v753), ∀ a, (k0_off365 v753) a + S1x64x128.size a ≤ S32x64x128.size a := fun v753 k0_hw109 => k0_hw109.2

def k0_off366 (v755 : BitVec 32) : Fin 3 → Nat :=
  let v3644 : Index := Scalar.indexCast v755
  let c0_2958 : Index := 0#32
  let c0_2959 : Index := 0#32
  ![v3644.toNat, 0, 0]

def k0_chk110 (v755 : BitVec 32) : Prop :=
  (∀ a, (k0_off238 v755) a + S1x64x64.size a ≤ S1x2048x64.size a) ∧
  (∀ a, (k0_off366 v755) a + S1x64x128.size a ≤ S32x64x128.size a)
theorem k0_off238_inb : ∀ (v755 : BitVec 32) (k0_hw110 : k0_chk110 v755), ∀ a, (k0_off238 v755) a + S1x64x64.size a ≤ S1x2048x64.size a := fun v755 k0_hw110 => k0_hw110.1
theorem k0_off366_inb : ∀ (v755 : BitVec 32) (k0_hw110 : k0_chk110 v755), ∀ a, (k0_off366 v755) a + S1x64x128.size a ≤ S32x64x128.size a := fun v755 k0_hw110 => k0_hw110.2

def k0_off367 (v757 : BitVec 32) : Fin 3 → Nat :=
  let v3647 : Index := Scalar.indexCast v757
  let c0_2960 : Index := 0#32
  let c0_2961 : Index := 0#32
  ![v3647.toNat, 0, 0]

def k0_chk111 (v757 : BitVec 32) : Prop :=
  (∀ a, (k0_off239 v757) a + S1x64x64.size a ≤ S1x2048x64.size a) ∧
  (∀ a, (k0_off367 v757) a + S1x64x128.size a ≤ S32x64x128.size a)
theorem k0_off239_inb : ∀ (v757 : BitVec 32) (k0_hw111 : k0_chk111 v757), ∀ a, (k0_off239 v757) a + S1x64x64.size a ≤ S1x2048x64.size a := fun v757 k0_hw111 => k0_hw111.1
theorem k0_off367_inb : ∀ (v757 : BitVec 32) (k0_hw111 : k0_chk111 v757), ∀ a, (k0_off367 v757) a + S1x64x128.size a ≤ S32x64x128.size a := fun v757 k0_hw111 => k0_hw111.2

def k0_off368 (v759 : BitVec 32) : Fin 3 → Nat :=
  let v3650 : Index := Scalar.indexCast v759
  let c0_2962 : Index := 0#32
  let c0_2963 : Index := 0#32
  ![v3650.toNat, 0, 0]

def k0_chk112 (v759 : BitVec 32) : Prop :=
  (∀ a, (k0_off240 v759) a + S1x64x64.size a ≤ S1x2048x64.size a) ∧
  (∀ a, (k0_off368 v759) a + S1x64x128.size a ≤ S32x64x128.size a)
theorem k0_off240_inb : ∀ (v759 : BitVec 32) (k0_hw112 : k0_chk112 v759), ∀ a, (k0_off240 v759) a + S1x64x64.size a ≤ S1x2048x64.size a := fun v759 k0_hw112 => k0_hw112.1
theorem k0_off368_inb : ∀ (v759 : BitVec 32) (k0_hw112 : k0_chk112 v759), ∀ a, (k0_off368 v759) a + S1x64x128.size a ≤ S32x64x128.size a := fun v759 k0_hw112 => k0_hw112.2

def k0_off369 (v761 : BitVec 32) : Fin 3 → Nat :=
  let v3692 : Index := Scalar.indexCast v761
  let c0_2995 : Index := 0#32
  let c0_2996 : Index := 0#32
  ![v3692.toNat, 0, 0]

def k0_chk113 (v761 : BitVec 32) : Prop :=
  (∀ a, (k0_off241 v761) a + S1x64x64.size a ≤ S1x2048x64.size a) ∧
  (∀ a, (k0_off369 v761) a + S1x64x128.size a ≤ S32x64x128.size a)
theorem k0_off241_inb : ∀ (v761 : BitVec 32) (k0_hw113 : k0_chk113 v761), ∀ a, (k0_off241 v761) a + S1x64x64.size a ≤ S1x2048x64.size a := fun v761 k0_hw113 => k0_hw113.1
theorem k0_off369_inb : ∀ (v761 : BitVec 32) (k0_hw113 : k0_chk113 v761), ∀ a, (k0_off369 v761) a + S1x64x128.size a ≤ S32x64x128.size a := fun v761 k0_hw113 => k0_hw113.2

def k0_off370 (v763 : BitVec 32) : Fin 3 → Nat :=
  let v3695 : Index := Scalar.indexCast v763
  let c0_2997 : Index := 0#32
  let c0_2998 : Index := 0#32
  ![v3695.toNat, 0, 0]

def k0_chk114 (v763 : BitVec 32) : Prop :=
  (∀ a, (k0_off242 v763) a + S1x64x64.size a ≤ S1x2048x64.size a) ∧
  (∀ a, (k0_off370 v763) a + S1x64x128.size a ≤ S32x64x128.size a)
theorem k0_off242_inb : ∀ (v763 : BitVec 32) (k0_hw114 : k0_chk114 v763), ∀ a, (k0_off242 v763) a + S1x64x64.size a ≤ S1x2048x64.size a := fun v763 k0_hw114 => k0_hw114.1
theorem k0_off370_inb : ∀ (v763 : BitVec 32) (k0_hw114 : k0_chk114 v763), ∀ a, (k0_off370 v763) a + S1x64x128.size a ≤ S32x64x128.size a := fun v763 k0_hw114 => k0_hw114.2

def k0_off371 (v765 : BitVec 32) : Fin 3 → Nat :=
  let v3698 : Index := Scalar.indexCast v765
  let c0_2999 : Index := 0#32
  let c0_3000 : Index := 0#32
  ![v3698.toNat, 0, 0]

def k0_chk115 (v765 : BitVec 32) : Prop :=
  (∀ a, (k0_off243 v765) a + S1x64x64.size a ≤ S1x2048x64.size a) ∧
  (∀ a, (k0_off371 v765) a + S1x64x128.size a ≤ S32x64x128.size a)
theorem k0_off243_inb : ∀ (v765 : BitVec 32) (k0_hw115 : k0_chk115 v765), ∀ a, (k0_off243 v765) a + S1x64x64.size a ≤ S1x2048x64.size a := fun v765 k0_hw115 => k0_hw115.1
theorem k0_off371_inb : ∀ (v765 : BitVec 32) (k0_hw115 : k0_chk115 v765), ∀ a, (k0_off371 v765) a + S1x64x128.size a ≤ S32x64x128.size a := fun v765 k0_hw115 => k0_hw115.2

def k0_off372 (v767 : BitVec 32) : Fin 3 → Nat :=
  let v3701 : Index := Scalar.indexCast v767
  let c0_3001 : Index := 0#32
  let c0_3002 : Index := 0#32
  ![v3701.toNat, 0, 0]

def k0_chk116 (v767 : BitVec 32) : Prop :=
  (∀ a, (k0_off244 v767) a + S1x64x64.size a ≤ S1x2048x64.size a) ∧
  (∀ a, (k0_off372 v767) a + S1x64x128.size a ≤ S32x64x128.size a)
theorem k0_off244_inb : ∀ (v767 : BitVec 32) (k0_hw116 : k0_chk116 v767), ∀ a, (k0_off244 v767) a + S1x64x64.size a ≤ S1x2048x64.size a := fun v767 k0_hw116 => k0_hw116.1
theorem k0_off372_inb : ∀ (v767 : BitVec 32) (k0_hw116 : k0_chk116 v767), ∀ a, (k0_off372 v767) a + S1x64x128.size a ≤ S32x64x128.size a := fun v767 k0_hw116 => k0_hw116.2

def k0_off373 (v769 : BitVec 32) : Fin 3 → Nat :=
  let v3743 : Index := Scalar.indexCast v769
  let c0_3034 : Index := 0#32
  let c0_3035 : Index := 0#32
  ![v3743.toNat, 0, 0]

def k0_chk117 (v769 : BitVec 32) : Prop :=
  (∀ a, (k0_off245 v769) a + S1x64x64.size a ≤ S1x2048x64.size a) ∧
  (∀ a, (k0_off373 v769) a + S1x64x128.size a ≤ S32x64x128.size a)
theorem k0_off245_inb : ∀ (v769 : BitVec 32) (k0_hw117 : k0_chk117 v769), ∀ a, (k0_off245 v769) a + S1x64x64.size a ≤ S1x2048x64.size a := fun v769 k0_hw117 => k0_hw117.1
theorem k0_off373_inb : ∀ (v769 : BitVec 32) (k0_hw117 : k0_chk117 v769), ∀ a, (k0_off373 v769) a + S1x64x128.size a ≤ S32x64x128.size a := fun v769 k0_hw117 => k0_hw117.2

def k0_off374 (v771 : BitVec 32) : Fin 3 → Nat :=
  let v3746 : Index := Scalar.indexCast v771
  let c0_3036 : Index := 0#32
  let c0_3037 : Index := 0#32
  ![v3746.toNat, 0, 0]

def k0_chk118 (v771 : BitVec 32) : Prop :=
  (∀ a, (k0_off246 v771) a + S1x64x64.size a ≤ S1x2048x64.size a) ∧
  (∀ a, (k0_off374 v771) a + S1x64x128.size a ≤ S32x64x128.size a)
theorem k0_off246_inb : ∀ (v771 : BitVec 32) (k0_hw118 : k0_chk118 v771), ∀ a, (k0_off246 v771) a + S1x64x64.size a ≤ S1x2048x64.size a := fun v771 k0_hw118 => k0_hw118.1
theorem k0_off374_inb : ∀ (v771 : BitVec 32) (k0_hw118 : k0_chk118 v771), ∀ a, (k0_off374 v771) a + S1x64x128.size a ≤ S32x64x128.size a := fun v771 k0_hw118 => k0_hw118.2

def k0_off375 (v773 : BitVec 32) : Fin 3 → Nat :=
  let v3749 : Index := Scalar.indexCast v773
  let c0_3038 : Index := 0#32
  let c0_3039 : Index := 0#32
  ![v3749.toNat, 0, 0]

def k0_chk119 (v773 : BitVec 32) : Prop :=
  (∀ a, (k0_off247 v773) a + S1x64x64.size a ≤ S1x2048x64.size a) ∧
  (∀ a, (k0_off375 v773) a + S1x64x128.size a ≤ S32x64x128.size a)
theorem k0_off247_inb : ∀ (v773 : BitVec 32) (k0_hw119 : k0_chk119 v773), ∀ a, (k0_off247 v773) a + S1x64x64.size a ≤ S1x2048x64.size a := fun v773 k0_hw119 => k0_hw119.1
theorem k0_off375_inb : ∀ (v773 : BitVec 32) (k0_hw119 : k0_chk119 v773), ∀ a, (k0_off375 v773) a + S1x64x128.size a ≤ S32x64x128.size a := fun v773 k0_hw119 => k0_hw119.2

def k0_off376 (v775 : BitVec 32) : Fin 3 → Nat :=
  let v3752 : Index := Scalar.indexCast v775
  let c0_3040 : Index := 0#32
  let c0_3041 : Index := 0#32
  ![v3752.toNat, 0, 0]

def k0_chk120 (v775 : BitVec 32) : Prop :=
  (∀ a, (k0_off248 v775) a + S1x64x64.size a ≤ S1x2048x64.size a) ∧
  (∀ a, (k0_off376 v775) a + S1x64x128.size a ≤ S32x64x128.size a)
theorem k0_off248_inb : ∀ (v775 : BitVec 32) (k0_hw120 : k0_chk120 v775), ∀ a, (k0_off248 v775) a + S1x64x64.size a ≤ S1x2048x64.size a := fun v775 k0_hw120 => k0_hw120.1
theorem k0_off376_inb : ∀ (v775 : BitVec 32) (k0_hw120 : k0_chk120 v775), ∀ a, (k0_off376 v775) a + S1x64x128.size a ≤ S32x64x128.size a := fun v775 k0_hw120 => k0_hw120.2

def k0_off377 (v777 : BitVec 32) : Fin 3 → Nat :=
  let v3794 : Index := Scalar.indexCast v777
  let c0_3073 : Index := 0#32
  let c0_3074 : Index := 0#32
  ![v3794.toNat, 0, 0]

def k0_chk121 (v777 : BitVec 32) : Prop :=
  (∀ a, (k0_off249 v777) a + S1x64x64.size a ≤ S1x2048x64.size a) ∧
  (∀ a, (k0_off377 v777) a + S1x64x128.size a ≤ S32x64x128.size a)
theorem k0_off249_inb : ∀ (v777 : BitVec 32) (k0_hw121 : k0_chk121 v777), ∀ a, (k0_off249 v777) a + S1x64x64.size a ≤ S1x2048x64.size a := fun v777 k0_hw121 => k0_hw121.1
theorem k0_off377_inb : ∀ (v777 : BitVec 32) (k0_hw121 : k0_chk121 v777), ∀ a, (k0_off377 v777) a + S1x64x128.size a ≤ S32x64x128.size a := fun v777 k0_hw121 => k0_hw121.2

def k0_off378 (v779 : BitVec 32) : Fin 3 → Nat :=
  let v3797 : Index := Scalar.indexCast v779
  let c0_3075 : Index := 0#32
  let c0_3076 : Index := 0#32
  ![v3797.toNat, 0, 0]

def k0_chk122 (v779 : BitVec 32) : Prop :=
  (∀ a, (k0_off250 v779) a + S1x64x64.size a ≤ S1x2048x64.size a) ∧
  (∀ a, (k0_off378 v779) a + S1x64x128.size a ≤ S32x64x128.size a)
theorem k0_off250_inb : ∀ (v779 : BitVec 32) (k0_hw122 : k0_chk122 v779), ∀ a, (k0_off250 v779) a + S1x64x64.size a ≤ S1x2048x64.size a := fun v779 k0_hw122 => k0_hw122.1
theorem k0_off378_inb : ∀ (v779 : BitVec 32) (k0_hw122 : k0_chk122 v779), ∀ a, (k0_off378 v779) a + S1x64x128.size a ≤ S32x64x128.size a := fun v779 k0_hw122 => k0_hw122.2

def k0_off379 (v781 : BitVec 32) : Fin 3 → Nat :=
  let v3800 : Index := Scalar.indexCast v781
  let c0_3077 : Index := 0#32
  let c0_3078 : Index := 0#32
  ![v3800.toNat, 0, 0]

def k0_chk123 (v781 : BitVec 32) : Prop :=
  (∀ a, (k0_off251 v781) a + S1x64x64.size a ≤ S1x2048x64.size a) ∧
  (∀ a, (k0_off379 v781) a + S1x64x128.size a ≤ S32x64x128.size a)
theorem k0_off251_inb : ∀ (v781 : BitVec 32) (k0_hw123 : k0_chk123 v781), ∀ a, (k0_off251 v781) a + S1x64x64.size a ≤ S1x2048x64.size a := fun v781 k0_hw123 => k0_hw123.1
theorem k0_off379_inb : ∀ (v781 : BitVec 32) (k0_hw123 : k0_chk123 v781), ∀ a, (k0_off379 v781) a + S1x64x128.size a ≤ S32x64x128.size a := fun v781 k0_hw123 => k0_hw123.2

def k0_off380 (v783 : BitVec 32) : Fin 3 → Nat :=
  let v3803 : Index := Scalar.indexCast v783
  let c0_3079 : Index := 0#32
  let c0_3080 : Index := 0#32
  ![v3803.toNat, 0, 0]

def k0_chk124 (v783 : BitVec 32) : Prop :=
  (∀ a, (k0_off252 v783) a + S1x64x64.size a ≤ S1x2048x64.size a) ∧
  (∀ a, (k0_off380 v783) a + S1x64x128.size a ≤ S32x64x128.size a)
theorem k0_off252_inb : ∀ (v783 : BitVec 32) (k0_hw124 : k0_chk124 v783), ∀ a, (k0_off252 v783) a + S1x64x64.size a ≤ S1x2048x64.size a := fun v783 k0_hw124 => k0_hw124.1
theorem k0_off380_inb : ∀ (v783 : BitVec 32) (k0_hw124 : k0_chk124 v783), ∀ a, (k0_off380 v783) a + S1x64x128.size a ≤ S32x64x128.size a := fun v783 k0_hw124 => k0_hw124.2

def k0_off381 (v785 : BitVec 32) : Fin 3 → Nat :=
  let v3845 : Index := Scalar.indexCast v785
  let c0_3112 : Index := 0#32
  let c0_3113 : Index := 0#32
  ![v3845.toNat, 0, 0]

def k0_chk125 (v785 : BitVec 32) : Prop :=
  (∀ a, (k0_off253 v785) a + S1x64x64.size a ≤ S1x2048x64.size a) ∧
  (∀ a, (k0_off381 v785) a + S1x64x128.size a ≤ S32x64x128.size a)
theorem k0_off253_inb : ∀ (v785 : BitVec 32) (k0_hw125 : k0_chk125 v785), ∀ a, (k0_off253 v785) a + S1x64x64.size a ≤ S1x2048x64.size a := fun v785 k0_hw125 => k0_hw125.1
theorem k0_off381_inb : ∀ (v785 : BitVec 32) (k0_hw125 : k0_chk125 v785), ∀ a, (k0_off381 v785) a + S1x64x128.size a ≤ S32x64x128.size a := fun v785 k0_hw125 => k0_hw125.2

def k0_off382 (v787 : BitVec 32) : Fin 3 → Nat :=
  let v3848 : Index := Scalar.indexCast v787
  let c0_3114 : Index := 0#32
  let c0_3115 : Index := 0#32
  ![v3848.toNat, 0, 0]

def k0_chk126 (v787 : BitVec 32) : Prop :=
  (∀ a, (k0_off254 v787) a + S1x64x64.size a ≤ S1x2048x64.size a) ∧
  (∀ a, (k0_off382 v787) a + S1x64x128.size a ≤ S32x64x128.size a)
theorem k0_off254_inb : ∀ (v787 : BitVec 32) (k0_hw126 : k0_chk126 v787), ∀ a, (k0_off254 v787) a + S1x64x64.size a ≤ S1x2048x64.size a := fun v787 k0_hw126 => k0_hw126.1
theorem k0_off382_inb : ∀ (v787 : BitVec 32) (k0_hw126 : k0_chk126 v787), ∀ a, (k0_off382 v787) a + S1x64x128.size a ≤ S32x64x128.size a := fun v787 k0_hw126 => k0_hw126.2

def k0_off383 (v789 : BitVec 32) : Fin 3 → Nat :=
  let v3851 : Index := Scalar.indexCast v789
  let c0_3116 : Index := 0#32
  let c0_3117 : Index := 0#32
  ![v3851.toNat, 0, 0]

def k0_chk127 (v789 : BitVec 32) : Prop :=
  (∀ a, (k0_off255 v789) a + S1x64x64.size a ≤ S1x2048x64.size a) ∧
  (∀ a, (k0_off383 v789) a + S1x64x128.size a ≤ S32x64x128.size a)
theorem k0_off255_inb : ∀ (v789 : BitVec 32) (k0_hw127 : k0_chk127 v789), ∀ a, (k0_off255 v789) a + S1x64x64.size a ≤ S1x2048x64.size a := fun v789 k0_hw127 => k0_hw127.1
theorem k0_off383_inb : ∀ (v789 : BitVec 32) (k0_hw127 : k0_chk127 v789), ∀ a, (k0_off383 v789) a + S1x64x128.size a ≤ S32x64x128.size a := fun v789 k0_hw127 => k0_hw127.2

def k0_off384 (v791 : BitVec 32) : Fin 3 → Nat :=
  let v3854 : Index := Scalar.indexCast v791
  let c0_3118 : Index := 0#32
  let c0_3119 : Index := 0#32
  ![v3854.toNat, 0, 0]

def k0_chk128 (v791 : BitVec 32) : Prop :=
  (∀ a, (k0_off256 v791) a + S1x64x64.size a ≤ S1x2048x64.size a) ∧
  (∀ a, (k0_off384 v791) a + S1x64x128.size a ≤ S32x64x128.size a)
theorem k0_off256_inb : ∀ (v791 : BitVec 32) (k0_hw128 : k0_chk128 v791), ∀ a, (k0_off256 v791) a + S1x64x64.size a ≤ S1x2048x64.size a := fun v791 k0_hw128 => k0_hw128.1
theorem k0_off384_inb : ∀ (v791 : BitVec 32) (k0_hw128 : k0_chk128 v791), ∀ a, (k0_off384 v791) a + S1x64x128.size a ≤ S32x64x128.size a := fun v791 k0_hw128 => k0_hw128.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12x32x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x12x2048x64 : Shape := ⟨4, ![1, 12, 2048, 64]⟩
abbrev S64x64 : Shape := ⟨2, ![64, 64]⟩
abbrev S64 : Shape := ⟨1, ![64]⟩
abbrev S1x12x32x64x64 : Shape := ⟨5, ![1, 12, 32, 64, 64]⟩
abbrev S_ : Shape := ⟨0, ![]⟩
abbrev S1x12x32x64 : Shape := ⟨4, ![1, 12, 32, 64]⟩
abbrev S1x12x32x32 : Shape := ⟨4, ![1, 12, 32, 32]⟩
abbrev S1x12x32x4 : Shape := ⟨4, ![1, 12, 32, 4]⟩
abbrev S1x12x32x4x1 : Shape := ⟨5, ![1, 12, 32, 4, 1]⟩
abbrev S1x1x1x1x32 : Shape := ⟨5, ![1, 1, 1, 1, 32]⟩
abbrev S1x12x32x4x32 : Shape := ⟨5, ![1, 12, 32, 4, 32]⟩
abbrev S1x12x32x64x32 : Shape := ⟨5, ![1, 12, 32, 64, 32]⟩
abbrev S1x12x2048x32 : Shape := ⟨4, ![1, 12, 2048, 32]⟩
abbrev S1x12x2048x32x64 : Shape := ⟨5, ![1, 12, 2048, 32, 64]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩
abbrev S1x1x1x64 : Shape := ⟨4, ![1, 1, 1, 64]⟩

abbrev nBuf : Space → Nat
  | .hbm => 106
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S64x64, .f32⟩
  | .hbm, ⟨4, _⟩ => ⟨S64, .f32⟩
  | .hbm, ⟨5, _⟩ => ⟨S1x12x32x64x64, .f32⟩
  | .hbm, ⟨6, _⟩ => ⟨S_, .f32⟩
  | .hbm, ⟨7, _⟩ => ⟨S1x12x32x64, .f32⟩
  | .hbm, ⟨8, _⟩ => ⟨S_, .f32⟩
  | .hbm, ⟨9, _⟩ => ⟨S1x12x32x64, .f32⟩
  | .hbm, ⟨10, _⟩ => ⟨S1x12x32x64, .f32⟩
  | .hbm, ⟨11, _⟩ => ⟨S1x12x32x64x64, .f32⟩
  | .hbm, ⟨12, _⟩ => ⟨S_, .f32⟩
  | .hbm, ⟨13, _⟩ => ⟨S1x12x32x64, .f32⟩
  | .hbm, ⟨14, _⟩ => ⟨S_, .f32⟩
  | .hbm, ⟨15, _⟩ => ⟨S1x12x32x64, .f32⟩
  | .hbm, ⟨16, _⟩ => ⟨S1x12x32x64, .f32⟩
  | .hbm, ⟨17, _⟩ => ⟨S1x12x32x32, .f32⟩
  | .hbm, ⟨18, _⟩ => ⟨S1x12x32x4, .f32⟩
  | .hbm, ⟨19, _⟩ => ⟨S1x12x32x4, .i32⟩
  | .hbm, ⟨20, _⟩ => ⟨S1x12x32x4x1, .i32⟩
  | .hbm, ⟨21, _⟩ => ⟨S1x1x1x1x32, .i32⟩
  | .hbm, ⟨22, _⟩ => ⟨S1x12x32x4x32, .i32⟩
  | .hbm, ⟨23, _⟩ => ⟨S1x12x32x4x32, .i32⟩
  | .hbm, ⟨24, _⟩ => ⟨S1x12x32x4x32, .i1⟩
  | .hbm, ⟨25, _⟩ => ⟨S1x12x32x4x32, .f32⟩
  | .hbm, ⟨26, _⟩ => ⟨S_, .f32⟩
  | .hbm, ⟨27, _⟩ => ⟨S1x12x32x32, .f32⟩
  | .hbm, ⟨28, _⟩ => ⟨S_, .f32⟩
  | .hbm, ⟨29, _⟩ => ⟨S1x12x32x32, .f32⟩
  | .hbm, ⟨30, _⟩ => ⟨S1x12x32x32, .i1⟩
  | .hbm, ⟨31, _⟩ => ⟨S1x12x32x64x32, .i1⟩
  | .hbm, ⟨32, _⟩ => ⟨S1x12x2048x32, .i1⟩
  | .hbm, ⟨33, _⟩ => ⟨S1x12x2048x32x64, .i1⟩
  | .hbm, ⟨34, _⟩ => ⟨S1x12x2048x2048, .i1⟩
  | .hbm, ⟨35, _⟩ => ⟨S1x12x2048x2048, .f32⟩
  | .hbm, ⟨36, _⟩ => ⟨S_, .f32⟩
  | .hbm, ⟨37, _⟩ => ⟨S1x12x2048x2048, .f32⟩
  | .hbm, ⟨38, _⟩ => ⟨S1x12x2048x2048, .f32⟩
  | .hbm, ⟨39, _⟩ => ⟨S_, .f32⟩
  | .hbm, ⟨40, _⟩ => ⟨S_, .f32⟩
  | .hbm, ⟨41, _⟩ => ⟨S1x12x2048x2048, .f32⟩
  | .hbm, ⟨42, _⟩ => ⟨S1x12x2048x2048, .f32⟩
  | .hbm, ⟨43, _⟩ => ⟨S_, .f32⟩
  | .hbm, ⟨44, _⟩ => ⟨S1x12x2048, .f32⟩
  | .hbm, ⟨45, _⟩ => ⟨S_, .f32⟩
  | .hbm, ⟨46, _⟩ => ⟨S1x12x2048, .f32⟩
  | .hbm, ⟨47, _⟩ => ⟨S1x12x2048, .f32⟩
  | .hbm, ⟨48, _⟩ => ⟨S1x12x2048x1, .f32⟩
  | .hbm, ⟨49, _⟩ => ⟨S1x12x2048x2048, .f32⟩
  | .hbm, ⟨50, _⟩ => ⟨S1x12x2048x2048, .f32⟩
  | .hbm, ⟨51, _⟩ => ⟨S1x12x2048x2048, .f32⟩
  | .hbm, ⟨52, _⟩ => ⟨S_, .f32⟩
  | .hbm, ⟨53, _⟩ => ⟨S1x12x2048, .f32⟩
  | .hbm, ⟨54, _⟩ => ⟨S1x12x2048x1, .f32⟩
  | .hbm, ⟨55, _⟩ => ⟨S1x12x2048x2048, .f32⟩
  | .hbm, ⟨56, _⟩ => ⟨S1x12x2048x2048, .f32⟩
  | .hbm, ⟨57, _⟩ => ⟨S1x12x2048x64, .f32⟩
  | .hbm, ⟨58, _⟩ => ⟨S_, .f32⟩
  | .hbm, ⟨59, _⟩ => ⟨S1x12x2048, .f32⟩
  | .hbm, ⟨60, _⟩ => ⟨S_, .f32⟩
  | .hbm, ⟨61, _⟩ => ⟨S1x12x2048, .f32⟩
  | .hbm, ⟨62, _⟩ => ⟨S1x12x2048, .f32⟩
  | .hbm, ⟨63, _⟩ => ⟨S1x12x2048x1, .f32⟩
  | .hbm, ⟨64, _⟩ => ⟨S1x12x2048x64, .f32⟩
  | .hbm, ⟨65, _⟩ => ⟨S1x12x2048x64, .f32⟩
  | .hbm, ⟨66, _⟩ => ⟨S1x12x2048x64, .f32⟩
  | .hbm, ⟨67, _⟩ => ⟨S_, .f32⟩
  | .hbm, ⟨68, _⟩ => ⟨S1x12x2048, .f32⟩
  | .hbm, ⟨69, _⟩ => ⟨S1x12x2048x1, .f32⟩
  | .hbm, ⟨70, _⟩ => ⟨S1x12x2048x64, .f32⟩
  | .hbm, ⟨71, _⟩ => ⟨S1x12x2048x64, .f32⟩
  | .hbm, ⟨72, _⟩ => ⟨S_, .f32⟩
  | .hbm, ⟨73, _⟩ => ⟨S1x12x2048, .f32⟩
  | .hbm, ⟨74, _⟩ => ⟨S_, .f32⟩
  | .hbm, ⟨75, _⟩ => ⟨S1x12x2048, .f32⟩
  | .hbm, ⟨76, _⟩ => ⟨S1x12x2048, .f32⟩
  | .hbm, ⟨77, _⟩ => ⟨S1x12x2048x1, .f32⟩
  | .hbm, ⟨78, _⟩ => ⟨S1x12x2048x64, .f32⟩
  | .hbm, ⟨79, _⟩ => ⟨S1x12x2048x64, .f32⟩
  | .hbm, ⟨80, _⟩ => ⟨S1x12x2048x64, .f32⟩
  | .hbm, ⟨81, _⟩ => ⟨S_, .f32⟩
  | .hbm, ⟨82, _⟩ => ⟨S1x12x2048, .f32⟩
  | .hbm, ⟨83, _⟩ => ⟨S1x12x2048x1, .f32⟩
  | .hbm, ⟨84, _⟩ => ⟨S1x12x2048x64, .f32⟩
  | .hbm, ⟨85, _⟩ => ⟨S1x12x2048x64, .f32⟩
  | .hbm, ⟨86, _⟩ => ⟨S1x12x2048x2048, .f32⟩
  | .hbm, ⟨87, _⟩ => ⟨S1x12x2048x2048, .f32⟩
  | .hbm, ⟨88, _⟩ => ⟨S_, .f32⟩
  | .hbm, ⟨89, _⟩ => ⟨S1x12x2048x2048, .f32⟩
  | .hbm, ⟨90, _⟩ => ⟨S1x12x2048x2048, .f32⟩
  | .hbm, ⟨91, _⟩ => ⟨S1x12x2048x2048, .f32⟩
  | .hbm, ⟨92, _⟩ => ⟨S1x12x2048x64, .f32⟩
  | .hbm, ⟨93, _⟩ => ⟨S_, .f32⟩
  | .hbm, ⟨94, _⟩ => ⟨S1x12x2048, .f32⟩
  | .hbm, ⟨95, _⟩ => ⟨S1x12x2048x1, .f32⟩
  | .hbm, ⟨96, _⟩ => ⟨S_, .f32⟩
  | .hbm, ⟨97, _⟩ => ⟨S1x12x2048x1, .f32⟩
  | .hbm, ⟨98, _⟩ => ⟨S1x12x2048x1, .f32⟩
  | .hbm, ⟨99, _⟩ => ⟨S1x12x2048x64, .f32⟩
  | .hbm, ⟨100, _⟩ => ⟨S1x12x2048x64, .f32⟩
  | .hbm, ⟨101, _⟩ => ⟨S1x12x2048x64, .f32⟩
  | .hbm, ⟨102, _⟩ => ⟨S1x12x2048x64, .f32⟩
  | .hbm, ⟨103, _⟩ => ⟨S1x1x1x64, .f32⟩
  | .hbm, ⟨104, _⟩ => ⟨S1x12x2048x64, .f32⟩
  | .hbm, ⟨105, _⟩ => ⟨S1x12x2048x64, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_values : Ref sig .tc := ⟨.hbm, 18, rfl⟩
abbrev main_indices : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v20 : Ref sig .tc := ⟨.hbm, 42, rfl⟩
abbrev main_cst_7 : Ref sig .tc := ⟨.hbm, 43, rfl⟩
abbrev main_v21 : Ref sig .tc := ⟨.hbm, 44, rfl⟩
abbrev main_cst_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_13 : Ref sig .tc := ⟨.hbm, 72, rfl⟩
abbrev main_v44 : Ref sig .tc := ⟨.hbm, 73, rfl⟩
abbrev main_cst_14 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_15 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_16 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_17 : Ref sig .tc := ⟨.hbm, 93, rfl⟩
abbrev main_v61 : Ref sig .tc := ⟨.hbm, 94, rfl⟩
abbrev main_v62 : Ref sig .tc := ⟨.hbm, 95, rfl⟩
abbrev main_cst_18 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Proof.PI.Uniform.lean ====
module

public import proofs.«01_k».proof.Proof.Gen.KernelIdeal
public import Idealize.ShloMosaic.Lib.Pipeline.Regions

/-!
# The kernel body as loops

The body is printed unrolled: every block of every phase is a line of its own. Here the same body is
written as six loops over the block number, each with one step, and shown to be the printed one.
-/

@[expose] public section

noncomputable section

namespace Cert.KernelIdeal.Uni

open Idealize.ShloMosaic Idealize.SL.Sem
open Cert.KernelIdeal Cert.KernelIdeal.Gen

variable {F : FTy → Type} [FloatOps F]

/-- The type of the body's programs. -/
abbrev P (F : FTy → Type) [FloatOps F] := Prog (TpuEff nD τ sig (Elt F) Λ₀ .tc) PUnit

/-- `n` steps in order, each passing a state to the next, then the rest `K`. -/
def iter {σ : Type} {N : Nat} (step : Fin N → (σ → P F) → σ → P F) (K : σ → P F) : (n : Nat) → n ≤ N → σ → P F
  | 0, _ => K
  | n + 1, h => iter step (step ⟨n, h⟩ K) n (Nat.le_of_succ_le h)

/-! ## What each step stores -/

/-- The softmax of the keys, unshifted. -/
def payCk (x : Vec F S1x2048x64 .f32) : FVec F S2048x64 .f32 :=
  let e : FVec F S2048x64 .f32 := exp (shapeCast S2048x64 x shapeCasts_S1x2048x64_S2048x64)
  shapeCast S2048x64 (divf e (broadcastTo S2048x64 (shapeCast S2048x1
    (multiReduction .add [1] S2048 e 0x00000000#32 reduces_S2048x64_S2048 (.inl rfl) rfl)
    shapeCasts_S2048_S2048x1) broadcasts_S2048x1_S2048x64)) shapeCasts_S2048x64_S2048x64

/-- The exponentials of the queries. -/
def payEq (x : Vec F S1x2048x64 .f32) : FVec F S2048x64 .f32 :=
  shapeCast S2048x64 (exp (shapeCast S2048x64 x shapeCasts_S1x2048x64_S2048x64)) shapeCasts_S2048x64_S2048x64

/-- A block of values, copied. -/
def payV (x : Vec F S1x64x64 .f32) : FVec F S1x64x64 .f32 :=
  shapeCast S1x64x64 (shapeCast S64x64 x shapeCasts_S1x64x64_S64x64) shapeCasts_S64x64_S1x64x64

/-- A block of ones. -/
def payOne : FVec F S1x64x64 .f32 :=
  shapeCast S1x64x64 (broadcast S64x64 (Scalar.ofBits .f32 0x3F800000#32)) shapeCasts_S64x64_S1x64x64

/-- One block's state: the transposed product of its key features and its extended values. -/
def stBlk (c : Vec F S64x64 .f32) (v : Vec F S1x64x128 .f32) : FVec F S64x128 .f32 :=
  matmul dot_S64x64_S64x128_S64x128_0_0_1_1_n_n none c (shapeCast S64x128 v shapeCasts_S1x64x128_S64x128)
    (constant S64x128 .f32 0x00000000#32)

/-- The same with a leading axis. -/
def paySt (c : Vec F S64x64 .f32) (v : Vec F S1x64x128 .f32) : FVec F S1x64x128 .f32 :=
  shapeCast S1x64x128 (stBlk c v) shapeCasts_S64x128_S1x64x128

/-- The exponentials of one block of scaled scores. -/
def payP (q k : Vec F S1x64x64 .f32) : FVec F S1x64x64 .f32 :=
  shapeCast S1x64x64 (exp (mulf (matmul dot_S64x64_S64x64_S64x64_1_1_0_0_n_n none
    (shapeCast S64x64 q shapeCasts_S1x64x64_S64x64) (shapeCast S64x64 k shapeCasts_S1x64x64_S64x64)
    (constant S64x64 .f32 0x00000000#32)) (broadcast S64x64 (Scalar.ofBits .f32 0x3E000000#32))))
    shapeCasts_S64x64_S1x64x64

/-- One product of a block of weights with an extended block of values. -/
def mulPV (p : Vec F S1x64x64 .f32) (v : Vec F S1x64x128 .f32) : FVec F S64x128 .f32 :=
  matmul dot_S64x64_S64x128_S64x128_1_0_0_1_n_n none (shapeCast S64x64 p shapeCasts_S1x64x64_S64x64)
    (shapeCast S64x128 v shapeCasts_S1x64x128_S64x128) (constant S64x128 .f32 0x00000000#32)

/-- The four selected products, summed. -/
def payO (p0 p1 p2 p3 : Vec F S1x64x64 .f32) (v0 v1 v2 v3 : Vec F S1x64x128 .f32) : FVec F S64x128 .f32 :=
  shapeCast S64x128 (addf (addf (mulPV p0 v0) (mulPV p1 v1)) (addf (mulPV p2 v2) (mulPV p3 v3)))
    shapeCasts_S64x128_S64x128

/-- The query features times the total state less the four selected ones. -/
def payN (st : FVec F S64x128 .f32) (s0 s1 s2 s3 : Vec F S1x64x128 .f32) (e : Vec F S64x64 .f32) : FVec F S64x128 .f32 :=
  shapeCast S64x128 (matmul dot_S64x64_S64x128_S64x128_1_0_0_1_n_n none e
    (subf st (addf
      (addf (shapeCast S64x128 s0 shapeCasts_S1x64x128_S64x128) (shapeCast S64x128 s1 shapeCasts_S1x64x128_S64x128))
      (addf (shapeCast S64x128 s2 shapeCasts_S1x64x128_S64x128) (shapeCast S64x128 s3 shapeCasts_S1x64x128_S64x128))))
    (constant S64x128 .f32 0x00000000#32)) shapeCasts_S64x128_S64x128

/-- The sparse result. -/
def outS (oe : Vec F S2048x128 .f32) : FVec F S2048x64 .f32 :=
  divf (extractStridedSlice S2048x64 ![0, 0] oe slices_S2048x128_o0_0_S2048x64)
    (broadcastTo S2048x64 (extractStridedSlice S2048x1 ![0, 64] oe slices_S2048x128_o0_64_S2048x1)
      broadcasts_S2048x1_S2048x64)

/-- The linear result before its projection. -/
def outL (ne : Vec F S2048x128 .f32) (e : Vec F S2048x64 .f32) : FVec F S2048x64 .f32 :=
  divf (extractStridedSlice S2048x64 ![0, 0] ne slices_S2048x128_o0_0_S2048x64)
    (broadcastTo S2048x64 (addf (extractStridedSlice S2048x1 ![0, 64] ne slices_S2048x128_o0_64_S2048x1)
      (mulf (broadcast S2048x1 (Scalar.ofBits .f32 0x358637BD#32)) (shapeCast S2048x1
        (multiReduction .add [1] S2048 e 0x00000000#32 reduces_S2048x64_S2048 (.inl rfl) rfl)
        shapeCasts_S2048_S2048x1))) broadcasts_S2048x1_S2048x64)

/-- What the body returns. -/
def payOut (oe ne : Vec F S2048x128 .f32) (e : Vec F S2048x64 .f32) (w : Vec F S64x64 .f32) (b : Vec F S1x64 .f32) :
    FVec F S1x2048x64 .f32 :=
  shapeCast S1x2048x64 (addf (addf (outS oe)
    (matmul dot_S2048x64_S64x64_S2048x64_1_1_0_0_n_n none (outL ne e) w (constant S2048x64 .f32 0x00000000#32)))
    (broadcastTo S2048x64 (shapeCast S1x64 b shapeCasts_S1x64_S1x64) broadcasts_S1x64_S2048x64))
    shapeCasts_S2048x64_S1x2048x64

/-! ## The rectangles -/

/-- A rectangle of three dimensions lies within an array if it does so in each of them. -/
theorem inb3 (a b c x y z A B C : Nat) (ha : a + x ≤ A) (hb : b + y ≤ B) (hc : c + z ≤ C) :
    ∀ d, (![a, b, c] : Fin 3 → Nat) d + (![x, y, z] : Fin 3 → Nat) d ≤ (![A, B, C] : Fin 3 → Nat) d := by
  intro d; fin_cases d <;> simpa

/-- A rectangle of two dimensions lies within an array if it does so in each of them. -/
theorem inb2 (a b x y A B : Nat) (ha : a + x ≤ A) (hb : b + y ≤ B) :
    ∀ d, (![a, b] : Fin 2 → Nat) d + (![x, y] : Fin 2 → Nat) d ≤ (![A, B] : Fin 2 → Nat) d := by
  intro d; fin_cases d <;> simpa

/-- Block `j` of rows of a (1, 2048, 64) array. -/
def rRow (j : Fin 32) : Rect S1x2048x64 :=
  Rect.unit (s := S1x2048x64) ![0, 64 * j.val, 0] S1x64x64.size (inb3 0 (64 * j.val) 0 1 64 64 1 2048 64 (by omega) (by omega) (by omega))
/-- Block `j` of rows of a (2048, 64) array. -/
def rRow2 (j : Fin 32) : Rect S2048x64 :=
  Rect.unit (s := S2048x64) ![64 * j.val, 0] S64x64.size (inb2 (64 * j.val) 0 64 64 2048 64 (by omega) (by omega))
/-- Block `j` of rows of a (2048, 128) array. -/
def rRow3 (j : Fin 32) : Rect S2048x128 :=
  Rect.unit (s := S2048x128) ![64 * j.val, 0] S64x128.size (inb2 (64 * j.val) 0 64 128 2048 128 (by omega) (by omega))
/-- The values' half of block `j`. -/
def rVl (j : Fin 32) : Rect S32x64x128 :=
  Rect.unit (s := S32x64x128) ![j.val, 0, 0] S1x64x64.size (inb3 j.val 0 0 1 64 64 32 64 128 (by omega) (by omega) (by omega))
/-- The ones' half of block `j`. -/
def rVr (j : Fin 32) : Rect S32x64x128 :=
  Rect.unit (s := S32x64x128) ![j.val, 0, 64] S1x64x64.size (inb3 j.val 0 64 1 64 64 32 64 128 (by omega) (by omega) (by omega))
/-- Block `j` of a (32, 64, 128) array. -/
def rBlk (j : Fin 32) : Rect S32x64x128 :=
  Rect.unit (s := S32x64x128) ![j.val, 0, 0] S1x64x128.size (inb3 j.val 0 0 1 64 128 32 64 128 (by omega) (by omega) (by omega))
/-- Weights of query block `i` against its selected block number `t`. -/
def rP (i : Fin 32) (t : Fin 4) : Rect S32x64x256 :=
  Rect.unit (s := S32x64x256) ![i.val, 0, 64 * t.val] S1x64x64.size (inb3 i.val 0 (64 * t.val) 1 64 64 32 64 256 (by omega) (by omega) (by omega))
/-- The word of the index table that grid point `i` reads `n`-th. -/
def rIdx (i : grid0.Coords) (n : Fin 128) : Rect S12x32x4 :=
  Rect.unit (s := S12x32x4) ![(BitVec.ofNat 32 (i 0).val).toNat, n.val / 4, n.val % 4] S1x1x1.size
    (inb3 _ (n.val / 4) (n.val % 4) 1 1 1 12 32 4
      (by have h : (i 0).val < 12 := (i 0).isLt
          rw [BitVec.toNat_ofNat]; exact le_trans (Nat.succ_le_succ (Nat.mod_le _ _)) h) (by omega) (by omega))
/-- Rows of the key block that a word selects. -/
def rK (w : BitVec 32) (h : k0_chk1 w) : Rect S1x2048x64 :=
  Rect.unit (s := S1x2048x64) (k0_off129 w) S1x64x64.size (k0_off129_inb w h)
/-- The extended block that a word selects. -/
def rSel (w : BitVec 32) (h : k0_chk1 w) : Rect S32x64x128 :=
  Rect.unit (s := S32x64x128) (k0_off257 w) S1x64x128.size (k0_off257_inb w h)

/-- A word that selects a block within bounds. -/
abbrev Word := { w : BitVec 32 // k0_chk1 w }

/-- The rectangle of one word of the index table has one entry. -/
theorem numel_rIdx (i : grid0.Coords) (n : Fin 128) : (rIdx i n).shape.numel = 1 :=
  (rfl : (rIdx i n).shape.numel = Shape.numel ⟨3, S1x1x1.size⟩).trans numel1_S1x1x1

/-- The word 0 selects a block within bounds. -/
theorem chk_zero : k0_chk1 0#32 := by decide

/-! ## The steps -/

/-- A load, continued. -/
def ld {s : Shape} {e : EltTy} (m : Memref sig .tc .vmem s e) (r : Rect s) (h : m.view.LoadsAt r.toLoadRect)
    (K : (r.shape.Idx → Elt F e) → P F) : P F := .op (.load m r.toLoadRect h) K

/-- A store of a whole rectangle, continued; the body reads the rectangle first, and drops what it read. -/
def sto {s : Shape} {e : EltTy} (m : Memref sig .tc .vmem s e) (r : Rect s) (w : r.shape.Idx → Elt F e)
    (hl : m.view.LoadsAt r.toLoadRect) (h : (m.access r).Stores Finset.univ) (K : P F) : P F :=
  ld m r hl fun _ => .op (.store m r w Finset.univ h (.inl rfl)) fun _ => K

section Steps

variable (i : grid0.Coords) (arg1 : Memref sig .tc .smem S12x32x4 .i32) (arg2 : Memref sig .tc .vmem S1x2048x64 .f32)
  (arg3 : Memref sig .tc .vmem S1x2048x64 .f32) (arg4 : Memref sig .tc .vmem S1x2048x64 .f32)
  (arg5 : Memref sig .tc .vmem S64x64 .f32) (arg6 : Memref sig .tc .vmem S1x64 .f32)
  (arg7 : Memref sig .tc .vmem S1x2048x64 .f32) (arg8 : Memref sig .tc .vmem S2048x64 .f32)
  (arg9 : Memref sig .tc .vmem S2048x64 .f32) (arg10 : Memref sig .tc .vmem S32x64x128 .f32)
  (arg11 : Memref sig .tc .vmem S32x64x128 .f32) (arg12 : Memref sig .tc .vmem S32x64x256 .f32)
  (arg13 : Memref sig .tc .vmem S2048x128 .f32) (arg14 : Memref sig .tc .vmem S2048x128 .f32)

/-- The whole rectangle of each rank. -/
abbrev rAll3 : Rect S1x2048x64 := Rect.unit (s := S1x2048x64) ![0, 0, 0] S1x2048x64.size inb_S1x2048x64_S1x2048x64_0_0_0
@[inherit_doc rAll3]
abbrev rAll2 : Rect S2048x64 := Rect.unit (s := S2048x64) ![0, 0] S2048x64.size inb_S2048x64_S2048x64_0_0
@[inherit_doc rAll3]
abbrev rAllE : Rect S2048x128 := Rect.unit (s := S2048x128) ![0, 0] S2048x128.size inb_S2048x128_S2048x128_0_0
@[inherit_doc rAll3]
abbrev rAllW : Rect S64x64 := Rect.unit (s := S64x64) ![0, 0] S64x64.size inb_S64x64_S64x64_0_0
@[inherit_doc rAll3]
abbrev rAllB : Rect S1x64 := Rect.unit (s := S1x64) ![0, 0] S1x64.size inb_S1x64_S1x64_0_0

/-- Key features and query exponentials. -/
def stepA (K : P F) : P F :=
  ld arg3 rAll3 (View.loadsAt_vmem h_S1x2048x64) fun x =>
  sto arg8 rAll2 (payCk x) (View.loadsAt_vmem h_S2048x64) (View.stores_vmem_bits_univ h_S2048x64 rfl) <|
  ld arg2 rAll3 (View.loadsAt_vmem h_S1x2048x64) fun y =>
  sto arg9 rAll2 (payEq y) (View.loadsAt_vmem h_S2048x64) (View.stores_vmem_bits_univ h_S2048x64 rfl) K

/-- Extended values of block `j`. -/
def stepB (j : Fin 32) (K : PUnit → P F) (_ : PUnit) : P F :=
  ld arg4 (rRow j) (View.loadsAt_vmem h_S1x64x64) fun x =>
  sto arg10 (rVl j) (payV x) (View.loadsAt_vmem h_S1x64x64) (View.stores_vmem_bits_univ h_S1x64x64 rfl) <|
  sto arg10 (rVr j) payOne (View.loadsAt_vmem h_S1x64x64) (View.stores_vmem_bits_univ h_S1x64x64 rfl) (K ⟨⟩)

/-- The four running sums of block states; the one that is next comes first. -/
abbrev Acc (F : FTy → Type) := FVec F S64x128 .f32 × FVec F S64x128 .f32 × FVec F S64x128 .f32 × FVec F S64x128 .f32

/-- The state of block `j`, stored and added to its running sum. -/
def stepC (j : Fin 32) (K : Acc F → P F) (a : Acc F) : P F :=
  ld arg8 (rRow2 j) (View.loadsAt_vmem h_S64x64) fun c =>
  ld arg10 (rBlk j) (View.loadsAt_vmem h_S1x64x128) fun v =>
  sto arg11 (rBlk j) (paySt c v) (View.loadsAt_vmem h_S1x64x128) (View.stores_vmem_bits_univ h_S1x64x128 rfl) <|
  K (a.2.1, a.2.2.1, a.2.2.2, addf a.1 (stBlk c v))

/-- The words read so far. -/
abbrev Sel := Nat → Word

/-- A word required to select within bounds. -/
def asm (w : BitVec 32) (K : Word → P F) : P F :=
  .op (.assume (k0_chk1 w) (k0_chk1.dec w)) fun h => K ⟨w, h.down⟩

/-- Word number `n` of the table, read and required to be in bounds. -/
def stepD (n : Fin 128) (K : Sel → P F) (s : Sel) : P F :=
  .op (.load arg1 (rIdx i n).toLoadRect (View.loadsAt_rect (View.loads_smem_one rfl (numel_rIdx i n))))
    fun f => asm (f (Shape.Idx.first ((numel_rIdx i n).symm ▸ Nat.one_pos))) fun w =>
      K (fun m => if m = n.val then w else s m)

/-- One block of weights. -/
def stepE1 (s : Sel) (q : Vec F S1x64x64 .f32) (j : Fin 32) (t : Fin 4) (K : P F) : P F :=
  ld arg3 (rK (s (4 * j.val + t.val)).1 (s (4 * j.val + t.val)).2) (View.loadsAt_vmem h_S1x64x64) fun k =>
  sto arg12 (rP j t) (payP q k) (View.loadsAt_vmem h_S1x64x64) (View.stores_vmem_bits_univ h_S1x64x64 rfl) K

/-- The four blocks of weights of query block `j`. -/
def stepE (s : Sel) (j : Fin 32) (K : PUnit → P F) (_ : PUnit) : P F :=
  ld arg2 (rRow j) (View.loadsAt_vmem h_S1x64x64) fun q =>
  stepE1 arg3 arg12 s q j 0 <| stepE1 arg3 arg12 s q j 1 <| stepE1 arg3 arg12 s q j 2 <| stepE1 arg3 arg12 s q j 3 (K ⟨⟩)

/-- The extended block that selected word `t` of query block `j` names. -/
def ldSel (arg : Memref sig .tc .vmem S32x64x128 .f32) (s : Sel) (j : Fin 32) (t : Fin 4) (K : Vec F S1x64x128 .f32 → P F) : P F :=
  ld arg (rSel (s (4 * j.val + t.val)).1 (s (4 * j.val + t.val)).2) (View.loadsAt_vmem h_S1x64x128) K

/-- The weights of query block `j` against its selected block `t`. -/
def ldP (j : Fin 32) (t : Fin 4) (K : Vec F S1x64x64 .f32 → P F) : P F :=
  ld arg12 (rP j t) (View.loadsAt_vmem h_S1x64x64) K

/-- The extended results of query block `j`. -/
def stepF (st : FVec F S64x128 .f32) (s : Sel) (j : Fin 32) (K : PUnit → P F) (_ : PUnit) : P F :=
  ldSel arg10 s j 0 fun v0 => ldSel arg10 s j 1 fun v1 => ldSel arg10 s j 2 fun v2 => ldSel arg10 s j 3 fun v3 =>
  ldSel arg11 s j 0 fun s0 => ldSel arg11 s j 1 fun s1 => ldSel arg11 s j 2 fun s2 => ldSel arg11 s j 3 fun s3 =>
  ldP arg12 j 0 fun p0 => ldP arg12 j 1 fun p1 => ldP arg12 j 2 fun p2 => ldP arg12 j 3 fun p3 =>
  sto arg13 (rRow3 j) (payO p0 p1 p2 p3 v0 v1 v2 v3) (View.loadsAt_vmem h_S64x128)
    (View.stores_vmem_bits_univ h_S64x128 rfl) <|
  ld arg9 (rRow2 j) (View.loadsAt_vmem h_S64x64) fun e =>
  sto arg14 (rRow3 j) (payN st s0 s1 s2 s3 e) (View.loadsAt_vmem h_S64x128)
    (View.stores_vmem_bits_univ h_S64x128 rfl) (K ⟨⟩)

/-- The quotients, the projection and the bias. -/
def stepG : P F :=
  ld arg13 rAllE (View.loadsAt_vmem h_S2048x128) fun oe =>
  ld arg14 rAllE (View.loadsAt_vmem h_S2048x128) fun ne =>
  ld arg9 rAll2 (View.loadsAt_vmem h_S2048x64) fun e =>
  ld arg5 rAllW (View.loadsAt_vmem h_S64x64) fun w =>
  ld arg6 rAllB (View.loadsAt_vmem h_S1x64) fun b =>
  sto arg7 rAll3 (payOut oe ne e w b) (View.loadsAt_vmem h_S1x2048x64) (View.stores_vmem_bits_univ h_S1x2048x64 rfl) (.ret ⟨⟩)

/-- The zero with which a running sum starts. -/
def zero2 : FVec F S64x128 .f32 := broadcast S64x128 (Scalar.ofBits .f32 0x00000000#32)

/-- The total of the four running sums. -/
def total (a : Acc F) : FVec F S64x128 .f32 := addf (addf a.1 a.2.1) (addf a.2.2.1 a.2.2.2)

/-- The body as loops. -/
def uni : P F :=
  stepA arg2 arg3 arg8 arg9 <|
  iter (stepB arg4 arg10) (fun _ =>
  iter (stepC arg8 arg10 arg11) (fun a =>
  iter (stepD i arg1) (fun s =>
  iter (stepE arg2 arg3 arg12 s) (fun _ =>
  iter (stepF arg9 arg10 arg11 arg12 arg13 arg14 (total a) s) (fun _ =>
  stepG arg5 arg6 arg7 arg9 arg13 arg14) 32 le_rfl ⟨⟩) 32 le_rfl ⟨⟩)
  128 le_rfl (fun _ => ⟨0#32, chk_zero⟩)) 32 le_rfl (zero2, zero2, zero2, zero2)) 32 le_rfl ⟨⟩

end Steps

set_option maxRecDepth 65536 in
/-- The printed body is the body as loops. -/
theorem body_eq_uni (i : grid0.Coords) (arg1 : Memref sig .tc .smem S12x32x4 .i32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S32x64x128 .f32) (harg10 : arg10.IsWhole) (arg11 : Memref sig .tc .vmem S32x64x128 .f32) (harg11 : arg11.IsWhole) (arg12 : Memref sig .tc .vmem S32x64x256 .f32) (harg12 : arg12.IsWhole) (arg13 : Memref sig .tc .vmem S2048x128 .f32) (harg13 : arg13.IsWhole) (arg14 : Memref sig .tc .vmem S2048x128 .f32) (harg14 : arg14.IsWhole) :
    cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14
      = uni (F := F) i arg1 arg2 arg3 arg4 arg5 arg6 arg7 arg8 arg9 arg10 arg11 arg12 arg13 arg14 := by chain_rfl

end Cert.KernelIdeal.Uni
-- ==== Proof.PI.Rules.lean ====
module

public import proofs.«01_k».proof.Proof.PI.Uniform
public import Idealize.ShloMosaic.Lib.Memref
public import Idealize.ShloMosaic.Lib.Pipeline.FrameBody
public import Idealize.ShloMosaic.Lib.Pointwise

/-!
# Rules for the loops' lines

One buffer is described by an array `T` it is being filled with and the set `D` of indices where it already
agrees with `T`. A load from within `D` gives `T`'s part; a store of `T`'s part enlarges `D`.
-/

@[expose] public section

noncomputable section

namespace Cert.KernelIdeal.Uni

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body has no loop of the machine's own to measure. -/
abbrev 𝒱₀ : Variants := Variants.none

/-- The memref's buffer agrees with `T` on `D`. -/
def filled (c : Dev nD) {sp : Space} {s : Shape} {e : EltTy} (m : Memref sig .tc sp s e) (T : s.Idx → Elt F e) (D : s.Idx → Prop) :
    sProp 𝕄 := iprop(∃ X, ⌜∀ i, D i → X i = T i⌝ ∗ owns (c : Thread nD τ) m fullShare X)

variable {c : Dev nD}

/-- Contents known nowhere are any contents. -/
theorem filled_of_owns {sp : Space} {s : Shape} {e : EltTy} (m : Memref sig .tc sp s e) (T : s.Idx → Elt F e) {D : s.Idx → Prop}
    (hD : ∀ i, ¬ D i) : iprop(∃ X, owns (c : Thread nD τ) m fullShare X) ⊢ (filled c m T D : sProp 𝕄) := by
  unfold filled
  iintro ⟨%X, H⟩
  iexists X; isplitr; · ipureintro; exact fun i h => (hD i h).elim
  iexact H

/-- Contents known everywhere. -/
theorem filled_all {sp : Space} {s : Shape} {e : EltTy} (m : Memref sig .tc sp s e) (T : s.Idx → Elt F e) {D : s.Idx → Prop}
    (hD : ∀ i, D i) : (filled c m T D : sProp 𝕄) = owns (c : Thread nD τ) m fullShare T := by
  unfold filled
  have h₁ : iprop(∃ X, ⌜∀ i, D i → X i = T i⌝ ∗ owns (c : Thread nD τ) m fullShare X) ⊢ (owns (c : Thread nD τ) m fullShare T : sProp 𝕄) := by
    iintro ⟨%X, %h, H⟩
    obtain rfl : X = T := funext fun i => h i (hD i)
    iexact H
  have h₂ : (owns (c : Thread nD τ) m fullShare T : sProp 𝕄) ⊢ iprop(∃ X, ⌜∀ i, D i → X i = T i⌝ ∗ owns (c : Thread nD τ) m fullShare X) := by
    iintro H
    iexists T; isplitr; · ipureintro; exact fun _ _ => rfl
    iexact H
  exact Entails.antisymm h₁ h₂

/-- What is known may be restricted. -/
theorem filled_mono {sp : Space} {s : Shape} {e : EltTy} (m : Memref sig .tc sp s e) (T : s.Idx → Elt F e) {D D' : s.Idx → Prop}
    (h : ∀ i, D' i → D i) : (filled c m T D : sProp 𝕄) ⊢ filled c m T D' := by
  unfold filled
  iintro ⟨%X, %hX, H⟩
  iexists X; isplitr; · ipureintro; exact fun i hi => hX i (h i hi)
  iexact H

/-- A load from the known part gives the described array's part. -/
theorem wp_ld {s : Shape} {e : EltTy} {m : Memref sig .tc .vmem s e} {r : Rect s} {h : m.view.LoadsAt r.toLoadRect}
    {K : (r.shape.Idx → Elt F e) → P F} {Q : PUnit → sProp 𝕄} {T : s.Idx → Elt F e} {D : s.Idx → Prop} (hD : ∀ y, D (r.emb y)) :
    (filled c m T D : sProp 𝕄) ⊢ iprop((filled c m T D -∗ wp frame (wpE defs₀ 𝒱₀ (c : Thread nD τ) none) Set.univ (K fun y => T (r.emb y)) Q)
      -∗ wp frame (wpE defs₀ 𝒱₀ (c : Thread nD τ) none) Set.univ (ld m r h K) Q) := by
  unfold filled owns ld
  iintro ⟨%X, %hX, %f, %hf, H⟩ HK
  iapply (wp_load_rect 𝒱₀ (c : Thread nD τ) none Set.univ (m := m) (r := r) (q := fullShare) (f := f) (m.view.set_slice_subset r)) $$ H
  iintro H
  have e : (fun y => T (r.emb y)) = (m.access r).read (Elt F) f := by
    funext y
    rw [← hX _ (hD y), ← hf]; rfl
  rw [← e]
  iapply HK
  iexists X; isplitr; · ipureintro; exact hX
  iexists f; isplitr; · ipureintro; exact hf
  iexact H

/-- A store of the described array's part enlarges the known part. -/
theorem wp_sto {s : Shape} {e : EltTy} {m : Memref sig .tc .vmem s e} {r : Rect s} {hl : m.view.LoadsAt r.toLoadRect}
    {w : r.shape.Idx → Elt F e} {h : (m.access r).Stores Finset.univ}
    {K : P F} {Q : PUnit → sProp 𝕄} {T : s.Idx → Elt F e} {D : s.Idx → Prop} (D' : s.Idx → Prop) (hw : w = fun y => T (r.emb y))
    (hD : ∀ i, D' i → D i ∨ i ∈ r.set) :
    (filled c m T D : sProp 𝕄) ⊢ iprop((filled c m T D' -∗ wp frame (wpE defs₀ 𝒱₀ (c : Thread nD τ) none) Set.univ K Q)
      -∗ wp frame (wpE defs₀ 𝒱₀ (c : Thread nD τ) none) Set.univ (sto m r w hl h K) Q) := by
  unfold filled owns sto ld
  iintro ⟨%X, %hX, %f, %hf, H⟩ HK
  iapply (wp_load_rect 𝒱₀ (c : Thread nD τ) none Set.univ (m := m) (r := r) (q := fullShare) (f := f) (m.view.set_slice_subset r)) $$ H
  iintro H
  iapply (wp_store 𝒱₀ (c : Thread nD τ) none Set.univ (m := m) (r := r) (Mk := Finset.univ) (f := f)
    (by rw [View.setOn_univ]; exact m.view.set_slice_subset r)) $$ H
  iintro H
  iapply HK
  iexists ((m.view.read (Elt F) ((m.access r).write (Elt F) f w Finset.univ)))
  isplitr
  · ipureintro
    intro i hi
    by_cases hr : i ∈ r.set
    · obtain ⟨y, rfl⟩ := r.exists_idx_of_mem hr
      have := congrFun (View.read_write_univ (v := m.access r) (Val := Elt F) f w) y
      exact this.trans (congrFun hw y)
    · rcases hD i hi with h | h
      · rw [← hX i h, ← hf]
        exact View.read_slice_write_of_not_mem r f w Finset.univ (by rw [Rect.map_emb_univ]; exact hr)
      · exact (hr h).elim
  iexists _; isplitr; swap
  · iexact H
  · ipureintro; rfl

/-- Steps that each carry an invariant on carry it through the loop. -/
theorem wp_iter {σ : Type} {N : Nat} {step : Fin N → (σ → P F) → σ → P F} {Q : PUnit → sProp 𝕄} (Inv : Nat → σ → sProp 𝕄)
    (hstep : ∀ (j : Fin N) (K : σ → P F) (s : σ),
      Inv j.val s ⊢ iprop((∀ s', Inv (j.val + 1) s' -∗ wp frame (wpE defs₀ 𝒱₀ (c : Thread nD τ) none) Set.univ (K s') Q)
        -∗ wp frame (wpE defs₀ 𝒱₀ (c : Thread nD τ) none) Set.univ (step j K s) Q)) :
    ∀ (n : Nat) (h : n ≤ N) (K : σ → P F) (s : σ),
      Inv 0 s ⊢ iprop((∀ s', Inv n s' -∗ wp frame (wpE defs₀ 𝒱₀ (c : Thread nD τ) none) Set.univ (K s') Q)
        -∗ wp frame (wpE defs₀ 𝒱₀ (c : Thread nD τ) none) Set.univ (iter step K n h s) Q)
  | 0, _, K, s => by
    unfold iter
    iintro H HK
    ispecialize HK $$ %s
    iapply HK
    iexact H
  | n + 1, h, K, s => by
    unfold iter
    iintro H HK
    iapply (wp_iter Inv hstep n (Nat.le_of_succ_le h) (step ⟨n, h⟩ K) s) $$ H
    iintro %s' H
    iapply (hstep ⟨n, h⟩ K s') $$ H
    iexact HK

end Cert.KernelIdeal.Uni
-- ==== Proof.PI.Targets.lean ====
module

public import proofs.«01_k».proof.Proof.PI.Rules

/-!
# What the body leaves in each buffer

Each scratch buffer of the body ends a phase holding an array that the inputs determine. Those arrays are
given here one entry at a time, with the facts that place each block within its buffer.
-/

@[expose] public section

noncomputable section

namespace Cert.KernelIdeal.Uni

open Cert.KernelIdeal Cert.KernelIdeal.Gen
open Idealize.ShloMosaic

variable {F : FTy → Type} [FloatOps F]

/-! ## Blocks within buffers -/

/-- The number of the block that a word selects. -/
def selK (w : BitVec 32) : Fin 32 := ⟨w.toNat % 32, Nat.mod_lt _ (by decide)⟩

/-- A word within bounds is below the number of blocks. -/
theorem lt_of_chk {w : BitVec 32} (h : k0_chk1 w) : w.toNat < 32 := by
  have := h.2 0
  exact this

/-- A word below the number of blocks is within bounds. -/
theorem chk_of_lt {w : BitVec 32} (h : w.toNat < 32) : k0_chk1 w := by
  have e : (Scalar.muli w 64#32).toNat = 64 * w.toNat := by
    show (w * 64#32).toNat = _
    rw [BitVec.toNat_mul]; simp; omega
  refine ⟨fun a => ?_, fun a => ?_⟩
  · fin_cases a
    · show 0 + 1 ≤ 1; omega
    · show (Scalar.muli w 64#32).toNat + 64 ≤ 2048
      rw [e]; omega
    · show 0 + 64 ≤ 64; omega
  · fin_cases a
    · show w.toNat + 1 ≤ 32; omega
    · show 0 + 64 ≤ 64; omega
    · show 0 + 128 ≤ 128; omega

/-- The rows a word selects are those of its block. -/
theorem rK_emb {w : BitVec 32} (h : k0_chk1 w) (y : S1x64x64.Idx) : (rK w h).emb y = (rRow (selK w)).emb y := by
  have hw := lt_of_chk h
  have e : (Scalar.muli w 64#32).toNat = 64 * (w.toNat % 32) := by
    show (w * 64#32).toNat = _
    rw [BitVec.toNat_mul]; simp; omega
  funext a
  apply Fin.ext
  fin_cases a
  · rfl
  · show (Scalar.muli w 64#32).toNat + _ = 64 * (w.toNat % 32) + _
    rw [e]; rfl
  · rfl

/-- The extended block a word selects is its block's. -/
theorem rSel_emb {w : BitVec 32} (h : k0_chk1 w) (y : S1x64x128.Idx) : (rSel w h).emb y = (rBlk (selK w)).emb y := by
  have hw := lt_of_chk h
  funext a
  apply Fin.ext
  fin_cases a
  · show w.toNat + _ = (w.toNat % 32) + _
    rw [Nat.mod_eq_of_lt hw]; rfl
  · rfl
  · rfl

/-- A block's index, placed: each coordinate moves by the block's offset. -/
theorem emb_unit {s : Shape} {off size : Fin s.rank → Nat} {inb : ∀ a, off a + size a ≤ s.size a}
    (y : (Rect.unit (s := s) off size inb).shape.Idx) (a : Fin s.rank) :
    ((Rect.unit (s := s) off size inb).emb y a).val = off a + (y a).val := by
  rw [Rect.emb_apply]; simp

/-- The whole rectangle of a (1, 2048, 64) array leaves indices as they are. -/
theorem emb_all3 (y : S1x2048x64.Idx) : rAll3.emb y = y := by
  funext a; apply Fin.ext; refine (emb_unit _ _).trans ?_; fin_cases a <;> exact Nat.zero_add _
/-- The whole rectangle of a (2048, 64) array leaves indices as they are. -/
theorem emb_all2 (y : S2048x64.Idx) : rAll2.emb y = y := by
  funext a; apply Fin.ext; refine (emb_unit _ _).trans ?_; fin_cases a <;> exact Nat.zero_add _
/-- The whole rectangle of a (2048, 128) array leaves indices as they are. -/
theorem emb_allE (y : S2048x128.Idx) : rAllE.emb y = y := by
  funext a; apply Fin.ext; refine (emb_unit _ _).trans ?_; fin_cases a <;> exact Nat.zero_add _
/-- The whole rectangle of a (64, 64) array leaves indices as they are. -/
theorem emb_allW (y : S64x64.Idx) : rAllW.emb y = y := by
  funext a; apply Fin.ext; refine (emb_unit _ _).trans ?_; fin_cases a <;> exact Nat.zero_add _
/-- The whole rectangle of a (1, 64) array leaves indices as they are. -/
theorem emb_allB (y : S1x64.Idx) : rAllB.emb y = y := by
  funext a; apply Fin.ext; refine (emb_unit _ _).trans ?_; fin_cases a <;> exact Nat.zero_add _

/-- Row `r` of block `j`, among all rows. -/
def row (j : Fin 32) (r : Fin 64) : Fin 2048 := ⟨64 * j.val + r.val, by omega⟩
/-- The block of a row. -/
def rowB (n : Fin 2048) : Fin 32 := ⟨n.val / 64, by omega⟩
/-- The place of a row in its block. -/
def rowR (n : Fin 2048) : Fin 64 := ⟨n.val % 64, by omega⟩

/-- Row `r` of block `j` lies in block `j`. -/
theorem rowB_row (j : Fin 32) (r : Fin 64) : rowB (row j r) = j := by
  apply Fin.ext; show (64 * j.val + r.val) / 64 = j.val; omega
/-- Row `r` of block `j` is at place `r` in its block. -/
theorem rowR_row (j : Fin 32) (r : Fin 64) : rowR (row j r) = r := by
  apply Fin.ext; show (64 * j.val + r.val) % 64 = r.val; omega
/-- A row is the row at its own place of its own block. -/
theorem row_rowB (n : Fin 2048) : row (rowB n) (rowR n) = n := by
  apply Fin.ext; show 64 * (n.val / 64) + n.val % 64 = n.val; omega

/-- Column `c` of the `t`-th selected block, among all columns of the weights. -/
def colP (t : Fin 4) (c : Fin 64) : Fin 256 := ⟨64 * t.val + c.val, by omega⟩
/-- The values' column of an extended column. -/
def colV (c : Fin 64) : Fin 128 := ⟨c.val, by omega⟩
/-- The ones' column of an extended column. -/
def colO (c : Fin 64) : Fin 128 := ⟨64 + c.val, by omega⟩

/-- Where an index of block `j` of rows lies in a (1, 2048, 64) array. -/
theorem rRow_emb (j : Fin 32) (y : S1x64x64.Idx) :
    (rRow j).emb y = ix3 (n0 := 1) (n1 := 2048) (n2 := 64) 0 (row j (y 1)) (y 2) := by
  have h0 : (y 0).val < 1 := (y 0).isLt
  funext a; apply Fin.ext; refine (emb_unit _ _).trans ?_; fin_cases a
  · show 0 + (y 0).val = 0; omega
  · rfl
  · exact Nat.zero_add _
/-- Where an index of block `j` of rows lies in a (2048, 64) array. -/
theorem rRow2_emb (j : Fin 32) (y : S64x64.Idx) :
    (rRow2 j).emb y = ix2 (n0 := 2048) (n1 := 64) (row j (y 0)) (y 1) := by
  funext a; apply Fin.ext; refine (emb_unit _ _).trans ?_; fin_cases a
  · rfl
  · exact Nat.zero_add _
/-- Where an index of block `j` of rows lies in a (2048, 128) array. -/
theorem rRow3_emb (j : Fin 32) (y : S64x128.Idx) :
    (rRow3 j).emb y = ix2 (n0 := 2048) (n1 := 128) (row j (y 0)) (y 1) := by
  funext a; apply Fin.ext; refine (emb_unit _ _).trans ?_; fin_cases a
  · rfl
  · exact Nat.zero_add _
/-- Where an index of block `j` lies in a (32, 64, 128) array. -/
theorem rBlk_emb (j : Fin 32) (y : S1x64x128.Idx) :
    (rBlk j).emb y = ix3 (n0 := 32) (n1 := 64) (n2 := 128) j (y 1) (y 2) := by
  have h0 : (y 0).val < 1 := (y 0).isLt
  funext a; apply Fin.ext; refine (emb_unit _ _).trans ?_; fin_cases a
  · show j.val + (y 0).val = j.val; omega
  · exact Nat.zero_add _
  · exact Nat.zero_add _
/-- Where an index of the values' half of block `j` lies in a (32, 64, 128) array. -/
theorem rVl_emb (j : Fin 32) (y : S1x64x64.Idx) :
    (rVl j).emb y = ix3 (n0 := 32) (n1 := 64) (n2 := 128) j (y 1) (colV (y 2)) := by
  have h0 : (y 0).val < 1 := (y 0).isLt
  funext a; apply Fin.ext; refine (emb_unit _ _).trans ?_; fin_cases a
  · show j.val + (y 0).val = j.val; omega
  · exact Nat.zero_add _
  · exact Nat.zero_add _
/-- Where an index of the ones' half of block `j` lies in a (32, 64, 128) array. -/
theorem rVr_emb (j : Fin 32) (y : S1x64x64.Idx) :
    (rVr j).emb y = ix3 (n0 := 32) (n1 := 64) (n2 := 128) j (y 1) (colO (y 2)) := by
  have h0 : (y 0).val < 1 := (y 0).isLt
  funext a; apply Fin.ext; refine (emb_unit _ _).trans ?_; fin_cases a
  · show j.val + (y 0).val = j.val; omega
  · exact Nat.zero_add _
  · rfl
/-- Where an index of the weights of query block `j` against its `t`-th selected block lies in the array of weights. -/
theorem rP_emb (j : Fin 32) (t : Fin 4) (y : S1x64x64.Idx) :
    (rP j t).emb y = ix3 (n0 := 32) (n1 := 64) (n2 := 256) j (y 1) (colP t (y 2)) := by
  have h0 : (y 0).val < 1 := (y 0).isLt
  funext a; apply Fin.ext; refine (emb_unit _ _).trans ?_; fin_cases a
  · show j.val + (y 0).val = j.val; omega
  · exact Nat.zero_add _
  · rfl

/-- An index of block `j`, or of an earlier one. -/
theorem mem_rBlk (j : Fin 32) (i : S32x64x128.Idx) (h : (i 0).val < j.val + 1) : (i 0).val < j.val ∨ i ∈ (rBlk j).set := by
  rcases Nat.lt_succ_iff_lt_or_eq.mp h with h | h
  · exact .inl h
  · refine .inr (Rect.mem_set_unit.mpr fun a => ?_)
    have h1 : (i 1).val < 64 := (i 1).isLt
    have h2 : (i 2).val < 128 := (i 2).isLt
    fin_cases a
    · show j.val ≤ (i 0).val ∧ (i 0).val < j.val + 1; omega
    · show 0 ≤ (i 1).val ∧ (i 1).val < 0 + 64; omega
    · show 0 ≤ (i 2).val ∧ (i 2).val < 0 + 128; omega
/-- An index of block `j` in the values' half, or of an earlier block. -/
theorem mem_rVl (j : Fin 32) (i : S32x64x128.Idx) (h : (i 0).val < j.val ∨ (i 0).val = j.val ∧ (i 2).val < 64) :
    (i 0).val < j.val ∨ i ∈ (rVl j).set := by
  rcases h with h | ⟨h, h2⟩
  · exact .inl h
  · refine .inr (Rect.mem_set_unit.mpr fun a => ?_)
    have h1 : (i 1).val < 64 := (i 1).isLt
    fin_cases a
    · show j.val ≤ (i 0).val ∧ (i 0).val < j.val + 1; omega
    · show 0 ≤ (i 1).val ∧ (i 1).val < 0 + 64; omega
    · show 0 ≤ (i 2).val ∧ (i 2).val < 0 + 64; omega
/-- An index of block `j` in the ones' half, in the values' half, or of an earlier block. -/
theorem mem_rVr (j : Fin 32) (i : S32x64x128.Idx) (h : (i 0).val < j.val + 1) :
    ((i 0).val < j.val ∨ (i 0).val = j.val ∧ (i 2).val < 64) ∨ i ∈ (rVr j).set := by
  by_cases h0 : (i 0).val < j.val ∨ (i 0).val = j.val ∧ (i 2).val < 64
  · exact .inl h0
  · refine .inr (Rect.mem_set_unit.mpr fun a => ?_)
    have h1 : (i 1).val < 64 := (i 1).isLt
    have h2 : (i 2).val < 128 := (i 2).isLt
    fin_cases a
    · show j.val ≤ (i 0).val ∧ (i 0).val < j.val + 1; omega
    · show 0 ≤ (i 1).val ∧ (i 1).val < 0 + 64; omega
    · show 64 ≤ (i 2).val ∧ (i 2).val < 64 + 64; omega
/-- The first `64 t` columns of block `j`, and all earlier blocks. -/
def upTo (j : Nat) (t : Nat) (i : S32x64x256.Idx) : Prop := (i 0).val < j ∨ (i 0).val = j ∧ (i 2).val < 64 * t
/-- One more 64 columns. -/
theorem mem_rP (j : Fin 32) (t : Fin 4) (i : S32x64x256.Idx) (h : upTo j.val (t.val + 1) i) : upTo j.val t.val i ∨ i ∈ (rP j t).set := by
  by_cases h0 : upTo j.val t.val i
  · exact .inl h0
  · unfold upTo at h h0
    refine .inr (Rect.mem_set_unit.mpr fun a => ?_)
    have h1 : (i 1).val < 64 := (i 1).isLt
    fin_cases a
    · show j.val ≤ (i 0).val ∧ (i 0).val < j.val + 1; omega
    · show 0 ≤ (i 1).val ∧ (i 1).val < 0 + 64; omega
    · show 64 * t.val ≤ (i 2).val ∧ (i 2).val < 64 * t.val + 64; omega
/-- A row of block `j`, or of an earlier one. -/
theorem mem_rRow3 (j : Fin 32) (i : S2048x128.Idx) (h : (i 0).val < 64 * (j.val + 1)) : (i 0).val < 64 * j.val ∨ i ∈ (rRow3 j).set := by
  by_cases h0 : (i 0).val < 64 * j.val
  · exact .inl h0
  · refine .inr (Rect.mem_set_unit.mpr fun a => ?_)
    have h1 : (i 1).val < 128 := (i 1).isLt
    fin_cases a
    · show 64 * j.val ≤ (i 0).val ∧ (i 0).val < 64 * j.val + 64; omega
    · show 0 ≤ (i 1).val ∧ (i 1).val < 0 + 128; omega

/-! ## The arrays -/

/-- The block `j` of rows of a (1, 2048, 64) array. -/
def blk3 (x : Vec F S1x2048x64 .f32) (j : Fin 32) : Vec F S1x64x64 .f32 := fun y => x (ix3 0 (row j (y 1)) (y 2))
/-- The block `j` of rows of a (2048, 64) array. -/
def blk2 (x : Vec F S2048x64 .f32) (j : Fin 32) : Vec F S64x64 .f32 := fun y => x (ix2 (row j (y 0)) (y 1))
/-- The extended values: the values beside ones. -/
def T10 (v : Vec F S1x2048x64 .f32) : Vec F S32x64x128 .f32 := fun i =>
  if h : (i 2).val < 64 then v (ix3 0 (row (i 0) (i 1)) ⟨(i 2).val, h⟩) else Scalar.ofBits .f32 0x3F800000#32
/-- Block `j` of a (32, 64, 128) array. -/
def blkE (x : Vec F S32x64x128 .f32) (j : Fin 32) : Vec F S1x64x128 .f32 := fun y => x (ix3 j (y 1) (y 2))
/-- The block states. -/
def T11 (k v : Vec F S1x2048x64 .f32) : Vec F S32x64x128 .f32 := fun i =>
  stBlk (blk2 (payCk k) (i 0)) (blkE (T10 v) (i 0)) (ix2 (i 1) (i 2))
/-- The running sums after `n` blocks. -/
def accs (k v : Vec F S1x2048x64 .f32) : Nat → Acc F
  | 0 => (zero2, zero2, zero2, zero2)
  | n + 1 => if h : n < 32 then
      ((accs k v n).2.1, (accs k v n).2.2.1, (accs k v n).2.2.2,
        addf (accs k v n).1 (stBlk (blk2 (payCk k) ⟨n, h⟩) (blkE (T10 v) ⟨n, h⟩)))
    else accs k v n
/-- The weights of query block `j` against its selected block `t`. -/
def wts (sel : Fin 32 → Fin 4 → Fin 32) (q k : Vec F S1x2048x64 .f32) (j : Fin 32) (t : Fin 4) : Vec F S1x64x64 .f32 :=
  payP (blk3 q j) (blk3 k (sel j t))
/-- All the weights. -/
def T12 (sel : Fin 32 → Fin 4 → Fin 32) (q k : Vec F S1x2048x64 .f32) : Vec F S32x64x256 .f32 := fun i =>
  wts sel q k (i 0) ⟨(i 2).val / 64, by have : (i 2).val < 256 := (i 2).isLt; omega⟩
    (ix3 0 (i 1) ⟨(i 2).val % 64, Nat.mod_lt _ (by decide)⟩)
/-- The selected products. -/
def oBlk (sel : Fin 32 → Fin 4 → Fin 32) (q k v : Vec F S1x2048x64 .f32) (j : Fin 32) : FVec F S64x128 .f32 :=
  payO (wts sel q k j 0) (wts sel q k j 1) (wts sel q k j 2) (wts sel q k j 3)
    (blkE (T10 v) (sel j 0)) (blkE (T10 v) (sel j 1)) (blkE (T10 v) (sel j 2)) (blkE (T10 v) (sel j 3))
/-- All of them. -/
def T13 (sel : Fin 32 → Fin 4 → Fin 32) (q k v : Vec F S1x2048x64 .f32) : Vec F S2048x128 .f32 := fun i =>
  oBlk sel q k v (rowB (i 0)) (ix2 (rowR (i 0)) (i 1))
/-- The products with the state that is left. -/
def nBlk (sel : Fin 32 → Fin 4 → Fin 32) (q k v : Vec F S1x2048x64 .f32) (j : Fin 32) : FVec F S64x128 .f32 :=
  payN (total (accs k v 32)) (blkE (T11 k v) (sel j 0)) (blkE (T11 k v) (sel j 1)) (blkE (T11 k v) (sel j 2))
    (blkE (T11 k v) (sel j 3)) (blk2 (payEq q) j)
/-- All of them. -/
def T14 (sel : Fin 32 → Fin 4 → Fin 32) (q k v : Vec F S1x2048x64 .f32) : Vec F S2048x128 .f32 := fun i =>
  nBlk sel q k v (rowB (i 0)) (ix2 (rowR (i 0)) (i 1))
/-- What the body returns. -/
def outT (sel : Fin 32 → Fin 4 → Fin 32) (q k v : Vec F S1x2048x64 .f32) (w : Vec F S64x64 .f32) (b : Vec F S1x64 .f32) :
    FVec F S1x2048x64 .f32 := payOut (T13 sel q k v) (T14 sel q k v) (payEq q) w b

/-! ## The stored blocks are the arrays' -/

/-- Block `j` of rows of a (1, 2048, 64) array, as it is loaded. -/
theorem ld_rRow (x : Vec F S1x2048x64 .f32) (j : Fin 32) : (fun y => x ((rRow j).emb y)) = blk3 x j :=
  funext fun y => congrArg x (rRow_emb j y)
/-- The block of rows that a word selects, as it is loaded. -/
theorem ld_rK (x : Vec F S1x2048x64 .f32) {w : BitVec 32} (h : k0_chk1 w) : (fun y => x ((rK w h).emb y)) = blk3 x (selK w) :=
  funext fun y => congrArg x ((rK_emb h y).trans (rRow_emb _ y))
/-- Block `j` of rows of a (2048, 64) array, as it is loaded. -/
theorem ld_rRow2 (x : Vec F S2048x64 .f32) (j : Fin 32) : (fun y => x ((rRow2 j).emb y)) = blk2 x j :=
  funext fun y => congrArg x (rRow2_emb j y)
/-- Block `j` of a (32, 64, 128) array, as it is loaded. -/
theorem ld_rBlk (x : Vec F S32x64x128 .f32) (j : Fin 32) : (fun y => x ((rBlk j).emb y)) = blkE x j :=
  funext fun y => congrArg x (rBlk_emb j y)
/-- The block of a (32, 64, 128) array that a word selects, as it is loaded. -/
theorem ld_rSel (x : Vec F S32x64x128 .f32) {w : BitVec 32} (h : k0_chk1 w) : (fun y => x ((rSel w h).emb y)) = blkE x (selK w) :=
  funext fun y => congrArg x ((rSel_emb h y).trans (rBlk_emb _ y))

/-- What is stored as the values' half of block `j` is that part of the extended values. -/
theorem st_rVl (v : Vec F S1x2048x64 .f32) (j : Fin 32) : payV (blk3 v j) = fun y => T10 v ((rVl j).emb y) := by
  funext y
  have e : payV (blk3 v j) y = blk3 v j y := congrFun (shapeCast_shapeCast _ _ _) y
  rw [e, rVl_emb]
  have h2 : (y 2).val < 64 := (y 2).isLt
  unfold T10
  rw [dif_pos (show (ix3 (n0 := 32) (n1 := 64) (n2 := 128) j (y 1) (colV (y 2)) 2).val < 64 from h2)]
  rfl
/-- What is stored as the ones' half of block `j` is that part of the extended values. -/
theorem st_rVr (v : Vec F S1x2048x64 .f32) (j : Fin 32) : payOne (F := F) = fun y => T10 v ((rVr j).emb y) := by
  funext y
  rw [rVr_emb]
  unfold T10
  rw [dif_neg (show ¬ (ix3 (n0 := 32) (n1 := 64) (n2 := 128) j (y 1) (colO (y 2)) 2).val < 64 by
    show ¬ (64 + (y 2).val < 64); omega)]
  rfl
/-- What is stored as the state of block `j` is that part of the array of states. -/
theorem st_rBlk (k v : Vec F S1x2048x64 .f32) (j : Fin 32) :
    paySt (blk2 (payCk k) j) (blkE (T10 v) j) = fun y => T11 k v ((rBlk j).emb y) := by
  funext y
  rw [rBlk_emb]
  show paySt _ _ y = stBlk (blk2 (payCk k) j) (blkE (T10 v) j) (ix2 (y 1) (y 2))
  unfold paySt
  have h0 : (y 0).val < 1 := (y 0).isLt
  refine (shapeCast_addUnit_apply ![64, 128] _ _ y).trans (congrArg _ ?_)
  funext a; fin_cases a <;> rfl
/-- The weights of query block `j` against its `t`-th selected block, as they are loaded. -/
theorem ld_rP (sel : Fin 32 → Fin 4 → Fin 32) (q k : Vec F S1x2048x64 .f32) (j : Fin 32) (t : Fin 4) :
    (fun y => T12 sel q k ((rP j t).emb y)) = wts sel q k j t := by
  funext y
  have h0 : (y 0).val < 1 := (y 0).isLt
  have h2 : (y 2).val < 64 := (y 2).isLt
  refine (congrArg (T12 sel q k) (rP_emb j t y)).trans ?_
  have e1 : (⟨(64 * t.val + (y 2).val) / 64, by omega⟩ : Fin 4) = t := by apply Fin.ext; show (64 * t.val + (y 2).val) / 64 = t.val; omega
  have e2 : (⟨(64 * t.val + (y 2).val) % 64, Nat.mod_lt _ (by decide)⟩ : Fin 64) = y 2 := by
    apply Fin.ext; show (64 * t.val + (y 2).val) % 64 = (y 2).val; omega
  show wts sel q k j ⟨(64 * t.val + (y 2).val) / 64, _⟩ (ix3 0 (y 1) ⟨(64 * t.val + (y 2).val) % 64, _⟩) = _
  rw [e1, e2]
  refine congrArg _ ?_
  funext a; apply Fin.ext; fin_cases a
  · show 0 = (y 0).val; omega
  · rfl
  · rfl
/-- A family over blocks, read at the block and the place of row `r` of block `j`, is its member `j` at row `r`. -/
theorem at_row {α : Type} (G : Fin 32 → S64x128.Idx → α) (j : Fin 32) (r : Fin 64) (c : Fin 128) :
    G (rowB (row j r)) (ix2 (rowR (row j r)) c) = G j (ix2 r c) := by rw [rowB_row, rowR_row]
/-- What is stored as block `j` of the selected products is that part of their array. -/
theorem st_rRow3_13 (sel : Fin 32 → Fin 4 → Fin 32) (q k v : Vec F S1x2048x64 .f32) (j : Fin 32) :
    oBlk sel q k v j = fun y => T13 sel q k v ((rRow3 j).emb y) := by
  funext y
  rw [rRow3_emb]
  exact ((at_row (oBlk sel q k v) j (y 0) (y 1)).trans (congrArg _ (eq_ix2 y).symm)).symm
/-- What is stored as block `j` of the products with the state that is left is that part of their array. -/
theorem st_rRow3_14 (sel : Fin 32 → Fin 4 → Fin 32) (q k v : Vec F S1x2048x64 .f32) (j : Fin 32) :
    nBlk sel q k v j = fun y => T14 sel q k v ((rRow3 j).emb y) := by
  funext y
  rw [rRow3_emb]
  exact ((at_row (nBlk sel q k v) j (y 0) (y 1)).trans (congrArg _ (eq_ix2 y).symm)).symm

end Cert.KernelIdeal.Uni
-- ==== Proof.PI.Body.lean ====
module

public import proofs.«01_k».proof.Proof.PI.Targets

/-!
# The body's run

Each phase fills its buffer with the array `Targets` names; the last line returns `outT`.
-/

@[expose] public section

noncomputable section

namespace Cert.KernelIdeal.Uni

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every index. -/
abbrev all {α : Type} : α → Prop := fun _ => True

variable {c : Dev nD}

section Steps

variable {arg1 : Memref sig .tc .smem S12x32x4 .i32} {arg2 : Memref sig .tc .vmem S1x2048x64 .f32}
  {arg3 : Memref sig .tc .vmem S1x2048x64 .f32} {arg4 : Memref sig .tc .vmem S1x2048x64 .f32}
  {arg5 : Memref sig .tc .vmem S64x64 .f32} {arg6 : Memref sig .tc .vmem S1x64 .f32}
  {arg7 : Memref sig .tc .vmem S1x2048x64 .f32} {arg8 : Memref sig .tc .vmem S2048x64 .f32}
  {arg9 : Memref sig .tc .vmem S2048x64 .f32} {arg10 : Memref sig .tc .vmem S32x64x128 .f32}
  {arg11 : Memref sig .tc .vmem S32x64x128 .f32} {arg12 : Memref sig .tc .vmem S32x64x256 .f32}
  {arg13 : Memref sig .tc .vmem S2048x128 .f32} {arg14 : Memref sig .tc .vmem S2048x128 .f32}

/-- Key features and query exponentials are stored. -/
theorem wp_stepA {Q : PUnit → sProp 𝕄} (q k : Vec F S1x2048x64 .f32) (K : P F) :
    iprop(filled c arg2 q all ∗ filled c arg3 k all ∗ filled c arg8 (payCk k) (fun _ => False) ∗ filled c arg9 (payEq q) (fun _ => False))
      ⊢ iprop((filled c arg2 q all ∗ filled c arg3 k all ∗ filled c arg8 (payCk k) all ∗ filled c arg9 (payEq q) all
          -∗ wp frame (wpE defs₀ 𝒱₀ (c : Thread nD τ) none) Set.univ K Q)
        -∗ wp frame (wpE defs₀ 𝒱₀ (c : Thread nD τ) none) Set.univ (stepA arg2 arg3 arg8 arg9 K) Q) := by
  have ek : (fun y => k (rAll3.emb y)) = k := funext fun y => congrArg k (emb_all3 y)
  have eq : (fun y => q (rAll3.emb y)) = q := funext fun y => congrArg q (emb_all3 y)
  have e8 : payCk k = fun y => payCk k (rAll2.emb y) := funext fun y => congrArg (payCk k) (emb_all2 y).symm
  have e9 : payEq q = fun y => payEq q (rAll2.emb y) := funext fun y => congrArg (payEq q) (emb_all2 y).symm
  have hs : ∀ i : S2048x64.Idx, all i → False ∨ i ∈ rAll2.set := fun i _ =>
    .inr (by rw [← emb_all2 i]; exact rAll2.map_emb_univ ▸ Finset.mem_map_of_mem _ (Finset.mem_univ i))
  unfold stepA
  iintro ⟨H2, H3, H8, H9⟩ HK
  iapply (wp_ld (fun _ => trivial)) $$ H3
  iintro H3
  rw [ek]
  iapply (wp_sto all e8 hs) $$ H8
  iintro H8
  iapply (wp_ld (fun _ => trivial)) $$ H2
  iintro H2
  rw [eq]
  iapply (wp_sto all e9 hs) $$ H9
  iintro H9
  iapply HK
  isplitl [H2]; · iexact H2
  isplitl [H3]; · iexact H3
  isplitl [H8]; · iexact H8
  iexact H9

/-- One block of extended values is stored. -/
theorem wp_stepB {Q : PUnit → sProp 𝕄} (v : Vec F S1x2048x64 .f32) (j : Fin 32) (K : PUnit → P F) (s : PUnit) :
    iprop(filled c arg4 v all ∗ filled c arg10 (T10 v) (fun i => (i 0).val < j.val))
      ⊢ iprop((∀ s', filled c arg4 v all ∗ filled c arg10 (T10 v) (fun i => (i 0).val < j.val + 1)
          -∗ wp frame (wpE defs₀ 𝒱₀ (c : Thread nD τ) none) Set.univ (K s') Q)
        -∗ wp frame (wpE defs₀ 𝒱₀ (c : Thread nD τ) none) Set.univ (stepB arg4 arg10 j K s) Q) := by
  unfold stepB
  iintro ⟨H4, H10⟩ HK
  iapply (wp_ld (fun _ => trivial)) $$ H4
  iintro H4
  rw [ld_rRow]
  iapply (wp_sto _ (st_rVl v j) (mem_rVl j)) $$ H10
  iintro H10
  iapply (wp_sto _ (st_rVr v j) (mem_rVr j)) $$ H10
  iintro H10
  ispecialize HK $$ %⟨⟩
  iapply HK
  isplitl [H4]; · iexact H4
  iexact H10

/-- One block state is stored and added. -/
theorem wp_stepC {Q : PUnit → sProp 𝕄} (k v : Vec F S1x2048x64 .f32) (j : Fin 32) (K : Acc F → P F) (a : Acc F) :
    iprop(⌜a = accs k v j.val⌝ ∗ filled c arg8 (payCk k) all ∗ filled c arg10 (T10 v) all ∗ filled c arg11 (T11 k v) (fun i => (i 0).val < j.val))
      ⊢ iprop((∀ s', ⌜s' = accs k v (j.val + 1)⌝ ∗ filled c arg8 (payCk k) all ∗ filled c arg10 (T10 v) all ∗ filled c arg11 (T11 k v) (fun i => (i 0).val < j.val + 1)
          -∗ wp frame (wpE defs₀ 𝒱₀ (c : Thread nD τ) none) Set.univ (K s') Q)
        -∗ wp frame (wpE defs₀ 𝒱₀ (c : Thread nD τ) none) Set.univ (stepC arg8 arg10 arg11 j K a) Q) := by
  unfold stepC
  iintro ⟨%ha, H8, H10, H11⟩ HK
  iapply (wp_ld (fun _ => trivial)) $$ H8
  iintro H8
  rw [ld_rRow2]
  iapply (wp_ld (fun _ => trivial)) $$ H10
  iintro H10
  rw [ld_rBlk]
  iapply (wp_sto _ (st_rBlk k v j) (mem_rBlk j)) $$ H11
  iintro H11
  ispecialize HK $$ %(a.2.1, a.2.2.1, a.2.2.2, addf a.1 (stBlk (blk2 (payCk k) j) (blkE (T10 v) j)))
  iapply HK
  isplitr
  · ipureintro
    rw [ha, accs, dif_pos j.isLt]
  isplitl [H8]; · iexact H8
  isplitl [H10]; · iexact H10
  iexact H11

/-- Word number `n` that grid point `i` reads. -/
def word (x : Vec F S12x32x4 .i32) (i : grid0.Coords) (n : Fin 128) : BitVec 32 :=
  x ((rIdx i n).emb (Shape.Idx.first ((numel_rIdx i n).symm ▸ Nat.one_pos)))

/-- One word is read. -/
theorem wp_stepD {Q : PUnit → sProp 𝕄} (x : Vec F S12x32x4 .i32) (i : grid0.Coords) (hx : ∀ n, k0_chk1 (word x i n)) (n : Fin 128) (K : Sel → P F) (s : Sel) :
    iprop(⌜∀ p : Fin 128, p.val < n.val → (s p.val).1 = word x i p⌝ ∗ filled c arg1 x all)
      ⊢ iprop((∀ s' : Sel, ⌜∀ p : Fin 128, p.val < n.val + 1 → (s' p.val).1 = word x i p⌝ ∗ filled c arg1 x all
          -∗ wp frame (wpE defs₀ 𝒱₀ (c : Thread nD τ) none) Set.univ (K s') Q)
        -∗ wp frame (wpE defs₀ 𝒱₀ (c : Thread nD τ) none) Set.univ (stepD i arg1 n K s) Q) := by
  unfold stepD
  rw [filled_all arg1 x (fun _ => trivial)]
  unfold owns
  iintro ⟨%hs, %f, %hf, H⟩ HK
  iapply (wp_load_rect 𝒱₀ (c : Thread nD τ) none Set.univ (m := arg1) (r := rIdx i n) (q := fullShare) (f := f) (arg1.view.set_slice_subset (rIdx i n))) $$ H
  iintro H
  have e : (arg1.access (rIdx i n)).read (Elt F) f (Shape.Idx.first ((numel_rIdx i n).symm ▸ Nat.one_pos)) = word x i n := by
    unfold word; rw [← hf]; rfl
  rw [e]
  unfold asm
  iapply (wp_assume 𝒱₀ (c : Thread nD τ) none Set.univ (hx n))
  ispecialize HK $$ %(fun m => if m = n.val then ⟨word x i n, hx n⟩ else s m)
  iapply HK
  isplitr
  · ipureintro
    intro p hp
    by_cases h : p.val = n.val
    · obtain rfl : p = n := Fin.ext h
      exact congrArg Subtype.val (if_pos rfl)
    · exact (congrArg Subtype.val (if_neg h)).trans (hs p (by omega))
  iexists f
  isplitr; · ipureintro; exact hf
  iexact H

/-- The blocks selected by the words read. -/
def selOf (s : Sel) (j : Fin 32) (t : Fin 4) : Fin 32 := selK (s (4 * j.val + t.val)).1

/-- One block of weights is stored. -/
theorem wp_stepE1 {Q : PUnit → sProp 𝕄} (s : Sel) (q k : Vec F S1x2048x64 .f32) (j : Fin 32) (t : Fin 4) (K : P F) :
    iprop(filled c arg3 k all ∗ filled c arg12 (T12 (selOf s) q k) (upTo j.val t.val))
      ⊢ iprop((filled c arg3 k all ∗ filled c arg12 (T12 (selOf s) q k) (upTo j.val (t.val + 1))
          -∗ wp frame (wpE defs₀ 𝒱₀ (c : Thread nD τ) none) Set.univ K Q)
        -∗ wp frame (wpE defs₀ 𝒱₀ (c : Thread nD τ) none) Set.univ (stepE1 arg3 arg12 s (blk3 q j) j t K) Q) := by
  unfold stepE1
  iintro ⟨H3, H12⟩ HK
  iapply (wp_ld (fun _ => trivial)) $$ H3
  iintro H3
  rw [ld_rK]
  iapply (wp_sto _ (ld_rP (selOf s) q k j t).symm (mem_rP j t)) $$ H12
  iintro H12
  iapply HK
  isplitl [H3]; · iexact H3
  iexact H12

/-- One block row of weights is stored. -/
theorem wp_stepE {Q : PUnit → sProp 𝕄} (s : Sel) (q k : Vec F S1x2048x64 .f32) (j : Fin 32) (K : PUnit → P F) (u : PUnit) :
    iprop(filled c arg2 q all ∗ filled c arg3 k all ∗ filled c arg12 (T12 (selOf s) q k) (fun i => (i 0).val < j.val))
      ⊢ iprop((∀ s', filled c arg2 q all ∗ filled c arg3 k all ∗ filled c arg12 (T12 (selOf s) q k) (fun i => (i 0).val < j.val + 1)
          -∗ wp frame (wpE defs₀ 𝒱₀ (c : Thread nD τ) none) Set.univ (K s') Q)
        -∗ wp frame (wpE defs₀ 𝒱₀ (c : Thread nD τ) none) Set.univ (stepE arg2 arg3 arg12 s j K u) Q) := by
  unfold stepE
  iintro ⟨H2, H3, H12⟩ HK
  iapply (wp_ld (fun _ => trivial)) $$ H2
  iintro H2
  rw [ld_rRow]
  ihave H12 := (filled_mono (c := c) arg12 (T12 (selOf s) q k) (D := fun i => (i 0).val < j.val) (D' := upTo j.val (0 : Fin 4).val)
    (fun i h => by rcases h with h | ⟨_, h⟩; exact h; exact absurd h (by simp))) $$ H12
  iapply (wp_stepE1 s q k j 0 _) $$ [H3 H12]
  · isplitl [H3]; · iexact H3
    iexact H12
  iintro ⟨H3, H12⟩
  iapply (wp_stepE1 s q k j 1 _) $$ [H3 H12]
  · isplitl [H3]; · iexact H3
    iexact H12
  iintro ⟨H3, H12⟩
  iapply (wp_stepE1 s q k j 2 _) $$ [H3 H12]
  · isplitl [H3]; · iexact H3
    iexact H12
  iintro ⟨H3, H12⟩
  iapply (wp_stepE1 s q k j 3 _) $$ [H3 H12]
  · isplitl [H3]; · iexact H3
    iexact H12
  iintro ⟨H3, H12⟩
  ispecialize HK $$ %⟨⟩
  iapply HK
  isplitl [H2]; · iexact H2
  isplitl [H3]; · iexact H3
  ihave H12 := (filled_mono (c := c) arg12 (T12 (selOf s) q k) (D := upTo j.val ((3 : Fin 4).val + 1)) (D' := fun i => (i 0).val < j.val + 1)
    (fun i h => by
      have h2 : (i 2).val < 256 := (i 2).isLt
      rcases Nat.lt_succ_iff_lt_or_eq.mp h with h | h
      · exact .inl h
      · exact .inr ⟨h, h2⟩)) $$ H12
  iexact H12

/-- An extended block is loaded. -/
theorem wp_ldSel {Q : PUnit → sProp 𝕄} {arg : Memref sig .tc .vmem S32x64x128 .f32} (X : Vec F S32x64x128 .f32) (s : Sel) (j : Fin 32) (t : Fin 4) (K : Vec F S1x64x128 .f32 → P F) :
    filled c arg X all ⊢ iprop((filled c arg X all -∗ wp frame (wpE defs₀ 𝒱₀ (c : Thread nD τ) none) Set.univ (K (blkE X (selOf s j t))) Q)
        -∗ wp frame (wpE defs₀ 𝒱₀ (c : Thread nD τ) none) Set.univ (ldSel arg s j t K) Q) := by
  unfold ldSel
  iintro H HK
  iapply (wp_ld (fun _ => trivial)) $$ H
  iintro H
  rw [ld_rSel]
  iapply HK
  iexact H

/-- A block of weights is loaded. -/
theorem wp_ldP {Q : PUnit → sProp 𝕄} (sel : Fin 32 → Fin 4 → Fin 32) (q k : Vec F S1x2048x64 .f32) (j : Fin 32) (t : Fin 4) (K : Vec F S1x64x64 .f32 → P F) :
    filled c arg12 (T12 sel q k) all ⊢ iprop((filled c arg12 (T12 sel q k) all -∗ wp frame (wpE defs₀ 𝒱₀ (c : Thread nD τ) none) Set.univ (K (wts sel q k j t)) Q)
        -∗ wp frame (wpE defs₀ 𝒱₀ (c : Thread nD τ) none) Set.univ (ldP arg12 j t K) Q) := by
  unfold ldP
  iintro H HK
  iapply (wp_ld (fun _ => trivial)) $$ H
  iintro H
  rw [ld_rP]
  iapply HK
  iexact H

/-- One block of both extended results is stored. -/
theorem wp_stepF {Q : PUnit → sProp 𝕄} (s : Sel) (q k v : Vec F S1x2048x64 .f32) (j : Fin 32) (K : PUnit → P F) (u : PUnit) :
    iprop(filled c arg9 (payEq q) all ∗ filled c arg10 (T10 v) all ∗ filled c arg11 (T11 k v) all ∗ filled c arg12 (T12 (selOf s) q k) all
        ∗ filled c arg13 (T13 (selOf s) q k v) (fun i => (i 0).val < 64 * j.val) ∗ filled c arg14 (T14 (selOf s) q k v) (fun i => (i 0).val < 64 * j.val))
      ⊢ iprop((∀ s', filled c arg9 (payEq q) all ∗ filled c arg10 (T10 v) all ∗ filled c arg11 (T11 k v) all ∗ filled c arg12 (T12 (selOf s) q k) all
        ∗ filled c arg13 (T13 (selOf s) q k v) (fun i => (i 0).val < 64 * (j.val + 1)) ∗ filled c arg14 (T14 (selOf s) q k v) (fun i => (i 0).val < 64 * (j.val + 1))
          -∗ wp frame (wpE defs₀ 𝒱₀ (c : Thread nD τ) none) Set.univ (K s') Q)
        -∗ wp frame (wpE defs₀ 𝒱₀ (c : Thread nD τ) none) Set.univ
          (stepF arg9 arg10 arg11 arg12 arg13 arg14 (total (accs k v 32)) s j K u) Q) := by
  unfold stepF
  iintro ⟨H9, H10, H11, H12, H13, H14⟩ HK
  iapply (wp_ldSel (T10 v) s j 0 _) $$ H10
  iintro H10
  iapply (wp_ldSel (T10 v) s j 1 _) $$ H10
  iintro H10
  iapply (wp_ldSel (T10 v) s j 2 _) $$ H10
  iintro H10
  iapply (wp_ldSel (T10 v) s j 3 _) $$ H10
  iintro H10
  iapply (wp_ldSel (T11 k v) s j 0 _) $$ H11
  iintro H11
  iapply (wp_ldSel (T11 k v) s j 1 _) $$ H11
  iintro H11
  iapply (wp_ldSel (T11 k v) s j 2 _) $$ H11
  iintro H11
  iapply (wp_ldSel (T11 k v) s j 3 _) $$ H11
  iintro H11
  iapply (wp_ldP (selOf s) q k j 0 _) $$ H12
  iintro H12
  iapply (wp_ldP (selOf s) q k j 1 _) $$ H12
  iintro H12
  iapply (wp_ldP (selOf s) q k j 2 _) $$ H12
  iintro H12
  iapply (wp_ldP (selOf s) q k j 3 _) $$ H12
  iintro H12
  iapply (wp_sto _ (st_rRow3_13 (selOf s) q k v j) (mem_rRow3 j)) $$ H13
  iintro H13
  iapply (wp_ld (fun _ => trivial)) $$ H9
  iintro H9
  rw [ld_rRow2]
  iapply (wp_sto _ (st_rRow3_14 (selOf s) q k v j) (mem_rRow3 j)) $$ H14
  iintro H14
  ispecialize HK $$ %⟨⟩
  iapply HK
  isplitl [H9]; · iexact H9
  isplitl [H10]; · iexact H10
  isplitl [H11]; · iexact H11
  isplitl [H12]; · iexact H12
  isplitl [H13]; · iexact H13
  iexact H14

/-- The block that query block `j` selects `t`-th, by the table's words. -/
def selT (x : Vec F S12x32x4 .i32) (i : grid0.Coords) (j : Fin 32) (t : Fin 4) : Fin 32 :=
  selK (word x i ⟨4 * j.val + t.val, by omega⟩)

/-- The quotients, the projection and the bias are returned. -/
theorem wp_stepG {Q : PUnit → sProp 𝕄} (sel : Fin 32 → Fin 4 → Fin 32) (q k v : Vec F S1x2048x64 .f32) (w : Vec F S64x64 .f32) (b : Vec F S1x64 .f32) :
    iprop(filled c arg13 (T13 sel q k v) all ∗ filled c arg14 (T14 sel q k v) all ∗ filled c arg9 (payEq q) all
        ∗ filled c arg5 w all ∗ filled c arg6 b all ∗ filled c arg7 (outT sel q k v w b) (fun _ => False))
      ⊢ iprop((filled c arg13 (T13 sel q k v) all ∗ filled c arg14 (T14 sel q k v) all ∗ filled c arg9 (payEq q) all
        ∗ filled c arg5 w all ∗ filled c arg6 b all ∗ filled c arg7 (outT sel q k v w b) all -∗ Q ⟨⟩)
        -∗ wp frame (wpE defs₀ 𝒱₀ (c : Thread nD τ) none) Set.univ (stepG (F := F) arg5 arg6 arg7 arg9 arg13 arg14) Q) := by
  have e13 : (fun y => T13 sel q k v (rAllE.emb y)) = T13 sel q k v := funext fun y => congrArg _ (emb_allE y)
  have e14 : (fun y => T14 sel q k v (rAllE.emb y)) = T14 sel q k v := funext fun y => congrArg _ (emb_allE y)
  have e9 : (fun y => payEq q (rAll2.emb y)) = payEq q := funext fun y => congrArg (payEq q) (emb_all2 y)
  have e5 : (fun y => w (rAllW.emb y)) = w := funext fun y => congrArg w (emb_allW y)
  have e6 : (fun y => b (rAllB.emb y)) = b := funext fun y => congrArg b (emb_allB y)
  have e7 : payOut (T13 sel q k v) (T14 sel q k v) (payEq q) w b = fun y => outT sel q k v w b (rAll3.emb y) :=
    funext fun y => congrArg (outT sel q k v w b) (emb_all3 y).symm
  have hs : ∀ i : S1x2048x64.Idx, all i → False ∨ i ∈ rAll3.set := fun i _ =>
    .inr (by rw [← emb_all3 i]; exact rAll3.map_emb_univ ▸ Finset.mem_map_of_mem _ (Finset.mem_univ i))
  unfold stepG
  iintro ⟨H13, H14, H9, H5, H6, H7⟩ HK
  iapply (wp_ld (fun _ => trivial)) $$ H13
  iintro H13
  rw [e13]
  iapply (wp_ld (fun _ => trivial)) $$ H14
  iintro H14
  rw [e14]
  iapply (wp_ld (fun _ => trivial)) $$ H9
  iintro H9
  rw [e9]
  iapply (wp_ld (fun _ => trivial)) $$ H5
  iintro H5
  rw [e5]
  iapply (wp_ld (fun _ => trivial)) $$ H6
  iintro H6
  rw [e6]
  iapply (wp_sto all e7 hs) $$ H7
  iintro H7
  rw [wp_ret]; imodintro
  iapply HK
  isplitl [H13]; · iexact H13
  isplitl [H14]; · iexact H14
  isplitl [H9]; · iexact H9
  isplitl [H5]; · iexact H5
  isplitl [H6]; · iexact H6
  iexact H7

/-- A memref at some contents. -/
abbrev any (c : Dev nD) {sp : Space} {s : Shape} {e : EltTy} (m : Memref sig .tc sp s e) : sProp 𝕄 :=
  iprop(∃ X, owns (c : Thread nD τ) m fullShare X)

/-- Filled contents are some contents. -/
theorem any_of_filled {sp : Space} {s : Shape} {e : EltTy} (m : Memref sig .tc sp s e) (T : s.Idx → Elt F e) {D : s.Idx → Prop} :
    (filled c m T D : sProp 𝕄) ⊢ any c m := by
  unfold filled any
  iintro ⟨%X, %h, H⟩
  iexists X; iexact H

/-- The body returns `outT` of its blocks, and leaves its inputs. -/
theorem wp_uni {Q : PUnit → sProp 𝕄} (i : grid0.Coords) (x : Vec F S12x32x4 .i32) (q k v : Vec F S1x2048x64 .f32) (w : Vec F S64x64 .f32)
    (b : Vec F S1x64 .f32) (hx : ∀ n, k0_chk1 (word x i n)) :
    iprop(filled c arg1 x all ∗ filled c arg2 q all ∗ filled c arg3 k all ∗ filled c arg4 v all ∗ filled c arg5 w all ∗ filled c arg6 b all
        ∗ any c arg7 ∗ any c arg8 ∗ any c arg9 ∗ any c arg10 ∗ any c arg11 ∗ any c arg12 ∗ any c arg13 ∗ any c arg14)
      ⊢ iprop((filled c arg1 x all ∗ filled c arg2 q all ∗ filled c arg3 k all ∗ filled c arg4 v all ∗ filled c arg5 w all ∗ filled c arg6 b all
        ∗ filled c arg7 (outT (selT x i) q k v w b) all ∗ any c arg8 ∗ any c arg9 ∗ any c arg10 ∗ any c arg11 ∗ any c arg12 ∗ any c arg13 ∗ any c arg14 -∗ Q ⟨⟩)
        -∗ wp frame (wpE defs₀ 𝒱₀ (c : Thread nD τ) none) Set.univ
          (uni i arg1 arg2 arg3 arg4 arg5 arg6 arg7 arg8 arg9 arg10 arg11 arg12 arg13 arg14) Q) := by
  unfold uni
  iintro ⟨H1, H2, H3, H4, H5, H6, H7, H8, H9, H10, H11, H12, H13, H14⟩ HK
  ihave H8 := (filled_of_owns (c := c) arg8 (payCk k) (D := fun _ => False) (fun _ h => h)) $$ H8
  ihave H9 := (filled_of_owns (c := c) arg9 (payEq q) (D := fun _ => False) (fun _ h => h)) $$ H9
  iapply (wp_stepA q k _) $$ [H2 H3 H8 H9]
  · isplitl [H2]; · iexact H2
    isplitl [H3]; · iexact H3
    isplitl [H8]; · iexact H8
    iexact H9
  iintro ⟨H2, H3, H8, H9⟩
  ihave H10 := (filled_of_owns (c := c) arg10 (T10 v) (D := fun i => (i 0).val < 0) (fun _ h => Nat.not_lt_zero _ h)) $$ H10
  iapply (wp_iter (c := c) (fun j _ => iprop(filled c arg4 v all ∗ filled c arg10 (T10 v) (fun i => (i 0).val < j)))
    (fun j K s => wp_stepB v j K s) 32 le_rfl _ _) $$ [H4 H10]
  · isplitl [H4]; · iexact H4
    iexact H10
  iintro %_ ⟨H4, H10⟩
  ihave H10 := (filled_mono (c := c) arg10 (T10 v) (D := fun i => (i 0).val < 32) (D' := all) (fun i _ => (i 0).isLt)) $$ H10
  ihave H11 := (filled_of_owns (c := c) arg11 (T11 k v) (D := fun i => (i 0).val < 0) (fun _ h => Nat.not_lt_zero _ h)) $$ H11
  iapply (wp_iter (c := c) (fun j s => iprop(⌜s = accs k v j⌝ ∗ filled c arg8 (payCk k) all ∗ filled c arg10 (T10 v) all ∗ filled c arg11 (T11 k v) (fun i => (i 0).val < j)))
    (fun j K s => wp_stepC k v j K s) 32 le_rfl _ _) $$ [H8 H10 H11]
  · isplitr; · ipureintro; rfl
    isplitl [H8]; · iexact H8
    isplitl [H10]; · iexact H10
    iexact H11
  iintro %a ⟨%ha, H8, H10, H11⟩
  subst ha
  ihave H11 := (filled_mono (c := c) arg11 (T11 k v) (D := fun i => (i 0).val < 32) (D' := all) (fun i _ => (i 0).isLt)) $$ H11
  iapply (wp_iter (c := c) (fun j (s : Sel) => iprop(⌜∀ p : Fin 128, p.val < j → (s p.val).1 = word x i p⌝ ∗ filled c arg1 x all))
    (fun j K s => wp_stepD x i hx j K s) 128 le_rfl _ _) $$ [H1]
  · isplitr; · ipureintro; exact fun p h => (Nat.not_lt_zero _ h).elim
    iexact H1
  iintro %s ⟨%hs, H1⟩
  have es : selOf s = selT x i := by
    funext j t
    exact congrArg selK (hs ⟨4 * j.val + t.val, by omega⟩ (by show 4 * j.val + t.val < 128; omega))
  ihave H12 := (filled_of_owns (c := c) arg12 (T12 (selOf s) q k) (D := fun i => (i 0).val < 0) (fun _ h => Nat.not_lt_zero _ h)) $$ H12
  iapply (wp_iter (c := c) (fun j _ => iprop(filled c arg2 q all ∗ filled c arg3 k all ∗ filled c arg12 (T12 (selOf s) q k) (fun i => (i 0).val < j)))
    (fun j K u => wp_stepE s q k j K u) 32 le_rfl _ _) $$ [H2 H3 H12]
  · isplitl [H2]; · iexact H2
    isplitl [H3]; · iexact H3
    iexact H12
  iintro %_ ⟨H2, H3, H12⟩
  ihave H12 := (filled_mono (c := c) arg12 (T12 (selOf s) q k) (D := fun i => (i 0).val < 32) (D' := all) (fun i _ => (i 0).isLt)) $$ H12
  ihave H13 := (filled_of_owns (c := c) arg13 (T13 (selOf s) q k v) (D := fun i => (i 0).val < 64 * 0) (fun _ h => Nat.not_lt_zero _ h)) $$ H13
  ihave H14 := (filled_of_owns (c := c) arg14 (T14 (selOf s) q k v) (D := fun i => (i 0).val < 64 * 0) (fun _ h => Nat.not_lt_zero _ h)) $$ H14
  iapply (wp_iter (c := c) (fun j _ => iprop(filled c arg9 (payEq q) all ∗ filled c arg10 (T10 v) all ∗ filled c arg11 (T11 k v) all ∗ filled c arg12 (T12 (selOf s) q k) all
        ∗ filled c arg13 (T13 (selOf s) q k v) (fun i => (i 0).val < 64 * j) ∗ filled c arg14 (T14 (selOf s) q k v) (fun i => (i 0).val < 64 * j)))
    (fun j K u => wp_stepF s q k v j K u) 32 le_rfl _ _) $$ [H9 H10 H11 H12 H13 H14]
  · isplitl [H9]; · iexact H9
    isplitl [H10]; · iexact H10
    isplitl [H11]; · iexact H11
    isplitl [H12]; · iexact H12
    isplitl [H13]; · iexact H13
    iexact H14
  iintro %_ ⟨H9, H10, H11, H12, H13, H14⟩
  ihave H13 := (filled_mono (c := c) arg13 (T13 (selOf s) q k v) (D := fun i => (i 0).val < 64 * 32) (D' := all) (fun i _ => (i 0).isLt)) $$ H13
  ihave H14 := (filled_mono (c := c) arg14 (T14 (selOf s) q k v) (D := fun i => (i 0).val < 64 * 32) (D' := all) (fun i _ => (i 0).isLt)) $$ H14
  rw [es]
  ihave H7 := (filled_of_owns (c := c) arg7 (outT (selT x i) q k v w b) (D := fun _ => False) (fun _ h => h)) $$ H7
  iapply (wp_stepG (selT x i) q k v w b) $$ [H13 H14 H9 H5 H6 H7]
  · isplitl [H13]; · iexact H13
    isplitl [H14]; · iexact H14
    isplitl [H9]; · iexact H9
    isplitl [H5]; · iexact H5
    isplitl [H6]; · iexact H6
    iexact H7
  iintro ⟨H13, H14, H9, H5, H6, H7⟩
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (any_of_filled (c := c) arg8 _) $$ H8
  isplitl [H9]; · iapply (any_of_filled (c := c) arg9 _) $$ H9
  isplitl [H10]; · iapply (any_of_filled (c := c) arg10 _) $$ H10
  isplitl [H11]; · iapply (any_of_filled (c := c) arg11 _) $$ H11
  isplitl [H12]; · iapply (any_of_filled (c := c) arg12 _) $$ H12
  isplitl [H13]; · iapply (any_of_filled (c := c) arg13 _) $$ H13
  iapply (any_of_filled (c := c) arg14 _) $$ H14

end Steps

end Cert.KernelIdeal.Uni
-- ==== Proof.PI.Run.lean ====
module

public import proofs.«01_k».proof.Proof.PI.Body
public import proofs.«01_k».proof.Proof.Gen.KernelIdeal.Frame
public import Idealize.ShloMosaic.Lib.Claim

/-!
# The run of the program

The pipeline's proof data, the body obligation at every point, the run and its frame, for any float instance
and any table whose words are below the number of blocks.
-/

@[expose] public section

noncomputable section

namespace Cert.KernelIdeal.Uni

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` returns. -/
def outAt (c : Dev nD) (t : Fin cfg0.N) : Vec F S1x2048x64 .f32 :=
  outT (selT (iblk m c 0 t) (grid0.coords t)) (iblk m c 1 t) (iblk m c 2 t) (iblk m c 3 t) (iblk m c 4 t) (iblk m c 5 t)

/-- The pipeline's proof data: the arrays as the region finds them; every input's buffer at its block and the
    result's at `outAt` after each point; the scratch buffers at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

/-- Window 0 holds after a point what it held before it: its block of the index table. -/
theorem after0_0 (c : Dev nD) (t : Fin cfg0.N) : (dats m 0 c).after 0 t = iblk m c 0 t := by dsimp only [dats]
/-- Window 1 holds after a point what it held before it: its block of the queries. -/
theorem after0_1 (c : Dev nD) (t : Fin cfg0.N) : (dats m 0 c).after 1 t = iblk m c 1 t := by dsimp only [dats]
/-- Window 2 holds after a point what it held before it: its block of the keys. -/
theorem after0_2 (c : Dev nD) (t : Fin cfg0.N) : (dats m 0 c).after 2 t = iblk m c 2 t := by dsimp only [dats]
/-- Window 3 holds after a point what it held before it: its block of the values. -/
theorem after0_3 (c : Dev nD) (t : Fin cfg0.N) : (dats m 0 c).after 3 t = iblk m c 3 t := by dsimp only [dats]
/-- Window 4 holds after a point what it held before it: the weight matrix. -/
theorem after0_4 (c : Dev nD) (t : Fin cfg0.N) : (dats m 0 c).after 4 t = iblk m c 4 t := by dsimp only [dats]
/-- Window 5 holds after a point what it held before it: the bias. -/
theorem after0_5 (c : Dev nD) (t : Fin cfg0.N) : (dats m 0 c).after 5 t = iblk m c 5 t := by dsimp only [dats]
/-- Window 6 holds after a point what the body computes there. -/
theorem after0_6 (c : Dev nD) (t : Fin cfg0.N) : (dats m 0 c).after 6 t = outAt m c t := by dsimp only [dats]

/-- Window 0 holds before a point its block of the index table. -/
theorem before0_0 (c : Dev nD) (t : Fin cfg0.N) (d) : (dats m 0 c).before 0 t d = iblk m c 0 t :=
  before0_0_of m (dats m 0 c) (A_eq m c 0) (after0_0 m c) t d
/-- Window 1 holds before a point its block of the queries. -/
theorem before0_1 (c : Dev nD) (t : Fin cfg0.N) (d) : (dats m 0 c).before 1 t d = iblk m c 1 t :=
  before0_1_of m (dats m 0 c) (A_eq m c 1) (after0_1 m c) t d
/-- Window 2 holds before a point its block of the keys. -/
theorem before0_2 (c : Dev nD) (t : Fin cfg0.N) (d) : (dats m 0 c).before 2 t d = iblk m c 2 t :=
  before0_2_of m (dats m 0 c) (A_eq m c 2) (after0_2 m c) t d
/-- Window 3 holds before a point its block of the values. -/
theorem before0_3 (c : Dev nD) (t : Fin cfg0.N) (d) : (dats m 0 c).before 3 t d = iblk m c 3 t :=
  before0_3_of m (dats m 0 c) (A_eq m c 3) (after0_3 m c) t d
/-- Window 4 holds before a point the weight matrix. -/
theorem before0_4 (c : Dev nD) (t : Fin cfg0.N) (d) : (dats m 0 c).before 4 t d = iblk m c 4 t :=
  before0_4_of m (dats m 0 c) (A_eq m c 4) (after0_4 m c) t d
/-- Window 5 holds before a point the bias. -/
theorem before0_5 (c : Dev nD) (t : Fin cfg0.N) (d) : (dats m 0 c).before 5 t d = iblk m c 5 t :=
  before0_5_of m (dats m 0 c) (A_eq m c 5) (after0_5 m c) t d

/-- Every word of the table is below the number of blocks. -/
def TableOk : Prop := ∀ (c : Dev nD) (x : S12x32x4.Idx), (V m c main_call0_v44 x : BitVec 32).toNat < 32

/-- So are the words each point reads. -/
theorem word_chk (h : TableOk m) (c : Dev nD) (t : Fin cfg0.N) (n : Fin 128) :
    k0_chk1 (word (F := F) (iblk m c 0 t) (grid0.coords t) n) := by
  apply chk_of_lt
  exact h c _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The scratch buffers and the generator register, buffer by buffer. -/
theorem ΦA_eq (c : Dev nD) : (Pipeline.ΦA spec0 c : sProp 𝕄)
    = iprop((any c (Memref.whole cc0_scratch0) ∗ any c (Memref.whole cc0_scratch1) ∗ any c (Memref.whole cc0_scratch2)
        ∗ any c (Memref.whole cc0_scratch3) ∗ any c (Memref.whole cc0_scratch4) ∗ any c (Memref.whole cc0_scratch5)
        ∗ any c (Memref.whole cc0_scratch6)) ∗ ∃ r, prngReg c r) := by
  unfold Pipeline.ΦA any
  rw [scopedRest0_eq]
  rw [(Memref.isWhole_whole cc0_scratch0).exists_owns_eq, (Memref.isWhole_whole cc0_scratch1).exists_owns_eq,
    (Memref.isWhole_whole cc0_scratch2).exists_owns_eq, (Memref.isWhole_whole cc0_scratch3).exists_owns_eq,
    (Memref.isWhole_whole cc0_scratch4).exists_owns_eq, (Memref.isWhole_whole cc0_scratch5).exists_owns_eq,
    (Memref.isWhole_whole cc0_scratch6).exists_owns_eq]

/-- What the body returns, buffer by buffer. -/
theorem bodyPost_eq (c : Dev nD) (t : Fin cfg0.N) : bodyPost m c t
    = iprop(((any c (Memref.whole cc0_scratch0) ∗ any c (Memref.whole cc0_scratch1) ∗ any c (Memref.whole cc0_scratch2)
        ∗ any c (Memref.whole cc0_scratch3) ∗ any c (Memref.whole cc0_scratch4) ∗ any c (Memref.whole cc0_scratch5)
        ∗ any c (Memref.whole cc0_scratch6)) ∗ ∃ r, prngReg c r) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (outAt m c t)) := by
  unfold bodyPost
  rw [show (dats m 0 c).Φ t.succ = Pipeline.ΦA spec0 c from rfl,
    show (dats m 0 c).owesAt () t.succ = (dats m 0 c).owesAt () t.castSucc from rfl,
    after0_0, after0_1, after0_2, after0_3, after0_4, after0_5, after0_6, ΦA_eq]

/-- The body at any point, by `wp_uni`. -/
theorem sound_body (h : TableOk m) (c : Dev nD) (t : Fin cfg0.N) :
    bodyPre m c t ⊢ wp frame (wpE (defs₀ (F := F)) 𝒱₀ c none) Set.univ (bodyAt0 t) (fun _ => bodyPost m c t) := by
  unfold bodyPre bodyAt0
  rw [body_eq_uni]
  simp only [before0_0, before0_1, before0_2, before0_3, before0_4, before0_5]
  rw [show (dats m 0 c).Φ t.castSucc = Pipeline.ΦA spec0 c from rfl, ΦA_eq]
  have W := wp_uni (F := F) (c := c) (Q := fun _ => bodyPost m c t) (arg1 := st0_0 t) (arg2 := st0_1 t) (arg3 := st0_2 t) (arg4 := st0_3 t)
    (arg5 := st0_4 t) (arg6 := st0_5 t) (arg7 := st0_6 t) (arg8 := Memref.whole cc0_scratch0) (arg9 := Memref.whole cc0_scratch1)
    (arg10 := Memref.whole cc0_scratch2) (arg11 := Memref.whole cc0_scratch3) (arg12 := Memref.whole cc0_scratch4)
    (arg13 := Memref.whole cc0_scratch5) (arg14 := Memref.whole cc0_scratch6) (grid0.coords t)
    (iblk m c 0 t) (iblk m c 1 t) (iblk m c 2 t) (iblk m c 3 t) (iblk m c 4 t) (iblk m c 5 t) (word_chk m h c t)
  simp only [filled_all _ _ (fun _ => trivial)] at W
  iintro ⟨⟨⟨S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩⟩
  iapply W $$ [H0 H1 H2 H3 H4 H5 H6 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, S0, S1, S2, S3, S4, S5, S6⟩
  rw [bodyPost_eq]
  isplitl [S0 S1 S2 S3 S4 S5 S6 Hp]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row is the body at the point. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (h : TableOk m) (c : Dev nD) : BodyObligation (dats (F := F) m 0 c) (defs₀ (F := F)) 𝒱₀ () Set.univ := fun t => by
  rw [bigSep_W0, bigSep_W0, defs₀_row]
  exact triple_restated (sound_body m h c t) rfl .rfl fun _ => .rfl

set_option backward.isDefEq.respectTransparency.types false in
/-- The run: the arrays end as the proof data says, every other buffer as the host lines leave it, every counter at zero. -/
theorem run_main_quiescent (h : TableOk m) : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ 𝒱₀ m ρ main
    (hbody := fun c => (body_obligation m h c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The frame: the arguments end unchanged and every counter at zero. -/
theorem frame_run (h : TableOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ h)))
    ((θ_run defs _ _).mono (fun _ h => h.2) (run_main_quiescent m ρ h))

end Cert.KernelIdeal.Uni
-- ==== Proof.PI.Table.lean ====
module

public import proofs.«01_k».proof.Proof.PI.Run
public import Idealize.ShloMosaic.Lib.StableHlo.Run
public import Idealize.ShloMosaic.Lib.Pipeline.Regions
public import Idealize.ShloMosaic.Lib.Pointwise

/-!
# The selection table

What the host operations before the pipeline leave in the table of block numbers, and that every word of it is
below the number of blocks.
-/

@[expose] public section

noncomputable section

namespace Cert.KernelIdeal.Uni

open Cert.KernelIdeal Cert.KernelIdeal.Gen
open Idealize.ShloMosaic Idealize.ShloMosaic.TcCoe Idealize.ShloMosaic.StableHlo
open Idealize.SL.Sem

variable {F : FTy → Type} [FloatOps F]

/-- The mean of every block of 64 rows. -/
def pooled (x : Vec F S1x12x2048x64 .f32) : Vec F S1x12x32x64 .f32 :=
  Host.divf (Host.reduceAdd (shapeCast S1x12x32x64x64 x shapeCasts_S1x12x2048x64_S1x12x32x64x64) (constant S_ .f32 0x00000000#32)
    reducesTo_S1x12x32x64x64_S1x12x32x64_d3 h_S_) (broadcastInDim S1x12x32x64 ![] bcast_S_S1x12x32x64 (constant S_ .f32 0x42800000#32))

/-- The scores of the blocks, by head. -/
def scores4 (x y : Vec F S1x12x2048x64 .f32) : Vec F S1x12x32x32 .f32 :=
  Host.dotGeneral dot_S1x12x32x64_S1x12x32x64_S1x12x32x32_3_3_2_2_01_01 none (pooled x) (pooled y)

/-- The scores of the blocks, a row for every block of queries of every head. -/
def scores (x y : Vec F S1x12x2048x64 .f32) : Vec F S384x32 .f32 :=
  shapeCast S384x32 (scores4 x y) shapeCasts_S1x12x32x32_S384x32

/-- The number of the largest score of every row. -/
def best (s : Vec F S384x32 .f32) : Vec F S384 .i32 := fun j =>
  (Host.argReduce reducer_argmax_f32_i32 s (iotaInDim S384x32 32 1) (constant S_ .f32 0xFF800000#32) (constantI S_ 32 0#32)
    reducesTo_S384x32_S384_d1 h_S_ j).2

/-- The same numbers as a column. -/
def bestCol (s : Vec F S384x32 .f32) : Vec F S384x1 .i32 := broadcastInDim S384x1 ![0] bcast_S384_S384x1_0 (best s)

/-- The scores with the largest of every row taken out. -/
def rest (s : Vec F S384x32 .f32) : Vec F S384x32 .f32 :=
  select (cmpi .eq (broadcastInDim S384x32 ![0, 1] bcast_S1x32_S384x32_0_1 (broadcastInDim S1x32 ![1] bcast_S32_S1x32_1 (iotaInDim S32 32 0)))
      (broadcastInDim S384x32 ![0, 1] bcast_S384x1_S384x32_0_1 (bestCol s)))
    (broadcastInDim S384x32 ![] bcast_S_S384x32 (id (constant S_ .f32 0xFF800000#32))) s

/-- The scores after `n` rounds. -/
def left (s : Vec F S384x32 .f32) : Nat → Vec F S384x32 .f32
  | 0 => s
  | n + 1 => rest (left s n)

/-- The four chosen numbers of every row. -/
def picks (s : Vec F S384x32 .f32) : Vec F S384x4 .i32 :=
  concatenate S384x4 1 [⟨S384x1, bestCol (left s 0)⟩, ⟨S384x1, bestCol (left s 1)⟩, ⟨S384x1, bestCol (left s 2)⟩, ⟨S384x1, bestCol (left s 3)⟩]
    concatenates_S384x1_S384x1_S384x1_S384x1_S384x4_d1

variable (m : (ℓ : Loc nD τ sig) → Buf (Elt F) ℓ)

set_option maxRecDepth 100000 in
set_option maxHeartbeats 40000000 in
/-- The table the pipeline finds. -/
theorem table_eq (c : Dev nD) :
    V m c main_call0_v44
      = shapeCast S12x32x4 (picks (scores (m ((c : Thread nD τ).loc main_arg0)) (m ((c : Thread nD τ).loc main_arg1)))) shapeCasts_S384x4_S12x32x4 := by
  show StableHlo.after (List.flatten [hostOps0]) _ _ = _
  simp only [List.flatten_cons, List.flatten_nil, List.append_nil, hostOps0, TRef.nary, TRef.binary, TRef.nullary, TRef.ternary, TRef.quaternary, TRef.reshape, TRef.unary, TRef.toBuf, TRef.ofBuf, cast_eq]
  after_results_simp
  all_goals chain_rfl

/-- The comparison of two pairs keeps the number of one of them. -/
theorem reducer_snd (a b : F .f32 × BitVec 32) :
    (reducer_argmax_f32_i32 a b).2 = a.2 ∨ (reducer_argmax_f32_i32 a b).2 = b.2 := by
  unfold reducer_argmax_f32_i32 Scalar.select
  dsimp only
  split
  · exact Or.inl rfl
  · exact Or.inr rfl

/-- A fold of comparisons keeps a bound on the numbers. -/
theorem fold_snd_lt (l : List (F .f32 × BitVec 32)) (a : F .f32 × BitVec 32) (ha : a.2.toNat < 32)
    (h : ∀ p ∈ l, p.2.toNat < 32) : (l.foldl reducer_argmax_f32_i32 a).2.toNat < 32 := by
  induction l generalizing a with
  | nil => exact ha
  | cons p l ih =>
    refine ih _ ?_ fun x hx => h x (List.mem_cons_of_mem _ hx)
    rcases reducer_snd a p with e | e <;> rw [e]
    · exact ha
    · exact h p List.mem_cons_self

/-- The number of the largest is below 32. -/
theorem best_lt (s : Vec F S384x32 .f32) (j : S384.Idx) : (best s j : BitVec 32).toNat < 32 := by
  have hf : ∀ p ∈ Host.argReduceFiber s (iotaInDim S384x32 32 1) reducesTo_S384x32_S384_d1 j, p.2.toNat < 32 := by
    intro p hp
    unfold Host.argReduceFiber at hp
    obtain ⟨n, _, rfl⟩ := List.mem_map.1 hp
    have hb : (S384x32.rowMajor.symm n 1).val < 32 := (S384x32.rowMajor.symm n 1).isLt
    show (BitVec.ofNat 32 (S384x32.rowMajor.symm n 1).val).toNat < 32
    rw [BitVec.toNat_ofNat]; omega
  unfold best
  by_cases hn : 2 ≤ (Host.argReduceNaNs s (iotaInDim S384x32 32 1) reducesTo_S384x32_S384_d1 j).length
  · exact hf _ ((Host.mem_argReduceNaNs_iff _ _ _ _ _).1 (Host.argReduce_mem_nans _ _ _ _ _ _ _ _ hn)).1
  · rw [Host.argReduce_apply_eq_reduce2 _ _ _ _ _ _ _ _ (by omega), Host.reduce2_eq_foldl_fiber]
    exact fold_snd_lt _ _ (show (0#32).toNat < 32 by decide) hf

/-- The same of the column. -/
theorem bestCol_lt (s : Vec F S384x32 .f32) (j : S384x1.Idx) : (bestCol s j : BitVec 32).toNat < 32 := by
  unfold bestCol broadcastInDim
  exact best_lt s _

/-- What holds of every entry of four columns holds of every entry of the columns side by side. -/
theorem sideBySide (P : BitVec 32 → Prop) (x y z w : S384x1.Idx → BitVec 32) (hx : ∀ k, P (x k)) (hy : ∀ k, P (y k))
    (hz : ∀ k, P (z k)) (hw : ∀ k, P (w k)) (i : S384x4.Idx) :
    P (concatenate S384x4 1 [⟨S384x1, x⟩, ⟨S384x1, y⟩, ⟨S384x1, z⟩, ⟨S384x1, w⟩]
      concatenates_S384x1_S384x1_S384x1_S384x1_S384x4_d1 i) := by
  refine concatenate_forall (P := P) S384x4 1 [⟨S384x1, x⟩, ⟨S384x1, y⟩, ⟨S384x1, z⟩, ⟨S384x1, w⟩]
    concatenates_S384x1_S384x1_S384x1_S384x1_S384x4_d1 ?_ i
  intro p hp
  simp only [List.mem_cons, List.mem_nil_iff, or_false] at hp
  rcases hp with h | h | h | h <;> subst h
  · exact hx
  · exact hy
  · exact hz
  · exact hw

/-- Every chosen number is below 32. -/
theorem picks_lt (s : Vec F S384x32 .f32) (i : S384x4.Idx) : (picks s i : BitVec 32).toNat < 32 :=
  sideBySide (fun w => w.toNat < 32) _ _ _ _ (bestCol_lt (left s 0)) (bestCol_lt (left s 1)) (bestCol_lt (left s 2))
    (bestCol_lt (left s 3)) i

/-- Every word of the table is below the number of blocks. -/
theorem tableOk (m : (ℓ : Loc nD τ sig) → Buf (Elt F) ℓ) : TableOk m := by
  intro c x
  rw [table_eq]
  exact picks_lt _ _

end Cert.KernelIdeal.Uni

end
-- ==== Proof.PI.Bits.lean ====
module

public import proofs.«01_k».proof.Proof.PI.Table
public import proofs.«01_k».proof.Proof.Gen.Kernel
public import Idealize.ShloMosaic.Lib.Pipeline.Regions

/-!
# The frame at the machine's own floats

The program as compiled and the program read over the extended reals are one text, so the frame proved for every
float instance is the frame of both.
-/

@[expose] public section

noncomputable section

namespace Cert.KernelIdeal.Uni

open Cert.KernelIdeal Cert.KernelIdeal.Gen
open Idealize.ShloMosaic Idealize.ShloMosaic.TcCoe
open Idealize.SL.Sem

/-- The frame of the program read at the machine's floats, over its own signature. -/
def FrameBits : Prop :=
  ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- It holds. -/
theorem frameBits : FrameBits := fun m g => frame_run m g (tableOk m)

end Cert.KernelIdeal.Uni

namespace Cert.Kernel.Twin

open Cert.Kernel Cert.Kernel.Gen
open Idealize.ShloMosaic Idealize.ShloMosaic.TcCoe
open Idealize.SL.Sem

/-- The same statement of the program as compiled. -/
def FrameBits : Prop :=
  ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The two statements are one. -/
theorem frameBits_eq : Cert.KernelIdeal.Uni.FrameBits = FrameBits := by chain_rfl

/-- The frame of the program as compiled. -/
theorem frameBits : FrameBits := frameBits_eq.mp Cert.KernelIdeal.Uni.frameBits

end Cert.Kernel.Twin

end
-- ==== Proof.RI.Frame.lean ====
module

public import proofs.«01_k».proof.Proof.Gen.ReferenceIdeal.Run
public import Idealize.ShloMosaic.Lib.Quiescent
public import Idealize.ShloMosaic.Lib.Claim

/-!
# The frame of the reference

The reference runs host operations alone and has no counter.
-/

@[expose] public section

noncomputable section

namespace Cert.ReferenceIdeal.Attn

open Cert.ReferenceIdeal Cert.ReferenceIdeal.Gen
open Idealize.ShloMosaic Idealize.ShloMosaic.TcCoe
open Idealize.SL.Sem

variable {F : FTy → Type} [FloatOps F]

/-- The reference ends, its arguments unchanged and every counter at zero. -/
theorem frame_run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m g)

end Cert.ReferenceIdeal.Attn

end
-- ==== Proof.Math.Attn.lean ====
module

public import Idealize.ShloMosaic.PureOps.Ideal

/-!
# Block-sparse plus linear attention, two ways

One head over the extended reals. `kOut` computes the selected blocks alone and the rest as a total less the selected
ones; `rOut` masks the whole table of scores. Where the queries, keys and values are reals the two are equal.
-/

@[expose] public section

noncomputable section

namespace Cert.Attn

open Idealize.ShloMosaic

/-! ## Rows and blocks -/

/-- Row `r` of block `j`. -/
def at_ (j : Fin 32) (r : Fin 64) : Fin 2048 := ⟨64 * j.val + r.val, by omega⟩
/-- The block of a row. -/
def blk (n : Fin 2048) : Fin 32 := ⟨n.val / 64, by omega⟩
/-- The place of a row in its block. -/
def pos (n : Fin 2048) : Fin 64 := ⟨n.val % 64, by omega⟩

/-- Row `r` of block `j` lies in block `j`. -/
theorem blk_at (j : Fin 32) (r : Fin 64) : blk (at_ j r) = j := by
  apply Fin.ext; show (64 * j.val + r.val) / 64 = j.val; omega
/-- Row `r` of block `j` is at place `r` in its block. -/
theorem pos_at (j : Fin 32) (r : Fin 64) : pos (at_ j r) = r := by
  apply Fin.ext; show (64 * j.val + r.val) % 64 = r.val; omega
/-- A row is the row at its own place of its own block. -/
theorem at_blk (n : Fin 2048) : at_ (blk n) (pos n) = n := by
  apply Fin.ext; show 64 * (n.val / 64) + n.val % 64 = n.val; omega

/-- Rows are blocks of rows. -/
def rows : Fin 32 × Fin 64 ≃ Fin 2048 where
  toFun p := at_ p.1 p.2
  invFun n := (blk n, pos n)
  left_inv p := Prod.ext (blk_at p.1 p.2) (pos_at p.1 p.2)
  right_inv n := at_blk n

/-- A sum over the rows is a sum over the blocks. -/
theorem sum_rows {α : Type} [AddCommMonoid α] (f : Fin 2048 → α) : ∑ y, f y = ∑ j, ∑ r, f (at_ j r) := by
  rw [← Equiv.sum_comp rows f, Fintype.sum_prod_type]; rfl

/-- A sum over the chosen blocks. -/
theorem sum_chosen {α : Type} [AddCommMonoid α] (c : Fin 4 → Fin 32) (hc : Function.Injective c) (g : Fin 32 → α) :
    ∑ j, (if ∃ t, c t = j then g j else 0) = ∑ t, g (c t) := by
  rw [← Finset.sum_filter, ← Finset.sum_image (s := Finset.univ) (g := c) (f := g) fun a _ b _ h => hc h]
  refine Finset.sum_congr (Finset.ext fun j => ?_) fun _ _ => rfl
  simp

/-- A sum over the rows of the chosen blocks. -/
theorem sum_rows_chosen {α : Type} [AddCommMonoid α] (c : Fin 4 → Fin 32) (hc : Function.Injective c) (f : Fin 2048 → α) :
    ∑ y, (if ∃ t, c t = blk y then f y else 0) = ∑ t, ∑ r, f (at_ (c t) r) := by
  rw [sum_rows, ← sum_chosen c hc fun j => ∑ r, f (at_ j r)]
  refine Finset.sum_congr rfl fun j _ => ?_
  simp only [blk_at]
  split <;> simp

/-! ## The two computations -/

/-- The values with a column of ones after them. -/
def vx (v : Fin 2048 → Fin 64 → EReal) (y : Fin 2048) (c : Fin 128) : EReal :=
  if h : c.val < 64 then v y ⟨c.val, h⟩ else 1

/-- The key features. -/
def kck (k : Fin 2048 → Fin 64 → EReal) (y : Fin 2048) (d : Fin 64) : EReal :=
  Ideal.div (Ideal.exp (k y d)) (∑ d', Ideal.exp (k y d'))

/-- The state of block `j`. -/
def stt (k v : Fin 2048 → Fin 64 → EReal) (j : Fin 32) (d : Fin 64) (c : Fin 128) : EReal :=
  ∑ x, kck k (at_ j x) d * vx v (at_ j x) c

/-- The weight of query `l` at row `x` of block `j`. -/
def pw (s : EReal) (q k : Fin 2048 → Fin 64 → EReal) (l : Fin 2048) (j : Fin 32) (x : Fin 64) : EReal :=
  Ideal.exp ((∑ d, q l d * k (at_ j x) d) * s)

/-- One selected product. -/
def pv (s : EReal) (q k v : Fin 2048 → Fin 64 → EReal) (l : Fin 2048) (j : Fin 32) (c : Fin 128) : EReal :=
  ∑ x, pw s q k l j x * vx v (at_ j x) c

/-- The selected products, summed. -/
def oe (s : EReal) (q k v : Fin 2048 → Fin 64 → EReal) (sel : Fin 32 → Fin 4 → Fin 32) (l : Fin 2048) (c : Fin 128) : EReal :=
  (pv s q k v l (sel (blk l) 0) c + pv s q k v l (sel (blk l) 1) c)
    + (pv s q k v l (sel (blk l) 2) c + pv s q k v l (sel (blk l) 3) c)

/-- The query features times the state that is left. -/
def ne (q k v : Fin 2048 → Fin 64 → EReal) (sel : Fin 32 → Fin 4 → Fin 32) (l : Fin 2048) (c : Fin 128) : EReal :=
  ∑ d, Ideal.exp (q l d) * ((∑ j, stt k v j d c)
    - ((stt k v (sel (blk l) 0) d c + stt k v (sel (blk l) 1) d c)
      + (stt k v (sel (blk l) 2) d c + stt k v (sel (blk l) 3) d c)))

/-- The value columns among the extended ones. -/
def left_ (e : Fin 64) : Fin 128 := ⟨e.val, by omega⟩

/-- The kernel's result. -/
def kOut (s eps : EReal) (q k v : Fin 2048 → Fin 64 → EReal) (w : Fin 64 → Fin 64 → EReal) (b : Fin 64 → EReal)
    (sel : Fin 32 → Fin 4 → Fin 32) (l : Fin 2048) (e : Fin 64) : EReal :=
  Ideal.div (oe s q k v sel l (left_ e)) (oe s q k v sel l 64)
    + ∑ d, Ideal.div (ne q k v sel l (left_ d)) (ne q k v sel l 64 + eps * ∑ d', Ideal.exp (q l d')) * w e d
    + b e

/-- The masked scores. -/
def lg (s : EReal) (q k : Fin 2048 → Fin 64 → EReal) (sel : Fin 32 → Fin 4 → Fin 32) (l y : Fin 2048) : EReal :=
  if ∃ t, sel (blk l) t = blk y then (∑ d, q l d * k y d) * s else ⊥

/-- A softmax over the features, its largest taken off. -/
def sm (x : Fin 2048 → Fin 64 → EReal) (mx : Fin 2048 → EReal) (l : Fin 2048) (d : Fin 64) : EReal :=
  Ideal.div (Ideal.exp (x l d - mx l)) (∑ d', Ideal.exp (x l d' - mx l))

/-- The masked products of the features. -/
def qk (q k : Fin 2048 → Fin 64 → EReal) (mq mk : Fin 2048 → EReal) (sel : Fin 32 → Fin 4 → Fin 32) (l y : Fin 2048) : EReal :=
  (∑ d, sm q mq l d * sm k mk y d) * (1 - if ∃ t, sel (blk l) t = blk y then 1 else 0)

/-- The reference's result. -/
def rOut (s eps : EReal) (q k v : Fin 2048 → Fin 64 → EReal) (w : Fin 64 → Fin 64 → EReal) (b : Fin 64 → EReal)
    (sel : Fin 32 → Fin 4 → Fin 32) (mx mq mk : Fin 2048 → EReal) (l : Fin 2048) (e : Fin 64) : EReal :=
  (∑ y, Ideal.div (Ideal.exp (lg s q k sel l y - mx l)) (∑ y', Ideal.exp (lg s q k sel l y' - mx l)) * v y e)
    + ∑ d, Ideal.div (∑ y, qk q k mq mk sel l y * v y d) ((∑ y, qk q k mq mk sel l y) + eps) * w e d
    + b e

/-! ## Reals among the extended reals -/

/-- A sum of reals, read as an extended real, is the sum of the terms so read. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a real is the real exponential. -/
theorem exp_coe (r : ℝ) : Ideal.exp (r : EReal) = ((Real.exp r : ℝ) : EReal) := rfl
/-- The exponential of −∞ is 0. -/
theorem exp_bot : Ideal.exp ⊥ = 0 := rfl
/-- For reals and a divisor other than 0, division is the division of the reals. -/
theorem div_coe {a b : ℝ} (h : b ≠ 0) : Ideal.div (a : EReal) (b : EReal) = ((a / b : ℝ) : EReal) := by
  rw [Ideal.div_coe h, ← EReal.coe_mul, mul_one_div]

section Real
variable (s eps : ℝ) (q k v : Fin 2048 → Fin 64 → ℝ) (sel : Fin 32 → Fin 4 → Fin 32) (mx mq mk : Fin 2048 → ℝ)

/-- A table of reals as a table of extended reals. -/
def up (x : Fin 2048 → Fin 64 → ℝ) : Fin 2048 → Fin 64 → EReal := fun l d => (x l d : EReal)

/-- The sum of the exponentials of a row. -/
def rs (x : Fin 2048 → Fin 64 → ℝ) (l : Fin 2048) : ℝ := ∑ d, Real.exp (x l d)
/-- The key features. -/
def ckR (y : Fin 2048) (d : Fin 64) : ℝ := Real.exp (k y d) / rs k y
/-- The extended values. -/
def vxR (y : Fin 2048) (c : Fin 128) : ℝ := if h : c.val < 64 then v y ⟨c.val, h⟩ else 1
/-- The state of a block. -/
def sttR (j : Fin 32) (d : Fin 64) (c : Fin 128) : ℝ := ∑ x, ckR k (at_ j x) d * vxR v (at_ j x) c
/-- The weight of a query at a key. -/
def wR (l y : Fin 2048) : ℝ := Real.exp ((∑ d, q l d * k y d) * s)
/-- The selected products, summed. -/
def oeR (l : Fin 2048) (c : Fin 128) : ℝ := ∑ t, ∑ x, wR s q k l (at_ (sel (blk l) t) x) * vxR v (at_ (sel (blk l) t) x) c
/-- The query features times the state that is left. -/
def neR (l : Fin 2048) (c : Fin 128) : ℝ :=
  ∑ d, Real.exp (q l d) * ((∑ j, sttR k v j d c) - ∑ t, sttR k v (sel (blk l) t) d c)

/-- The sum of the exponentials of a row is positive. -/
theorem rs_pos (x : Fin 2048 → Fin 64 → ℝ) (l : Fin 2048) : 0 < rs x l :=
  Finset.sum_pos (fun _ _ => Real.exp_pos _) ⟨0, Finset.mem_univ _⟩

/-- For real values the extended values are real, and these. -/
theorem vx_up (y : Fin 2048) (c : Fin 128) : vx (up v) y c = (vxR v y c : EReal) := by
  unfold vx vxR up; split <;> simp

/-- For real keys the key features are real, and these. -/
theorem kck_up (y : Fin 2048) (d : Fin 64) : kck (up k) y d = (ckR k y d : EReal) := by
  unfold kck ckR up
  simp only [exp_coe, ← coe_sum]
  exact div_coe (rs_pos k y).ne'

/-- For real keys and values the state of a block is real, and this. -/
theorem stt_up (j : Fin 32) (d : Fin 64) (c : Fin 128) : stt (up k) (up v) j d c = (sttR k v j d c : EReal) := by
  unfold stt sttR
  simp only [vx_up, kck_up, ← EReal.coe_mul, ← coe_sum]

/-- For real arguments a selected product is real: the weighted sum of the extended values over the block. -/
theorem pv_up (l : Fin 2048) (j : Fin 32) (c : Fin 128) :
    pv s (up q) (up k) (up v) l j c = ((∑ x, wR s q k l (at_ j x) * vxR v (at_ j x) c : ℝ) : EReal) := by
  unfold pv pw wR
  simp only [vx_up]
  unfold up
  simp only [← EReal.coe_mul, ← coe_sum, exp_coe]

/-- For real arguments the sum of the selected products is real, and this. -/
theorem oe_up (l : Fin 2048) (c : Fin 128) : oe s (up q) (up k) (up v) sel l c = (oeR s q k v sel l c : EReal) := by
  unfold oe oeR
  simp only [pv_up, ← EReal.coe_add, Fin.sum_univ_four]
  congr 1; ring

/-- For real arguments the query features times the state that is left is real, and this. -/
theorem ne_up (l : Fin 2048) (c : Fin 128) : ne (up q) (up k) (up v) sel l c = (neR q k v sel l c : EReal) := by
  unfold ne neR
  simp only [stt_up]
  unfold up
  simp only [exp_coe, ← coe_sum, ← EReal.coe_add, ← EReal.coe_sub, ← EReal.coe_mul, Fin.sum_univ_four]
  congr 1
  refine Finset.sum_congr rfl fun d _ => ?_
  ring

/-- The first 64 columns of the extended values are the values. -/
theorem vxR_left (y : Fin 2048) (e : Fin 64) : vxR v y (left_ e) = v y e := by
  unfold vxR; rw [dif_pos (show (left_ e).val < 64 from e.isLt)]; rfl
/-- Column 64 of the extended values is 1. -/
theorem vxR_one (y : Fin 2048) : vxR v y 64 = 1 := by
  unfold vxR; rw [dif_neg (by decide)]

/-- In column 64, the sum of the weights over the selected blocks, the selected sum is positive. -/
theorem oeR_pos (l : Fin 2048) : 0 < oeR s q k v sel l 64 := by
  unfold oeR
  simp only [vxR_one, mul_one]
  exact Finset.sum_pos (fun _ _ => Finset.sum_pos (fun _ _ => Real.exp_pos _) ⟨0, Finset.mem_univ _⟩) ⟨0, Finset.mem_univ _⟩

/-! ## The sparse part -/

/-- The masked exponential, its largest taken off. -/
theorem exp_lg (l y : Fin 2048) : Ideal.exp (lg s (up q) (up k) sel l y - (mx l : EReal))
    = ((Real.exp (-mx l) * (if ∃ t, sel (blk l) t = blk y then wR s q k l y else 0) : ℝ) : EReal) := by
  unfold lg up
  split
  · simp only [← EReal.coe_mul, ← coe_sum, ← EReal.coe_sub, exp_coe]
    congr 1
    unfold wR
    rw [← Real.exp_add]; congr 1; ring
  · rw [EReal.bot_sub, exp_bot, mul_zero]; rfl

/-- The sparse part of the reference is the kernel's. -/
theorem sparse (hsel : ∀ i, Function.Injective (sel i)) (l : Fin 2048) (e : Fin 64) :
    ∑ y, Ideal.div (Ideal.exp (lg s (up q) (up k) sel l y - (mx l : EReal)))
        (∑ y', Ideal.exp (lg s (up q) (up k) sel l y' - (mx l : EReal))) * up v y e
      = ((oeR s q k v sel l (left_ e) / oeR s q k v sel l 64 : ℝ) : EReal) := by
  have hden : ∑ y, (if ∃ t, sel (blk l) t = blk y then wR s q k l y else 0) = oeR s q k v sel l 64 := by
    rw [sum_rows_chosen _ (hsel _)]; unfold oeR; simp only [vxR_one, mul_one]
  have hnum : ∑ y, (if ∃ t, sel (blk l) t = blk y then wR s q k l y else 0) * v y e = oeR s q k v sel l (left_ e) := by
    simp only [ite_mul, zero_mul]
    rw [sum_rows_chosen _ (hsel _) fun y => wR s q k l y * v y e]; unfold oeR; simp only [vxR_left]
  have hE := Real.exp_pos (-mx l)
  have hO := oeR_pos s q k v sel l
  simp only [exp_lg, ← coe_sum, ← Finset.mul_sum, hden]
  simp only [div_coe (mul_pos hE hO).ne', up, ← EReal.coe_mul, ← coe_sum]
  congr 1
  rw [← hnum, Finset.sum_div]
  refine Finset.sum_congr rfl fun y _ => ?_
  field_simp

/-! ## The linear part -/

/-- A softmax does not feel a shift. -/
theorem sm_up (x : Fin 2048 → Fin 64 → ℝ) (m : Fin 2048 → ℝ) (l : Fin 2048) (d : Fin 64) :
    sm (up x) (fun l => (m l : EReal)) l d = ((Real.exp (x l d) / rs x l : ℝ) : EReal) := by
  have hE := Real.exp_pos (-m l)
  have hR := rs_pos x l
  have h : ∀ d, Real.exp (x l d - m l) = Real.exp (-m l) * Real.exp (x l d) := fun d => by
    rw [← Real.exp_add]; congr 1; ring
  unfold sm up
  simp only [← EReal.coe_sub, exp_coe, ← coe_sum, h, ← Finset.mul_sum]
  rw [show (∑ i, Real.exp (x l i)) = rs x l from rfl, div_coe (mul_pos hE hR).ne', mul_div_mul_left _ _ hE.ne']

/-- The masked products, as reals. -/
theorem qk_up (l y : Fin 2048) : qk (up q) (up k) (fun l => (mq l : EReal)) (fun l => (mk l : EReal)) sel l y
    = ((1 / rs q l * ((∑ d, Real.exp (q l d) * ckR k y d) - if ∃ t, sel (blk l) t = blk y then ∑ d, Real.exp (q l d) * ckR k y d else 0) : ℝ) : EReal) := by
  unfold qk
  have h1 : (1 - if ∃ t, sel (blk l) t = blk y then 1 else 0 : EReal)
      = ((1 - if ∃ t, sel (blk l) t = blk y then 1 else 0 : ℝ) : EReal) := by
    split
    · rw [EReal.coe_sub]; rfl
    · rw [EReal.coe_sub]; rfl
  rw [h1]
  simp only [sm_up, ← EReal.coe_mul, ← coe_sum]
  congr 1
  have h2 : ∑ d, Real.exp (q l d) / rs q l * (Real.exp (k y d) / rs k y) = 1 / rs q l * ∑ d, Real.exp (q l d) * ckR k y d := by
    rw [Finset.mul_sum]; refine Finset.sum_congr rfl fun d _ => ?_; unfold ckR; ring
  rw [h2]
  split <;> ring

/-- What the masked products sum to against extended values. -/
theorem sum_qk (hsel : ∀ i, Function.Injective (sel i)) (l : Fin 2048) (c : Fin 128) :
    ∑ y, (1 / rs q l * ((∑ d, Real.exp (q l d) * ckR k y d)
        - if ∃ t, sel (blk l) t = blk y then ∑ d, Real.exp (q l d) * ckR k y d else 0)) * vxR v y c
      = neR q k v sel l c / rs q l := by
  have h1 : ∑ y, (∑ d, Real.exp (q l d) * ckR k y d) * vxR v y c = ∑ d, Real.exp (q l d) * ∑ j, sttR k v j d c := by
    simp only [Finset.sum_mul, sttR]
    rw [Finset.sum_comm]
    refine Finset.sum_congr rfl fun d _ => ?_
    rw [← sum_rows fun y => ckR k y d * vxR v y c, Finset.mul_sum]
    exact Finset.sum_congr rfl fun y _ => by ring
  have h2 : ∑ y, (if ∃ t, sel (blk l) t = blk y then (∑ d, Real.exp (q l d) * ckR k y d) * vxR v y c else 0)
      = ∑ d, Real.exp (q l d) * ∑ t, sttR k v (sel (blk l) t) d c := by
    rw [sum_rows_chosen _ (hsel _) fun y => (∑ d, Real.exp (q l d) * ckR k y d) * vxR v y c]
    simp only [Finset.sum_mul, sttR]
    have : ∀ t, ∑ r, ∑ d, Real.exp (q l d) * ckR k (at_ (sel (blk l) t) r) d * vxR v (at_ (sel (blk l) t) r) c
        = ∑ d, ∑ r, Real.exp (q l d) * ckR k (at_ (sel (blk l) t) r) d * vxR v (at_ (sel (blk l) t) r) c :=
      fun t => Finset.sum_comm
    simp only [this]
    rw [Finset.sum_comm]
    refine Finset.sum_congr rfl fun d _ => ?_
    simp only [Finset.mul_sum]
    exact Finset.sum_congr rfl fun t _ => Finset.sum_congr rfl fun x _ => by ring
  unfold neR
  simp only [mul_sub, Finset.sum_sub_distrib]
  rw [← h1, ← h2, sub_div, Finset.sum_div, Finset.sum_div, ← Finset.sum_sub_distrib]
  refine Finset.sum_congr rfl fun y _ => ?_
  split <;> ring

/-- The sum of the masked products is not negative. -/
theorem neR_nonneg (hsel : ∀ i, Function.Injective (sel i)) (l : Fin 2048) : 0 ≤ neR q k v sel l 64 / rs q l := by
  rw [← sum_qk q k v sel hsel l 64]
  refine Finset.sum_nonneg fun y _ => ?_
  have hs : 0 ≤ ∑ d, Real.exp (q l d) * ckR k y d :=
    Finset.sum_nonneg fun d _ => mul_nonneg (Real.exp_pos _).le (div_nonneg (Real.exp_pos _).le (rs_pos k y).le)
  rw [vxR_one, mul_one]
  refine mul_nonneg (one_div_nonneg.2 (rs_pos q l).le) ?_
  split <;> simp [hs]

/-- The linear part of the reference is the kernel's. -/
theorem linear (heps : 0 < eps) (hsel : ∀ i, Function.Injective (sel i)) (l : Fin 2048) (d : Fin 64) :
    Ideal.div (∑ y, qk (up q) (up k) (fun l => (mq l : EReal)) (fun l => (mk l : EReal)) sel l y * up v y d)
        ((∑ y, qk (up q) (up k) (fun l => (mq l : EReal)) (fun l => (mk l : EReal)) sel l y) + (eps : EReal))
      = Ideal.div (ne (up q) (up k) (up v) sel l (left_ d))
          (ne (up q) (up k) (up v) sel l 64 + (eps : EReal) * ∑ d', Ideal.exp (up q l d')) := by
  have hR := rs_pos q l
  have hN := neR_nonneg q k v sel hsel l
  have hd := sum_qk q k v sel hsel l 64
  have hn := sum_qk q k v sel hsel l (left_ d)
  simp only [vxR_one, mul_one, vxR_left] at hd hn
  simp only [qk_up, ne_up]
  unfold up
  simp only [exp_coe, ← EReal.coe_mul, ← coe_sum, ← EReal.coe_add, hd, hn]
  rw [show (∑ i, Real.exp (q l i)) = rs q l from rfl]
  have hN' : 0 ≤ neR q k v sel l 64 := by
    have := mul_nonneg hN hR.le; rwa [div_mul_cancel₀ _ hR.ne'] at this
  rw [div_coe (add_pos_of_nonneg_of_pos hN heps).ne', div_coe (add_pos_of_nonneg_of_pos hN' (mul_pos heps hR)).ne']
  congr 1
  have e1 : neR q k v sel l 64 / rs q l + eps = (neR q k v sel l 64 + eps * rs q l) / rs q l := by field_simp
  rw [e1, div_div_div_cancel_right₀ hR.ne']

/-- On real queries, keys and values the two results are equal. -/
theorem kOut_eq_rOut (heps : 0 < eps) (hsel : ∀ i, Function.Injective (sel i)) (w : Fin 64 → Fin 64 → EReal) (b : Fin 64 → EReal)
    (l : Fin 2048) (e : Fin 64) :
    kOut s eps (up q) (up k) (up v) w b sel l e
      = rOut s eps (up q) (up k) (up v) w b sel (fun l => (mx l : EReal)) (fun l => (mq l : EReal)) (fun l => (mk l : EReal)) l e := by
  unfold kOut rOut
  rw [sparse s q k v sel mx hsel l e, oe_up, oe_up, div_coe (oeR_pos s q k v sel l).ne']
  simp only [linear eps q k v sel mq mk heps hsel l]

end Real

end Cert.Attn

end
-- ==== Proof.PI.Point.lean ====
module

public import proofs.«01_k».proof.Proof.PI.Targets
public import proofs.«01_k».proof.Proof.Math.Attn
public import Idealize.ShloMosaic.Lib.Pointwise

/-!
# The body's result, read at an index
-/

@[expose] public section

noncomputable section

namespace Cert.KernelIdeal.Uni

open Cert.KernelIdeal Cert.KernelIdeal.Gen
open Idealize.ShloMosaic

/-- The scale of the scores. -/
def scaleC : EReal := Ideal.ofBits .f32 0x3E000000#32
/-- The small constant of the linear branch. -/
def epsC : EReal := Ideal.ofBits .f32 0x358637BD#32

/-- A (1, 2048, 64) array as a table. -/
def tab (x : Vec Ideal S1x2048x64 .f32) (l : Fin 2048) (d : Fin 64) : EReal := x (ix3 0 l d)

/-- A key feature: the exponential of the key's entry over the sum of its row's exponentials. -/
theorem payCk_at (x : Vec Ideal S1x2048x64 .f32) (l : Fin 2048) (d : Fin 64) :
    payCk x (ix2 l d) = Attn.kck (tab x) l d := by
  unfold Attn.kck tab
  pointwise [payCk]

/-- A query feature, not normalised: the exponential of the entry. -/
theorem payEq_at (x : Vec Ideal S1x2048x64 .f32) (l : Fin 2048) (d : Fin 64) :
    payEq x (ix2 l d) = Ideal.exp (tab x l d) := by
  unfold tab
  pointwise [payEq]

/-- A block's state: the product over the block's rows of features and extended values. -/
theorem stBlk_at (c : Vec Ideal S64x64 .f32) (v : Vec Ideal S1x64x128 .f32) (d : Fin 64) (e : Fin 128) :
    stBlk c v (ix2 d e) = ∑ x : Fin 64, c (ix2 x d) * v (ix3 0 x e) := by
  pointwise [stBlk]

/-- A weight: the exponential of the scaled inner product of a query row and a key row. -/
theorem payP_at (q k : Vec Ideal S1x64x64 .f32) (l x : Fin 64) :
    payP q k (ix3 0 l x) = Ideal.exp ((∑ d : Fin 64, q (ix3 0 l d) * k (ix3 0 x d)) * scaleC) := by
  unfold scaleC
  pointwise [payP]

/-- Weights times extended values: the sum over the rows of the block. -/
theorem mulPV_at (p : Vec Ideal S1x64x64 .f32) (v : Vec Ideal S1x64x128 .f32) (l : Fin 64) (e : Fin 128) :
    mulPV p v (ix2 l e) = ∑ x : Fin 64, p (ix3 0 l x) * v (ix3 0 x e) := by
  pointwise [mulPV]

/-- The four selected products, added two and two. -/
theorem payO_at (p0 p1 p2 p3 : Vec Ideal S1x64x64 .f32) (v0 v1 v2 v3 : Vec Ideal S1x64x128 .f32) (l : Fin 64) (e : Fin 128) :
    payO p0 p1 p2 p3 v0 v1 v2 v3 (ix2 l e)
      = (mulPV p0 v0 (ix2 l e) + mulPV p1 v1 (ix2 l e)) + (mulPV p2 v2 (ix2 l e) + mulPV p3 v3 (ix2 l e)) := by
  pointwise [payO]

/-- Query features times the total less the four selected states. -/
theorem payN_at (st : FVec Ideal S64x128 .f32) (s0 s1 s2 s3 : Vec Ideal S1x64x128 .f32) (e : Vec Ideal S64x64 .f32) (l : Fin 64) (c : Fin 128) :
    payN st s0 s1 s2 s3 e (ix2 l c) = ∑ d : Fin 64, e (ix2 l d) * (st (ix2 d c)
      - ((s0 (ix3 0 d c) + s1 (ix3 0 d c)) + (s2 (ix3 0 d c) + s3 (ix3 0 d c)))) := by
  pointwise [payN]

/-- The sparse part of the result: the weighted values over the weights' sum, which stands in column 64. -/
theorem outS_at (oe : Vec Ideal S2048x128 .f32) (l : Fin 2048) (e : Fin 64) :
    outS oe (ix2 l e) = Ideal.div (oe (ix2 l (Attn.left_ e))) (oe (ix2 l 64)) := by
  pointwise [outS, Attn.left_]

/-- The linear part: the product over its column 64 plus the small constant times the features' row sum. -/
theorem outL_at (ne : Vec Ideal S2048x128 .f32) (x : Vec Ideal S2048x64 .f32) (l : Fin 2048) (d : Fin 64) :
    outL ne x (ix2 l d) = Ideal.div (ne (ix2 l (Attn.left_ d))) (ne (ix2 l 64) + epsC * ∑ d' : Fin 64, x (ix2 l d')) := by
  unfold epsC
  pointwise [outL, Attn.left_]

/-- The result: the sparse part, the linear part through the weight matrix, and the bias. -/
theorem payOut_at (oe ne : Vec Ideal S2048x128 .f32) (x : Vec Ideal S2048x64 .f32) (w : Vec Ideal S64x64 .f32) (b : Vec Ideal S1x64 .f32)
    (l : Fin 2048) (e : Fin 64) :
    payOut oe ne x w b (ix3 0 l e) = outS oe (ix2 l e) + ∑ d : Fin 64, outL ne x (ix2 l d) * w (ix2 e d) + b (ix2 0 e) := by
  pointwise [payOut]

end Cert.KernelIdeal.Uni

end
-- ==== Proof.PI.Head.lean ====
module

public import proofs.«01_k».proof.Proof.PI.Point

/-!
# One head's result
-/

@[expose] public section

noncomputable section

namespace Cert.KernelIdeal.Uni

open Cert.KernelIdeal Cert.KernelIdeal.Gen
open Idealize.ShloMosaic

/-- Block `j` of the extended values, at row `r` and column `c`: the extended value of that row. -/
theorem T10_at (v : Vec Ideal S1x2048x64 .f32) (j : Fin 32) (r : Fin 64) (c : Fin 128) :
    T10 v (ix3 j r c) = Attn.vx (tab v) (Attn.at_ j r) c := by
  unfold T10 Attn.vx
  by_cases h : c.val < 64
  · rw [dif_pos h, dif_pos (show (ix3 (n0 := 32) (n1 := 64) (n2 := 128) j r c 2).val < 64 from h)]; rfl
  · rw [dif_neg h, dif_neg (show ¬ (ix3 (n0 := 32) (n1 := 64) (n2 := 128) j r c 2).val < 64 from h)]
    exact Ideal.ofBits_one_f32

/-- The product of block `j`'s key features and extended values, entry by entry, is the block's state. -/
theorem stt_at (k v : Vec Ideal S1x2048x64 .f32) (j : Fin 32) (d : Fin 64) (c : Fin 128) :
    stBlk (blk2 (payCk k) j) (blkE (T10 v) j) (ix2 d c) = Attn.stt (tab k) (tab v) j d c := by
  rw [stBlk_at]
  refine Finset.sum_congr rfl fun x _ => ?_
  exact congrArg₂ (· * ·) (payCk_at k _ d) (T10_at v j x c)

/-- Block `j` of the array of states holds that block's state. -/
theorem T11_at (k v : Vec Ideal S1x2048x64 .f32) (j : Fin 32) (d : Fin 64) (c : Fin 128) :
    blkE (T11 k v) j (ix3 0 d c) = Attn.stt (tab k) (tab v) j d c := stt_at k v j d c

/-- After `n` blocks the four running sums add up to the sum of the first `n` block states. -/
theorem accs_at (k v : Vec Ideal S1x2048x64 .f32) (i : S64x128.Idx) : ∀ n : Nat, (hn : n ≤ 32) →
    ((accs k v n).1 i + (accs k v n).2.1 i + ((accs k v n).2.2.1 i + (accs k v n).2.2.2 i) : EReal)
      = ∑ j : Fin n, (stBlk (blk2 (payCk k) (j.castLE hn)) (blkE (T10 v) (j.castLE hn)) i : EReal)
  | 0, _ => by
    have hz : (zero2 (F := Ideal) i : EReal) = 0 := Ideal.ofBits_zero_f32
    show ((zero2 (F := Ideal) i : EReal) + zero2 (F := Ideal) i + (zero2 (F := Ideal) i + zero2 (F := Ideal) i)) = _
    rw [hz]; simp
  | n + 1, hn => by
    rw [Fin.sum_univ_castSucc]
    refine Eq.trans ?_ (congrArg (· + _) (accs_at k v i n (by omega)))
    have hn' : n < 32 := hn
    simp only [accs, dif_pos hn']
    show ((accs k v n).2.1 i + (accs k v n).2.2.1 i + ((accs k v n).2.2.2 i
      + ((accs k v n).1 i + stBlk (blk2 (payCk k) ⟨n, hn'⟩) (blkE (T10 v) ⟨n, hn'⟩) i)) : EReal) = _
    show _ = ((accs k v n).1 i + (accs k v n).2.1 i + ((accs k v n).2.2.1 i + (accs k v n).2.2.2 i)
      + stBlk (blk2 (payCk k) ⟨n, hn'⟩) (blkE (T10 v) ⟨n, hn'⟩) i : EReal)
    ac_rfl

/-- After all 32 blocks the running sums add up to the sum of all block states. -/
theorem total_at (k v : Vec Ideal S1x2048x64 .f32) (d : Fin 64) (c : Fin 128) :
    total (accs k v 32) (ix2 d c) = ∑ j, Attn.stt (tab k) (tab v) j d c := by
  refine Eq.trans ?_ ((accs_at k v (ix2 d c) 32 le_rfl).trans (Finset.sum_congr rfl fun j _ => stt_at k v j d c))
  rfl

/-- The weights of query block `j` against its `t`-th selected block, entry by entry. -/
theorem wts_at (sel : Fin 32 → Fin 4 → Fin 32) (q k : Vec Ideal S1x2048x64 .f32) (j : Fin 32) (t : Fin 4) (r x : Fin 64) :
    wts sel q k j t (ix3 0 r x) = Attn.pw scaleC (tab q) (tab k) (Attn.at_ j r) (sel j t) x := payP_at _ _ r x

/-- Those weights times the extended values of the selected block, entry by entry. -/
theorem pv_at (sel : Fin 32 → Fin 4 → Fin 32) (q k v : Vec Ideal S1x2048x64 .f32) (j : Fin 32) (t : Fin 4) (r : Fin 64) (c : Fin 128) :
    mulPV (wts sel q k j t) (blkE (T10 v) (sel j t)) (ix2 r c)
      = Attn.pv scaleC (tab q) (tab k) (tab v) (Attn.at_ j r) (sel j t) c := by
  rw [mulPV_at]
  refine Finset.sum_congr rfl fun x _ => ?_
  exact congrArg₂ (· * ·) (wts_at sel q k j t r x) (T10_at v (sel j t) x c)

/-- The array of the selected products holds, at row `l`, the sum over that row's four selected blocks. -/
theorem T13_at (sel : Fin 32 → Fin 4 → Fin 32) (q k v : Vec Ideal S1x2048x64 .f32) (l : Fin 2048) (c : Fin 128) :
    T13 sel q k v (ix2 l c) = Attn.oe scaleC (tab q) (tab k) (tab v) sel l c := by
  show oBlk sel q k v (Attn.blk l) (ix2 (Attn.pos l) c) = _
  unfold oBlk
  rw [payO_at, pv_at, pv_at, pv_at, pv_at, Attn.at_blk]
  rfl

/-- The other product array holds, at row `l`, the query features times the total less the four selected states. -/
theorem T14_at (sel : Fin 32 → Fin 4 → Fin 32) (q k v : Vec Ideal S1x2048x64 .f32) (l : Fin 2048) (c : Fin 128) :
    T14 sel q k v (ix2 l c) = Attn.ne (tab q) (tab k) (tab v) sel l c := by
  show nBlk sel q k v (Attn.blk l) (ix2 (Attn.pos l) c) = _
  unfold nBlk
  rw [payN_at]
  refine Finset.sum_congr rfl fun d _ => ?_
  refine congrArg₂ (· * ·) ?_ ?_
  · refine (payEq_at q (Attn.at_ (Attn.blk l) (Attn.pos l)) d).trans ?_
    rw [Attn.at_blk]
  · rw [total_at, T11_at, T11_at, T11_at, T11_at]

/-- What one point returns, read at an index. -/
theorem outT_at (sel : Fin 32 → Fin 4 → Fin 32) (q k v : Vec Ideal S1x2048x64 .f32) (w : Vec Ideal S64x64 .f32) (b : Vec Ideal S1x64 .f32)
    (l : Fin 2048) (e : Fin 64) :
    outT sel q k v w b (ix3 0 l e) = Attn.kOut scaleC epsC (tab q) (tab k) (tab v) (fun e d => w (ix2 e d)) (fun e => b (ix2 0 e)) sel l e := by
  unfold outT Attn.kOut
  rw [payOut_at, outS_at, T13_at, T13_at]
  refine congrArg (· + _) (congrArg (_ + ·) (Finset.sum_congr rfl fun d _ => congrArg (· * _) ?_))
  rw [outL_at, T14_at, T14_at]
  refine congrArg (fun z => Ideal.div _ (_ + epsC * z)) (Finset.sum_congr rfl fun d' _ => payEq_at q l d')

end Cert.KernelIdeal.Uni

end
-- ==== Proof.PI.Host.lean ====
module

public import proofs.«01_k».proof.Proof.PI.Head
public import proofs.«01_k».proof.Proof.PI.Table
public import Idealize.ShloMosaic.Lib.Pipeline.ValueKit

/-!
# The arrays around the pipeline
-/

@[expose] public section

noncomputable section

namespace Cert.KernelIdeal.Uni

open Cert.KernelIdeal Cert.KernelIdeal.Gen
open Idealize.ShloMosaic Idealize.ShloMosaic.TcCoe Idealize.ShloMosaic.StableHlo
open Idealize.ShloMosaic.Pipeline
open Idealize.SL.Sem

section
variable {F : FTy → Type} [FloatOps F] (m : (ℓ : Loc nD τ sig) → Buf (Elt F) ℓ)

set_option maxRecDepth 100000 in
set_option maxHeartbeats 40000000 in
/-- The queries the call is given: the first argument, reshaped. -/
theorem V_q (c : Dev nD) : V m c main_call0_v0 = shapeCast S12x2048x64 (m ((c : Thread nD τ).loc main_arg0)) shapeCasts_S1x12x2048x64_S12x2048x64 := by
  show StableHlo.after (List.flatten [hostOps0]) _ _ = _
  simp only [List.flatten_cons, List.flatten_nil, List.append_nil, hostOps0, TRef.nary, TRef.binary, TRef.nullary, TRef.ternary, TRef.quaternary, TRef.reshape, TRef.unary, TRef.toBuf, TRef.ofBuf, cast_eq]
  after_results_simp
  all_goals chain_rfl

set_option maxRecDepth 100000 in
set_option maxHeartbeats 40000000 in
/-- The keys the call is given: the second argument, reshaped. -/
theorem V_k (c : Dev nD) : V m c main_call0_v1 = shapeCast S12x2048x64 (m ((c : Thread nD τ).loc main_arg1)) shapeCasts_S1x12x2048x64_S12x2048x64 := by
  show StableHlo.after (List.flatten [hostOps0]) _ _ = _
  simp only [List.flatten_cons, List.flatten_nil, List.append_nil, hostOps0, TRef.nary, TRef.binary, TRef.nullary, TRef.ternary, TRef.quaternary, TRef.reshape, TRef.unary, TRef.toBuf, TRef.ofBuf, cast_eq]
  after_results_simp
  all_goals chain_rfl

set_option maxRecDepth 100000 in
set_option maxHeartbeats 40000000 in
/-- The values the call is given: the third argument, reshaped. -/
theorem V_v (c : Dev nD) : V m c main_call0_v2 = shapeCast S12x2048x64 (m ((c : Thread nD τ).loc main_arg2)) shapeCasts_S1x12x2048x64_S12x2048x64 := by
  show StableHlo.after (List.flatten [hostOps0]) _ _ = _
  simp only [List.flatten_cons, List.flatten_nil, List.append_nil, hostOps0, TRef.nary, TRef.binary, TRef.nullary, TRef.ternary, TRef.quaternary, TRef.reshape, TRef.unary, TRef.toBuf, TRef.ofBuf, cast_eq]
  after_results_simp
  all_goals chain_rfl

set_option maxRecDepth 100000 in
set_option maxHeartbeats 40000000 in
/-- The bias the call is given: the fifth argument, reshaped. -/
theorem V_b (c : Dev nD) : V m c main_call0_v45 = shapeCast S1x64 (m ((c : Thread nD τ).loc main_arg4)) shapeCasts_S64_S1x64 := by
  show StableHlo.after (List.flatten [hostOps0]) _ _ = _
  simp only [List.flatten_cons, List.flatten_nil, List.append_nil, hostOps0, TRef.nary, TRef.binary, TRef.nullary, TRef.ternary, TRef.quaternary, TRef.reshape, TRef.unary, TRef.toBuf, TRef.ofBuf, cast_eq]
  after_results_simp
  all_goals chain_rfl

set_option maxRecDepth 100000 in
/-- The result is the pipeline's array with a leading axis. -/
theorem W_res (c : Dev nD) : afterTail₀ cfgs (dats m) 0 (V0 m) [hostOps1] c main_v0
    = shapeCast S1x12x2048x64 ((dats m 0 c).arrAt 6 cfg0.N : Vec F S12x2048x64 .f32) shapeCasts_S12x2048x64_S1x12x2048x64 := by
  unfold afterTail₀
  simp only [List.flatten_cons, List.flatten_nil, List.append_nil, hostOps1, TRef.reshape, TRef.toBuf, TRef.ofBuf, cast_eq]
  after_results_simp
  refine congrArg (fun x => shapeCast S1x12x2048x64 (x : Vec F S12x2048x64 .f32) shapeCasts_S12x2048x64_S1x12x2048x64) ?_
  exact withArrays_arr spec0 launch0.win.arr_inj c (V0 m c) (fun w => (dats m 0 c).arrAt w cfg0.N) 6

end

end Cert.KernelIdeal.Uni

end
-- ==== Proof.PI.Value.lean ====
module

public import proofs.«01_k».proof.Proof.PI.Host

/-!
# The result of the program
-/

@[expose] public section

noncomputable section

namespace Cert.KernelIdeal.Uni

open Cert.KernelIdeal Cert.KernelIdeal.Gen
open Idealize.ShloMosaic Idealize.ShloMosaic.TcCoe Idealize.ShloMosaic.StableHlo
open Idealize.ShloMosaic.Pipeline
open Idealize.SL.Sem

/-- Head `h` of an argument. -/
def hd (x : Vec Ideal S1x12x2048x64 .f32) (h : Fin 12) (l : Fin 2048) (d : Fin 64) : EReal := x (ix4 0 h l d)

/-- The block that block `j` of queries of head `h` takes `t`-th. -/
def selH (s : Vec Ideal S384x32 .f32) (h : Fin 12) (j : Fin 32) (t : Fin 4) : Fin 32 :=
  selK (picks s (ix2 ⟨32 * h.val + j.val, by omega⟩ t))

/-- The head a point works on. -/
def headOf (t : Fin cfg0.N) : Fin 12 := grid0.coords t 0

variable (m : (ℓ : Loc nD τ sig) → Buf (Elt Ideal) ℓ)

/-- Every point is given the whole index table. -/
theorem e0 : ∀ t : Fin cfg0.N, win0_0.index t = ![0, 0, 0] := by decide +kernel
/-- A point is given its own head's queries. -/
theorem e1 : ∀ t : Fin cfg0.N, win0_1.index t = ![(headOf t).val, 0, 0] := (by decide +kernel : ∀ t : Fin grid0.N, _)
/-- A point is given its own head's keys. -/
theorem e2 : ∀ t : Fin cfg0.N, win0_2.index t = ![(headOf t).val, 0, 0] := (by decide +kernel : ∀ t : Fin grid0.N, _)
/-- A point is given its own head's values. -/
theorem e3 : ∀ t : Fin cfg0.N, win0_3.index t = ![(headOf t).val, 0, 0] := (by decide +kernel : ∀ t : Fin grid0.N, _)
/-- Every point is given the whole weight matrix. -/
theorem e4 : ∀ t : Fin cfg0.N, win0_4.index t = ![0, 0] := (by decide +kernel : ∀ t : Fin grid0.N, _)
/-- Every point is given the whole bias. -/
theorem e5 : ∀ t : Fin cfg0.N, win0_5.index t = ![0, 0] := (by decide +kernel : ∀ t : Fin grid0.N, _)
/-- A point writes its own head's result. -/
theorem e6 : ∀ t : Fin cfg0.N, win0_6.index t = ![(headOf t).val, 0, 0] := (by decide +kernel : ∀ t : Fin grid0.N, _)

/-- A (1, 12, 2048, 64) argument without its first dimension, entry by entry. -/
theorem reshape_at (x : Vec Ideal S1x12x2048x64 .f32) (h : Fin 12) (l : Fin 2048) (d : Fin 64) :
    shapeCast S12x2048x64 x shapeCasts_S1x12x2048x64_S12x2048x64 (ix3 h l d) = x (ix4 0 h l d) := by
  pointwise

/-- The queries at a point are its head of the first argument. -/
theorem iblk_q (c : Dev nD) (t : Fin cfg0.N) : tab (iblk m c 1 t) = hd (m ((c : Thread nD τ).loc main_arg0)) (headOf t) := by
  funext l d
  have E : ((cfg0.win 1).blk t).view.emb (ix3 (n0 := 1) (n1 := 2048) (n2 := 64) 0 l d) = ix3 (n0 := 12) (n1 := 2048) (n2 := 64) (headOf t) l d := by
    blk_ext [e1]
  refine (congrArg (V m c main_call0_v0) E).trans ?_
  rw [V_q]
  exact reshape_at _ _ _ _

/-- The keys at a point are its head of the second argument. -/
theorem iblk_k (c : Dev nD) (t : Fin cfg0.N) : tab (iblk m c 2 t) = hd (m ((c : Thread nD τ).loc main_arg1)) (headOf t) := by
  funext l d
  have E : ((cfg0.win 2).blk t).view.emb (ix3 (n0 := 1) (n1 := 2048) (n2 := 64) 0 l d) = ix3 (n0 := 12) (n1 := 2048) (n2 := 64) (headOf t) l d := by
    blk_ext [e2]
  refine (congrArg (V m c main_call0_v1) E).trans ?_
  rw [V_k]
  exact reshape_at _ _ _ _

/-- The values at a point are its head of the third argument. -/
theorem iblk_v (c : Dev nD) (t : Fin cfg0.N) : tab (iblk m c 3 t) = hd (m ((c : Thread nD τ).loc main_arg2)) (headOf t) := by
  funext l d
  have E : ((cfg0.win 3).blk t).view.emb (ix3 (n0 := 1) (n1 := 2048) (n2 := 64) 0 l d) = ix3 (n0 := 12) (n1 := 2048) (n2 := 64) (headOf t) l d := by
    blk_ext [e3]
  refine (congrArg (V m c main_call0_v2) E).trans ?_
  rw [V_v]
  exact reshape_at _ _ _ _

/-- The weight matrix at a point is the fourth argument. -/
theorem iblk_w (c : Dev nD) (t : Fin cfg0.N) (e d : Fin 64) : iblk m c 4 t (ix2 e d) = m ((c : Thread nD τ).loc main_arg3) (ix2 e d) := by
  have E : ((cfg0.win 4).blk t).view.emb (ix2 (n0 := 64) (n1 := 64) e d) = ix2 (n0 := 64) (n1 := 64) e d := by
    blk_ext [e4]
  refine (congrArg (V m c main_arg3) E).trans ?_
  rw [V_main_arg3]

/-- The bias with a dimension put before, entry by entry. -/
theorem reshape_b (x : Vec Ideal S64 .f32) (e : Fin 64) : shapeCast S1x64 x shapeCasts_S64_S1x64 (ix2 0 e) = x (ix1 e) := by
  pointwise

/-- The bias at a point is the fifth argument. -/
theorem iblk_b (c : Dev nD) (t : Fin cfg0.N) (e : Fin 64) : iblk m c 5 t (ix2 0 e) = m ((c : Thread nD τ).loc main_arg4) (ix1 e) := by
  have E : ((cfg0.win 5).blk t).view.emb (ix2 (n0 := 1) (n1 := 64) 0 e) = ix2 (n0 := 1) (n1 := 64) 0 e := by
    blk_ext [e5]
  refine (congrArg (V m c main_call0_v45) E).trans ?_
  rw [V_b]
  exact reshape_b _ _

/-- The table of selected blocks by head and query block: row `32 h + j` of the flat table. -/
theorem reshape_t (x : Vec Ideal S384x4 .i32) (h : Fin 12) (j : Fin 32) (u : Fin 4) :
    shapeCast S12x32x4 x shapeCasts_S384x4_S12x32x4 (ix3 h j u) = x (ix2 ⟨32 * h.val + j.val, by omega⟩ u) := by
  pointwise
  congr 2; apply Fin.ext; simp; omega

/-- The word's place in the table. -/
theorem place (i : grid0.Coords) (j : Fin 32) (u : Fin 4) (y : S1x1x1.Idx) :
    (rIdx i ⟨4 * j.val + u.val, by omega⟩).emb y = ix3 (n0 := 12) (n1 := 32) (n2 := 4) (i 0) j u := by
  have hi : (i 0).val < 12 := (i 0).isLt
  have h0 : (y 0).val < 1 := (y 0).isLt
  have h1 : (y 1).val < 1 := (y 1).isLt
  have h2 : (y 2).val < 1 := (y 2).isLt
  funext a; apply Fin.ext; refine (emb_unit _ _).trans ?_; fin_cases a
  · show (BitVec.ofNat 32 (i 0).val).toNat + (y 0).val = (i 0).val
    rw [BitVec.toNat_ofNat]; omega
  · show (4 * j.val + u.val) / 4 + (y 1).val = j.val; omega
  · show (4 * j.val + u.val) % 4 + (y 2).val = u.val; omega

/-- The scores of the launch. -/
def sc (c : Dev nD) : Vec Ideal S384x32 .f32 := scores (m ((c : Thread nD τ).loc main_arg0)) (m ((c : Thread nD τ).loc main_arg1))

/-- The blocks a point selects are those that the scores of the launch give its head. -/
theorem sel_at (c : Dev nD) (t : Fin cfg0.N) : selT (iblk m c 0 t) (grid0.coords t) = selH (sc m c) (headOf t) := by
  funext j u
  have E : ((cfg0.win 0).blk t).view.emb (ix3 (n0 := 12) (n1 := 32) (n2 := 4) (headOf t) j u) = ix3 (n0 := 12) (n1 := 32) (n2 := 4) (headOf t) j u := by
    blk_ext [e0]
  refine congrArg selK ?_
  unfold word
  refine (congrArg (iblk m c 0 t) (place (grid0.coords t) j u _)).trans ?_
  refine (congrArg (V m c main_call0_v44) E).trans ?_
  rw [table_eq]
  exact reshape_t _ _ _ _

/-- The program's result, entry by entry. -/
def res (c : Dev nD) (h : Fin 12) (l : Fin 2048) (e : Fin 64) : EReal :=
  Attn.kOut scaleC epsC (hd (m ((c : Thread nD τ).loc main_arg0)) h) (hd (m ((c : Thread nD τ).loc main_arg1)) h)
    (hd (m ((c : Thread nD τ).loc main_arg2)) h) (fun e d => m ((c : Thread nD τ).loc main_arg3) (ix2 e d))
    (fun e => m ((c : Thread nD τ).loc main_arg4) (ix1 e)) (selH (sc m c) h) l e

/-- What a point writes is its head of the program's result. -/
theorem outAt_at (c : Dev nD) (t : Fin cfg0.N) (l : Fin 2048) (e : Fin 64) : outAt m c t (ix3 0 l e) = res m c (headOf t) l e := by
  unfold outAt res
  refine (outT_at _ _ _ _ _ _ l e).trans ?_
  rw [iblk_q, iblk_k, iblk_v, sel_at]
  refine congrArg₂ (fun w b => Attn.kOut scaleC epsC _ _ _ w b _ l e) ?_ ?_
  · funext e d; exact iblk_w m c t e d
  · funext e; exact iblk_b m c t e

/-- The pipeline's array after the run. -/
theorem final (c : Dev nD) : (dats m 0 c).arrAt 6 cfg0.N = (fun i => res m c (i 0) (i 1) (i 2) : Vec Ideal S12x2048x64 .f32) := by
  refine (dats m 0 c).arrAt_eq_of_covers 6 (fun i => res m c (i 0) (i 1) (i 2) : Vec Ideal S12x2048x64 .f32) (by decide +kernel) fun t hf y => ?_
  have E : ((cfg0.win 6).blk t).view.emb y = ix3 (n0 := 12) (n1 := 2048) (n2 := 64) (headOf t) (y 1) (y 2) := by
    blk_ext [e6]
  rw [E]
  refine Eq.trans ?_ (outAt_at m c t (y 1) (y 2))
  rw [after0_6]
  show outAt m c t y = _
  refine congrArg (outAt m c t) ?_
  have h0 : (y 0).val < 1 := (y 0).isLt
  funext a; apply Fin.ext; fin_cases a
  · show (y 0).val = 0; omega
  · rfl
  · rfl

/-- The result with its first dimension put back, entry by entry. -/
theorem reshape_o (x : Vec Ideal S12x2048x64 .f32) (h : Fin 12) (l : Fin 2048) (d : Fin 64) :
    shapeCast S1x12x2048x64 x shapeCasts_S12x2048x64_S1x12x2048x64 (ix4 0 h l d) = x (ix3 h l d) := by
  pointwise

/-- The program's result, whole. -/
def resV (c : Dev nD) : Vec Ideal S1x12x2048x64 .f32 := fun i => res m c (i 1) (i 2) (i 3)

/-- The result buffer after the run. -/
theorem W_main (c : Dev nD) : afterTail₀ cfgs (dats m) 0 (V0 m) [hostOps1] c main_v0 = resV m c := by
  rw [W_res, final]
  funext i
  have h0 : (i 0).val < 1 := (i 0).isLt
  have e : i = ix4 (n0 := 1) (n1 := 12) (n2 := 2048) (n3 := 64) 0 (i 1) (i 2) (i 3) := by
    funext a; apply Fin.ext; fin_cases a
    · show (i 0).val = 0; omega
    · rfl
    · rfl
    · rfl
  rw [e]
  exact reshape_o _ _ _ _

/-- The run, with the result's value. -/
theorem value_run (ρ : Dev nD → PrngReg) : θ_run defs (onTc (τ := τ) (main (F := Ideal))) ⟨m, fun _ => 0, ρ⟩ (fun r => ∀ c : Dev nD,
      r.2.mem ((c.tc : Thread nD τ).loc main_v0) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.1.rest_eq c main_v0 (by decide)).trans (W_main m c), h.2.1 c⟩)
    (θ_run_and (run_main_quiescent m ρ (tableOk m)) (frame_run m ρ (tableOk m)))

end Cert.KernelIdeal.Uni

end
-- ==== Proof.Math.Pick.lean ====
module

public import Idealize.ShloMosaic.PureOps.Ideal
public import Idealize.ShloMosaic.Lib.SortFacts
public import Idealize.ShloMosaic.Lib.SortPrefix

/-!
# Choosing the four largest, two ways

The largest taken out four times is the head of a stable descending sort, in the same order.
-/

@[expose] public section

noncomputable section

namespace Cert.Pick

open Idealize.ShloMosaic

/-- `r` holds the largest of `f`, and is the first place that does. -/
def IsMax (f : Fin 32 → EReal) (r : Fin 32) : Prop := ∀ p, f p < f r ∨ (f p = f r ∧ r ≤ p)

/-- The scores after the first `n` of the places `a` are taken out. -/
def cut (s : Fin 32 → EReal) (a : Nat → Fin 32) : Nat → Fin 32 → EReal
  | 0 => s
  | n + 1 => fun p => if p = a n then ⊥ else cut s a n p

/-- A place that is not among those taken out keeps its score. -/
theorem cut_of_ne (s : Fin 32 → EReal) (a : Nat → Fin 32) (n : Nat) (p : Fin 32) (h : ∀ t < n, p ≠ a t) : cut s a n p = s p := by
  induction n with
  | zero => rfl
  | succ n ih =>
    show (if p = a n then ⊥ else cut s a n p) = s p
    rw [if_neg (h n (Nat.lt_succ_self n)), ih fun t ht => h t (Nat.lt_succ_of_lt ht)]

/-- A place that is taken out has the score −∞. -/
theorem cut_of_eq (s : Fin 32 → EReal) (a : Nat → Fin 32) (n t : Nat) (ht : t < n) : cut s a n (a t) = ⊥ := by
  induction n with
  | zero => omega
  | succ n ih =>
    show (if a t = a n then ⊥ else cut s a n (a t)) = ⊥
    split
    · rfl
    · next h =>
      refine ih ?_
      rcases Nat.lt_succ_iff_lt_or_eq.1 ht with h' | h'
      · exact h'
      · exact absurd (by rw [h']) h

/-- Some place is left while fewer than 32 are taken out. -/
theorem exists_left (a : Nat → Fin 32) (n : Nat) (hn : n < 32) : ∃ p, ∀ t < n, p ≠ a t := by
  by_contra hc
  push Not at hc
  have : Function.Surjective fun t : Fin n => a t.val := fun p => by
    obtain ⟨t, ht, e⟩ := hc p
    exact ⟨⟨t, ht⟩, e.symm⟩
  have := Fintype.card_le_of_surjective _ this
  simp at this
  omega

section
variable (s : Fin 32 → EReal) (a : Nat → Fin 32) (hs : ∀ p, ⊥ < s p)
  (ha : ∀ n < 4, (∃ p, ⊥ < cut s a n p) → IsMax (cut s a n) (a n))

include hs ha

/-- Every round finds the largest of what is left. -/
theorem isMax (n : Nat) (hn : n < 4) : IsMax (cut s a n) (a n) := by
  obtain ⟨p, hp⟩ := exists_left a n (by omega)
  exact ha n hn ⟨p, by rw [cut_of_ne s a n p hp]; exact hs p⟩

/-- A place found is one still left. -/
theorem fresh (n : Nat) (hn : n < 4) (t : Nat) (ht : t < n) : a n ≠ a t := by
  intro e
  obtain ⟨p, hp⟩ := exists_left a n (by omega)
  have h := isMax s a hs ha n hn p
  rw [cut_of_ne s a n p hp, e, cut_of_eq s a n t ht] at h
  rcases h with h | h
  · exact absurd h not_lt_bot
  · exact absurd h.1 (hs p).ne'

/-- The four places differ. -/
theorem inj : Function.Injective fun t : Fin 4 => a t.val := by
  intro x y e
  have e' : a x.val = a y.val := e
  rcases lt_trichotomy x.val y.val with h | h | h
  · exact absurd e'.symm (fresh s a hs ha y.val y.isLt x.val h)
  · exact Fin.ext h
  · exact absurd e' (fresh s a hs ha x.val x.isLt y.val h)

/-- A place not found before round `n` is no better than the one found there. -/
theorem not_better (n : Nat) (hn : n < 4) (p : Fin 32) (hp : ∀ t < n, p ≠ a t) :
    s p < s (a n) ∨ (s p = s (a n) ∧ a n ≤ p) := by
  have h := isMax s a hs ha n hn p
  rwa [cut_of_ne s a n p hp, cut_of_ne s a n (a n) (fresh s a hs ha n hn)] at h

end

/-- The descending order, ties by place. -/
def before (s : Fin 32 → EReal) (k k' : Fin 32) : Bool :=
  decide (s k' < s k) || (decide (s k = s k') && decide (k < k'))

/-- The descending order with ties by place is a strict total order. -/
theorem before_strict (s : Fin 32 → EReal) : StrictTotalBefore (before s) :=
  StrictTotalBefore.of_key_then_position (fun a b : EReal => decide (b < a)) s (fun a => by simp)
    (fun a b c h h' => by simp only [decide_eq_true_eq] at h h' ⊢; exact h'.trans h)
    (fun a b => by
      simp only [decide_eq_true_eq]
      rcases lt_trichotomy a b with h | h | h
      · exact Or.inr (Or.inr h)
      · exact Or.inr (Or.inl h)
      · exact Or.inl h)

/-- A stable sort of a list in order breaks ties by place. -/
theorem stableSort_ties (s : Fin 32 → EReal) (l : List (Fin 32)) (hl : l.Pairwise (· < ·)) :
    stableSort (fun k k' => decide (s k' < s k)) l = stableSort (before s) l := by
  induction l with
  | nil => rfl
  | cons x l ih =>
    rw [List.pairwise_cons] at hl
    unfold stableSort
    rw [ih hl.2]
    refine insertBefore_congr _ _ x _ fun b hb => ?_
    have hx : x < b := hl.1 b ((perm_stableSort (before s) l).mem_iff.mp hb)
    unfold before
    rw [decide_eq_false (not_lt_of_gt hx), Bool.and_false, Bool.or_false]

/-- Equal lists have equal entries at equal places. -/
theorem get_congr {α : Type} {l l' : List α} (e : l = l') {n : Nat} (h : n = l.length) (h' : n = l'.length) (k : Fin n) :
    l.get (Fin.cast h k) = l'.get (Fin.cast h' k) := by subst e; rfl

/-- The same of the order of the places. -/
theorem sortedFrom_ties (s : Fin 32 → EReal) : sortedFrom (fun k k' => decide (s k' < s k)) = sortedFrom (before s) := by
  funext k
  unfold sortedFrom
  have e : sortPositions 32 (fun k k' => decide (s k' < s k)) = sortPositions 32 (before s) :=
    stableSort_ties s (List.finRange 32) (List.pairwise_lt_finRange 32)
  exact get_congr e _ _ k

/-- The places found are the first of the sort. -/
theorem sorted_eq (s : Fin 32 → EReal) (a : Nat → Fin 32) (hs : ∀ p, ⊥ < s p)
    (ha : ∀ n < 4, (∃ p, ⊥ < cut s a n p) → IsMax (cut s a n) (a n)) (t : Fin 4) :
    sortedFrom (fun k k' => decide (s k' < s k)) (t.castLE (by decide)) = a t.val := by
  rw [sortedFrom_ties]
  refine (before_strict s).sortedFrom_eq_of_prefix (by decide) (fun t : Fin 4 => a t.val) (inj s a hs ha) ?_ ?_ t
  · intro i j hij
    have h := not_better s a hs ha i.val i.isLt (a j.val) fun u hu => fresh s a hs ha j.val j.isLt u (by omega)
    unfold before
    rcases h with h | ⟨h, h'⟩
    · simp [h.ne, not_lt_of_gt h]
    · simp [h, h']
  · intro i p hp
    have h := not_better s a hs ha i.val i.isLt p fun u hu e => hp ⟨u, by omega⟩ e.symm
    unfold before
    rcases h with h | ⟨h, h'⟩
    · simp [h.ne, not_lt_of_gt h]
    · simp [h, h']

/-! ## The fold that finds the largest -/

/-- A pair no worse than another: a larger value, or an equal one at no later a place. -/
def NoWorse (x y : EReal × BitVec 32) : Prop := y.1 < x.1 ∨ (y.1 = x.1 ∧ x.2.toNat ≤ y.2.toNat)

/-- A pair is no worse than itself. -/
theorem NoWorse.refl (x : EReal × BitVec 32) : NoWorse x x := Or.inr ⟨rfl, le_rfl⟩
/-- A pair no worse than one that is no worse than a third is no worse than the third. -/
theorem NoWorse.trans {x y z : EReal × BitVec 32} (h : NoWorse x y) (h' : NoWorse y z) : NoWorse x z := by
  rcases h with h | ⟨h, l⟩ <;> rcases h' with h' | ⟨h', l'⟩
  · exact Or.inl (h'.trans h)
  · exact Or.inl (h' ▸ h)
  · exact Or.inl (h ▸ h')
  · exact Or.inr ⟨h'.trans h, l.trans l'⟩

/-- A fold by a choice of the no worse of two ends at one of the pairs, no worse than any. -/
theorem fold_noWorse (f : EReal × BitVec 32 → EReal × BitVec 32 → EReal × BitVec 32) (P : EReal × BitVec 32 → Prop)
    (hf : ∀ x y, P x → P y → (f x y = x ∧ NoWorse x y) ∨ (f x y = y ∧ NoWorse y x)) (l : List (EReal × BitVec 32)) :
    ∀ x, P x → (∀ y ∈ l, P y) → (l.foldl f x = x ∨ l.foldl f x ∈ l) ∧ NoWorse (l.foldl f x) x ∧ ∀ y ∈ l, NoWorse (l.foldl f x) y := by
  induction l with
  | nil => exact fun x _ _ => ⟨Or.inl rfl, NoWorse.refl x, fun y hy => absurd hy List.not_mem_nil⟩
  | cons z l ih =>
    intro x hx hl
    have hz := hl z List.mem_cons_self
    have hl' : ∀ y ∈ l, P y := fun y hy => hl y (List.mem_cons_of_mem z hy)
    rw [List.foldl_cons]
    rcases hf x z hx hz with ⟨e, h⟩ | ⟨e, h⟩
    · rw [e]
      obtain ⟨m, h1, h2⟩ := ih x hx hl'
      refine ⟨m.imp_right fun h => List.mem_cons_of_mem z h, h1, fun y hy => ?_⟩
      rcases List.mem_cons.1 hy with rfl | hy
      · exact h1.trans h
      · exact h2 y hy
    · rw [e]
      obtain ⟨m, h1, h2⟩ := ih z hz hl'
      refine ⟨Or.inr (List.mem_cons.2 m), h1.trans h, fun y hy => ?_⟩
      rcases List.mem_cons.1 hy with rfl | hy
      · exact h1
      · exact h2 y hy

end Cert.Pick

end
-- ==== Proof.PI.Select.lean ====
module

public import proofs.«01_k».proof.Proof.PI.Value
public import proofs.«01_k».proof.Proof.Math.Pick

/-!
# The chosen blocks

The four rounds find the four largest scores of a row, in order.
-/

@[expose] public section

noncomputable section

namespace Cert.KernelIdeal.Uni

open Cert.KernelIdeal Cert.KernelIdeal.Gen
open Idealize.ShloMosaic

/-- Row `r` of the scores. -/
def rowS (s : Vec Ideal S384x32 .f32) (r : Fin 384) (p : Fin 32) : EReal := s (ix2 r p)

/-- The number found in row `r`, as a word. -/
def bestN (s : Vec Ideal S384x32 .f32) (r : Fin 384) : BitVec 32 := best s (ix1 r)

/-- The number found in a row is below 32. -/
theorem bestN_lt (s : Vec Ideal S384x32 .f32) (r : Fin 384) : (bestN s r).toNat < 32 := best_lt s (ix1 r)

/-- The number found in row `r`. -/
def top (s : Vec Ideal S384x32 .f32) (r : Fin 384) : Fin 32 := ⟨(bestN s r).toNat, bestN_lt s r⟩

/-- The number found in a row, as a natural number, is its word's. -/
theorem top_val (s : Vec Ideal S384x32 .f32) (r : Fin 384) : (top s r).val = (bestN s r).toNat := by
  generalize hb : bestN s r = b
  have hl : b.toNat < 32 := hb ▸ bestN_lt s r
  have ht : top s r = ⟨b.toNat, hl⟩ := by subst hb; rfl
  rw [ht]

/-- Four columns side by side, read in each. -/
theorem col0 (x y z w : S384x1.Idx → BitVec 32) (r : Fin 384) :
    concatenate S384x4 1 [⟨S384x1, x⟩, ⟨S384x1, y⟩, ⟨S384x1, z⟩, ⟨S384x1, w⟩] concatenates_S384x1_S384x1_S384x1_S384x1_S384x4_d1 (ix2 r 0)
      = x (ix2 r 0) := by pointwise
/-- The second of four columns side by side. -/
theorem col1 (x y z w : S384x1.Idx → BitVec 32) (r : Fin 384) :
    concatenate S384x4 1 [⟨S384x1, x⟩, ⟨S384x1, y⟩, ⟨S384x1, z⟩, ⟨S384x1, w⟩] concatenates_S384x1_S384x1_S384x1_S384x1_S384x4_d1 (ix2 r 1)
      = y (ix2 r 0) := by pointwise
/-- The third of four columns side by side. -/
theorem col2 (x y z w : S384x1.Idx → BitVec 32) (r : Fin 384) :
    concatenate S384x4 1 [⟨S384x1, x⟩, ⟨S384x1, y⟩, ⟨S384x1, z⟩, ⟨S384x1, w⟩] concatenates_S384x1_S384x1_S384x1_S384x1_S384x4_d1 (ix2 r 2)
      = z (ix2 r 0) := by pointwise
/-- The fourth of four columns side by side. -/
theorem col3 (x y z w : S384x1.Idx → BitVec 32) (r : Fin 384) :
    concatenate S384x4 1 [⟨S384x1, x⟩, ⟨S384x1, y⟩, ⟨S384x1, z⟩, ⟨S384x1, w⟩] concatenates_S384x1_S384x1_S384x1_S384x1_S384x4_d1 (ix2 r 3)
      = w (ix2 r 0) := by pointwise

/-- The column of the numbers found holds in row `r` the number found in row `r`. -/
theorem bestCol_at (s : Vec Ideal S384x32 .f32) (r : Fin 384) : bestCol s (ix2 r 0) = bestN s r := by
  unfold bestN
  pointwise [bestCol]

/-- The table of selected blocks holds in row `r`, column `t`, the number found in round `t`. -/
theorem picks_at (s : Vec Ideal S384x32 .f32) (r : Fin 384) (t : Fin 4) : picks s (ix2 r t) = bestN (left s t.val) r := by
  unfold picks
  fin_cases t
  · exact (col0 _ _ _ _ r).trans (bestCol_at _ r)
  · exact (col1 _ _ _ _ r).trans (bestCol_at _ r)
  · exact (col2 _ _ _ _ r).trans (bestCol_at _ r)
  · exact (col3 _ _ _ _ r).trans (bestCol_at _ r)

/-- The constant that stands where a score is taken out is the least extended real. -/
theorem negInf : Ideal.ofBits .f32 0xFF800000#32 = ⊥ := by
  simp [Ideal.ofBits, Ideal.ieee]

/-- One comparison keeps one of the two pairs, which is no worse than the other. -/
theorem reducer_noWorse (x y : EReal × BitVec 32) (hx : x.2.toNat < 32) (hy : y.2.toNat < 32) :
    (reducer_argmax_f32_i32 (F := Ideal) x y = x ∧ Pick.NoWorse x y) ∨ (reducer_argmax_f32_i32 (F := Ideal) x y = y ∧ Pick.NoWorse y x) := by
  obtain ⟨x1, x2⟩ := x
  obtain ⟨y1, y2⟩ := y
  have hs : (x2.slt y2) = decide (x2.toNat < y2.toNat) := by
    rw [BitVec.slt_eq_ult_of_msb_eq]
    · rfl
    · rw [BitVec.msb_eq_false_iff_two_mul_lt.2 (by simp at hx ⊢; omega), BitVec.msb_eq_false_iff_two_mul_lt.2 (by simp at hy ⊢; omega)]
  rcases lt_trichotomy x1 y1 with h | h | h
  · right
    refine ⟨?_, Or.inl h⟩
    simp [reducer_argmax_f32_i32, Ideal.cmpf_def, Ideal.cmp, Scalar.select, IntOp.ori, IntOp.andi, IntOp.cmpi, h.ne, not_lt_of_gt h]
  · subst h
    by_cases h2 : x2.toNat < y2.toNat
    · left
      refine ⟨?_, Or.inr ⟨rfl, h2.le⟩⟩
      simp [reducer_argmax_f32_i32, Ideal.cmpf_def, Ideal.cmp, Scalar.select, IntOp.ori, IntOp.andi, IntOp.cmpi, hs, h2]
    · right
      refine ⟨?_, Or.inr ⟨rfl, not_lt.1 h2⟩⟩
      simp [reducer_argmax_f32_i32, Ideal.cmpf_def, Ideal.cmp, Scalar.select, IntOp.ori, IntOp.andi, IntOp.cmpi, hs, h2]
  · left
    refine ⟨?_, Or.inl h⟩
    simp [reducer_argmax_f32_i32, Ideal.cmpf_def, Ideal.cmp, Scalar.select, IntOp.ori, IntOp.andi, IntOp.cmpi, h, h.ne']

/-- The pairs a row's fold runs over. -/
theorem mem_fiber (s : Vec Ideal S384x32 .f32) (r : Fin 384) (p : EReal × BitVec 32) :
    p ∈ Host.argReduceFiber s (iotaInDim S384x32 32 1) reducesTo_S384x32_S384_d1 (ix1 r)
      ↔ ∃ k : Fin 32, p = (rowS s r k, BitVec.ofNat 32 k.val) := by
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 reducesTo_S384x32_S384_d1 (ix1 r) _).1 hn
    exact ⟨k, by rw [← hk]; rfl⟩
  · rintro ⟨k, rfl⟩
    refine ⟨S384x32.rowMajor (ix2 r k), ?_, ?_⟩
    · rw [Equiv.symm_apply_apply]
      exact (Shape.ReducesTo.fiber_r2_a1 reducesTo_S384x32_S384_d1 (ix1 r) _).2 ⟨k, rfl⟩
    · rw [Equiv.symm_apply_apply]; rfl

/-- Where some score is left, the number found is the first place of the largest. -/
theorem top_isMax (s : Vec Ideal S384x32 .f32) (r : Fin 384) (h : ∃ p, ⊥ < rowS s r p) : Pick.IsMax (rowS s r) (top s r) := by
  obtain ⟨q, hq⟩ := h
  have e : bestN s r = ((Host.argReduceFiber s (iotaInDim S384x32 32 1) reducesTo_S384x32_S384_d1 (ix1 r)).foldl
      (reducer_argmax_f32_i32 (F := Ideal)) ((⊥ : EReal), 0#32)).2 := by
    unfold bestN best
    rw [Ideal.argReduce_eq_reduce2, Host.reduce2_eq_foldl_fiber]
    show (List.foldl _ (Ideal.ofBits .f32 0xFF800000#32, 0#32) _).2 = _
    rw [negInf]
  obtain ⟨hm, h1, h2⟩ := Pick.fold_noWorse (reducer_argmax_f32_i32 (F := Ideal)) (fun p => p.2.toNat < 32)
    (fun x y hx hy => reducer_noWorse x y hx hy) (Host.argReduceFiber s (iotaInDim S384x32 32 1) reducesTo_S384x32_S384_d1 (ix1 r))
    ((⊥ : EReal), 0#32) (show (0#32).toNat < 32 by decide) (fun p hp => by
      obtain ⟨k, rfl⟩ := (mem_fiber s r p).1 hp
      show (BitVec.ofNat 32 k.val).toNat < 32
      rw [BitVec.toNat_ofNat]; omega)
  generalize hR : List.foldl (reducer_argmax_f32_i32 (F := Ideal)) ((⊥ : EReal), 0#32) _ = R at e hm h1 h2
  have hq' := h2 _ ((mem_fiber s r _).2 ⟨q, rfl⟩)
  have hb : ⊥ < R.1 := by
    rcases hq' with h | h
    · exact hq.trans h
    · exact h.1 ▸ hq
  have hR' : R ∈ Host.argReduceFiber s (iotaInDim S384x32 32 1) reducesTo_S384x32_S384_d1 (ix1 r) := by
    rcases hm with h | h
    · rw [h] at hb; exact absurd hb (lt_irrefl _)
    · exact h
  obtain ⟨k, hk⟩ := (mem_fiber s r R).1 hR'
  have ht : top s r = k := by
    apply Fin.ext
    rw [top_val, e, hk]
    show (BitVec.ofNat 32 k.val).toNat = k.val
    rw [BitVec.toNat_ofNat]; omega
  rw [ht]
  intro p
  have hp := h2 _ ((mem_fiber s r _).2 ⟨p, rfl⟩)
  rw [hk] at hp
  rcases hp with h | ⟨h, h'⟩
  · exact Or.inl h
  · refine Or.inr ⟨h, ?_⟩
    have h'' : (BitVec.ofNat 32 k.val).toNat ≤ (BitVec.ofNat 32 p.val).toNat := h'
    rw [BitVec.toNat_ofNat, BitVec.toNat_ofNat] at h''
    show k.val ≤ p.val
    omega

/-- One round takes out the number found. -/
theorem rest_at (s : Vec Ideal S384x32 .f32) (r : Fin 384) (p : Fin 32) :
    rowS (rest s) r p = if p = top s r then ⊥ else rowS s r p := by
  have hb := bestN_lt s r
  have e : (BitVec.ofNat 32 p.val = bestN s r) ↔ p = top s r := by
    rw [← BitVec.toNat_inj, BitVec.toNat_ofNat, Fin.ext_iff]
    rw [top_val, Nat.mod_eq_of_lt (by omega)]
  unfold rowS
  pointwise [rest]
  rw [bestCol_at]
  have hc : id (constant (F := Ideal) S_ .f32 0xFF800000#32) ix0 = (⊥ : EReal) := negInf
  rw [hc]
  by_cases hp : p = top s r
  · rw [if_pos hp]
    simp [IntOp.cmpi, e.2 hp, Scalar.select]
  · rw [if_neg hp]
    have : ¬ BitVec.ofNat 32 p.val = bestN s r := fun h => hp (e.1 h)
    have hb0 : IntOp.cmpi .eq (BitVec.ofNat 32 p.val) (bestN s r) = 0#1 := by
      show BitVec.ofBool (BitVec.ofNat 32 p.val == bestN s r) = 0#1
      rw [beq_eq_false_iff_ne.2 this]; rfl
    rw [hb0]
    rfl

/-- The numbers found in row `r`, round by round. -/
def found (s : Vec Ideal S384x32 .f32) (r : Fin 384) (n : Nat) : Fin 32 := top (left s n) r

/-- Row `r` of the scores after `n` rounds: the row with the first `n` numbers found taken out. -/
theorem left_at (s : Vec Ideal S384x32 .f32) (r : Fin 384) (n : Nat) : rowS (left s n) r = Pick.cut (rowS s r) (found s r) n := by
  induction n with
  | zero => rfl
  | succ n ih =>
    funext p
    show rowS (rest (left s n)) r p = if p = found s r n then ⊥ else Pick.cut (rowS s r) (found s r) n p
    rw [rest_at, ih]
    rfl

/-- The places found are the first of the sort, and differ. -/
theorem found_sorted (s : Vec Ideal S384x32 .f32) (r : Fin 384) (hs : ∀ p, ⊥ < rowS s r p) (t : Fin 4) :
    sortedFrom (fun k k' => decide (rowS s r k' < rowS s r k)) (t.castLE (by decide)) = found s r t.val :=
  Pick.sorted_eq _ _ hs (fun n _ h => by rw [← left_at] at h ⊢; exact top_isMax _ r h) t

/-- If all scores of a row lie above −∞, its four rounds find four different numbers. -/
theorem found_inj (s : Vec Ideal S384x32 .f32) (r : Fin 384) (hs : ∀ p, ⊥ < rowS s r p) :
    Function.Injective fun t : Fin 4 => found s r t.val :=
  Pick.inj _ _ hs (fun n _ h => by rw [← left_at] at h ⊢; exact top_isMax _ r h)

/-- A number below 32 names its own block. -/
theorem selK_val (w : BitVec 32) (h : w.toNat < 32) : (selK w).val = w.toNat := Nat.mod_eq_of_lt h

/-- The blocks a query block takes are the places found. -/
theorem selH_eq (s : Vec Ideal S384x32 .f32) (h : Fin 12) (j : Fin 32) (t : Fin 4) :
    selH s h j t = found s ⟨32 * h.val + j.val, by omega⟩ t.val := by
  unfold selH
  rw [picks_at]
  apply Fin.ext
  unfold found
  rw [top_val]
  exact selK_val _ (bestN_lt _ _)

end Cert.KernelIdeal.Uni

end
-- ==== Proof.RI.Terms.lean ====
module

public import proofs.«01_k».proof.Proof.RI.Frame
public import proofs.«01_k».proof.Proof.Math.Attn
public import Idealize.ShloMosaic.Lib.Pointwise

/-!
# The result of the reference, in named parts
-/

@[expose] public section

noncomputable section

namespace Cert.ReferenceIdeal.Attn

open Cert.ReferenceIdeal Cert.ReferenceIdeal.Gen
open Idealize.ShloMosaic Idealize.ShloMosaic.TcCoe Idealize.ShloMosaic.StableHlo
open Idealize.SL.Sem

variable {F : FTy → Type} [FloatOps F]

/-- The mean of every block of 64 rows. -/
def pooled (x : Vec F S1x12x2048x64 .f32) : Vec F S1x12x32x64 .f32 :=
  Host.divf (Host.reduceAdd (shapeCast S1x12x32x64x64 x shapeCasts_S1x12x2048x64_S1x12x32x64x64) (constant S_ .f32 0x00000000#32)
    reducesTo_S1x12x32x64x64_S1x12x32x64_d3 h_S_) (broadcastInDim S1x12x32x64 ![] bcast_S_S1x12x32x64 (constant S_ .f32 0x42800000#32))

/-- The scores of the blocks. -/
def scores (x y : Vec F S1x12x2048x64 .f32) : Vec F S1x12x32x32 .f32 :=
  Host.dotGeneral dot_S1x12x32x64_S1x12x32x64_S1x12x32x32_3_3_2_2_01_01 none (pooled x) (pooled y)

/-- The numbers of the four largest scores. -/
def firsts (s : Vec F S1x12x32x32 .f32) : Vec F S1x12x32x4 .i32 :=
  (Host.topK S1x12x32x4 3 (FloatOps.cmpfTotal .gt) s sliceFits_S1x12x32x32_S1x12x32x4).2

/-- One where the number is the block's. -/
def hits (p : Vec F S1x12x32x4 .i32) : IVec S1x12x32x4x32 1 :=
  cmpi .eq (broadcastInDim S1x12x32x4x32 ![0, 1, 2, 3, 4] bcast_S1x12x32x4x1_S1x12x32x4x32_0_1_2_3_4
      (broadcastInDim S1x12x32x4x1 ![0, 1, 2, 3] bcast_S1x12x32x4_S1x12x32x4x1_0_1_2_3 p))
    (broadcastInDim S1x12x32x4x32 ![0, 1, 2, 3, 4] bcast_S1x1x1x1x32_S1x12x32x4x32_0_1_2_3_4 (iotaInDim S1x1x1x1x32 32 4))

/-- The number of times a block is chosen. -/
def count (F : FTy → Type) [FloatOps F] (p : IVec S1x12x32x4x32 1) : Vec F S1x12x32x32 .f32 :=
  Host.reduceAdd (uitofp .f32 p) (constant S_ .f32 0x00000000#32) reducesTo_S1x12x32x4x32_S1x12x32x32_d3 h_S_

/-- Whether a block is chosen. -/
def chosen (x : Vec F S1x12x32x32 .f32) : IVec S1x12x32x32 1 :=
  cmpf .ogt x (broadcastInDim S1x12x32x32 ![] bcast_S_S1x12x32x32 (constant S_ .f32 0x00000000#32))

/-- The same, by rows. -/
def mask (b : IVec S1x12x32x32 1) : IVec S1x12x2048x2048 1 :=
  shapeCast S1x12x2048x2048 (broadcastInDim S1x12x2048x32x64 ![0, 1, 2, 3] bcast_S1x12x2048x32_S1x12x2048x32x64_0_1_2_3
    (shapeCast S1x12x2048x32 (broadcastInDim S1x12x32x64x32 ![0, 1, 2, 4] bcast_S1x12x32x32_S1x12x32x64x32_0_1_2_4 b)
      shapeCasts_S1x12x32x64x32_S1x12x2048x32)) shapeCasts_S1x12x2048x32x64_S1x12x2048x2048

/-- The masked scores of the rows. -/
def logits (b : IVec S1x12x2048x2048 1) (q k : Vec F S1x12x2048x64 .f32) : Vec F S1x12x2048x2048 .f32 :=
  select b (mulf (Host.dotGeneral dot_S1x12x2048x64_S1x12x2048x64_S1x12x2048x2048_3_3_2_2_01_01 none q k)
      (broadcastInDim S1x12x2048x2048 ![] bcast_S_S1x12x2048x2048 (constant S_ .f32 0x3E000000#32)))
    (broadcastInDim S1x12x2048x2048 ![] bcast_S_S1x12x2048x2048 (id (constant S_ .f32 0xFF800000#32)))

/-- The largest of every row of scores. -/
def maxS (x : Vec F S1x12x2048x2048 .f32) : Vec F S1x12x2048 .f32 :=
  maximumf (broadcastInDim S1x12x2048 ![] bcast_S_S1x12x2048 (constant S_ .f32 0xFF800000#32))
    (Host.reduce FloatOps.maximumf x (constant S_ .f32 0xFF800000#32) reducesTo_S1x12x2048x2048_S1x12x2048_d3 h_S_)

/-- The exponentials of a row of scores, its largest taken off. -/
def expS (x : Vec F S1x12x2048x2048 .f32) (y : Vec F S1x12x2048 .f32) : Vec F S1x12x2048x2048 .f32 :=
  Host.exp (subf x (broadcastInDim S1x12x2048x2048 ![0, 1, 2, 3] bcast_S1x12x2048x1_S1x12x2048x2048_0_1_2_3
    (broadcastInDim S1x12x2048x1 ![0, 1, 2] bcast_S1x12x2048_S1x12x2048x1_0_1_2 y)))

/-- A row over its sum. -/
def normS (x : Vec F S1x12x2048x2048 .f32) : Vec F S1x12x2048x2048 .f32 :=
  Host.divf x (broadcastInDim S1x12x2048x2048 ![0, 1, 2, 3] bcast_S1x12x2048x1_S1x12x2048x2048_0_1_2_3
    (broadcastInDim S1x12x2048x1 ![0, 1, 2] bcast_S1x12x2048_S1x12x2048x1_0_1_2
      (Host.reduceAdd x (constant S_ .f32 0x00000000#32) reducesTo_S1x12x2048x2048_S1x12x2048_d3 h_S_)))

/-- The largest of every row of features. -/
def maxF (x : Vec F S1x12x2048x64 .f32) : Vec F S1x12x2048 .f32 :=
  maximumf (broadcastInDim S1x12x2048 ![] bcast_S_S1x12x2048 (constant S_ .f32 0xFF800000#32))
    (Host.reduce FloatOps.maximumf x (constant S_ .f32 0xFF800000#32) reducesTo_S1x12x2048x64_S1x12x2048_d3 h_S_)

/-- The exponentials of a row of features, its largest taken off. -/
def expF (x : Vec F S1x12x2048x64 .f32) (y : Vec F S1x12x2048 .f32) : Vec F S1x12x2048x64 .f32 :=
  Host.exp (subf x (broadcastInDim S1x12x2048x64 ![0, 1, 2, 3] bcast_S1x12x2048x1_S1x12x2048x64_0_1_2_3
    (broadcastInDim S1x12x2048x1 ![0, 1, 2] bcast_S1x12x2048_S1x12x2048x1_0_1_2 y)))

/-- A row of features over its sum. -/
def normF (x : Vec F S1x12x2048x64 .f32) : Vec F S1x12x2048x64 .f32 :=
  Host.divf x (broadcastInDim S1x12x2048x64 ![0, 1, 2, 3] bcast_S1x12x2048x1_S1x12x2048x64_0_1_2_3
    (broadcastInDim S1x12x2048x1 ![0, 1, 2] bcast_S1x12x2048_S1x12x2048x1_0_1_2
      (Host.reduceAdd x (constant S_ .f32 0x00000000#32) reducesTo_S1x12x2048x64_S1x12x2048_d3 h_S_)))

/-- The products of the features where the block is not chosen. -/
def prods (b : IVec S1x12x2048x2048 1) (x y : Vec F S1x12x2048x64 .f32) : Vec F S1x12x2048x2048 .f32 :=
  mulf (Host.dotGeneral dot_S1x12x2048x64_S1x12x2048x64_S1x12x2048x2048_3_3_2_2_01_01 none x y)
    (subf (broadcastInDim S1x12x2048x2048 ![] bcast_S_S1x12x2048x2048 (constant S_ .f32 0x3F800000#32)) (uitofp .f32 b))

/-- The linear branch, from its products. -/
def lin (p : Vec F S1x12x2048x2048 .f32) (v : Vec F S1x12x2048x64 .f32) : Vec F S1x12x2048x64 .f32 :=
  Host.divf (Host.dotGeneral dot_S1x12x2048x2048_S1x12x2048x64_S1x12x2048x64_3_2_2_3_01_01 none p v)
    (broadcastInDim S1x12x2048x64 ![0, 1, 2, 3] bcast_S1x12x2048x1_S1x12x2048x64_0_1_2_3
      (addf (broadcastInDim S1x12x2048x1 ![0, 1, 2] bcast_S1x12x2048_S1x12x2048x1_0_1_2
          (Host.reduceAdd p (constant S_ .f32 0x00000000#32) reducesTo_S1x12x2048x2048_S1x12x2048_d3 h_S_))
        (broadcastInDim S1x12x2048x1 ![] bcast_S_S1x12x2048x1 (constant S_ .f32 0x358637BD#32))))

/-- The result, from its two branches. -/
def outR (p : Vec F S1x12x2048x2048 .f32) (v o : Vec F S1x12x2048x64 .f32) (w : Vec F S64x64 .f32) (b : Vec F S64 .f32) : Vec F S1x12x2048x64 .f32 :=
  addf (addf (Host.dotGeneral dot_S1x12x2048x2048_S1x12x2048x64_S1x12x2048x64_3_2_2_3_01_01 none p v)
      (Host.dotGeneral dot_S1x12x2048x64_S64x64_S1x12x2048x64_3_1_012_0_n_n none o w))
    (broadcastInDim S1x12x2048x64 ![0, 1, 2, 3] bcast_S1x1x1x64_S1x12x2048x64_0_1_2_3 (broadcastInDim S1x1x1x64 ![3] bcast_S64_S1x1x1x64_3 b))

/-- The rows' mask, from the arguments. -/
def maskOf (q k : Vec F S1x12x2048x64 .f32) : IVec S1x12x2048x2048 1 := mask (chosen (count F (hits (F := F) (firsts (scores q k)))))

/-- The reference's result, from its arguments. -/
def refOut (q k v : Vec F S1x12x2048x64 .f32) (w : Vec F S64x64 .f32) (b : Vec F S64 .f32) : Vec F S1x12x2048x64 .f32 :=
  outR (normS (expS (logits (maskOf q k) q k) (maxS (logits (maskOf q k) q k)))) v
    (lin (prods (maskOf q k) (normF (expF q (maxF q))) (normF (expF k (maxF k)))) v) w b

variable (m : (ℓ : Loc nD τ sig) → Buf (Elt F) ℓ)

set_option maxRecDepth 100000 in
/-- The run's result is the named one. -/
theorem res_eq (c : Dev nD) : Value.res_main_v71 m c = refOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v71
  rfl

end Cert.ReferenceIdeal.Attn

end
-- ==== Proof.RI.At.lean ====
module

public import proofs.«01_k».proof.Proof.RI.Terms

/-!
# The parts of the reference, read at an index
-/

@[expose] public section

noncomputable section

namespace Cert.ReferenceIdeal.Attn

open Cert.ReferenceIdeal Cert.ReferenceIdeal.Gen
open Idealize.ShloMosaic

/-- Whether the `t`-th selected block of query block `i` is block `j`. -/
theorem hits_at (p : Vec Ideal S1x12x32x4 .i32) (h : Fin 12) (i : Fin 32) (t : Fin 4) (j : Fin 32) :
    hits (F := Ideal) p (ix5 0 h i t j) = IntOp.cmpi .eq (p (ix4 0 h i t)) (BitVec.ofNat 32 j.val) := by
  pointwise [hits]

/-- How often block `j` is among the four selected by query block `i`. -/
theorem count_at (p : IVec S1x12x32x4x32 1) (h : Fin 12) (i j : Fin 32) :
    count Ideal p (ix4 0 h i j) = ∑ t : Fin 4, FloatOps.uitofp (F := Ideal) .f32 (p (ix5 0 h i t j)) := by
  pointwise [count]

/-- A block is chosen where its count is above 0. -/
theorem chosen_at (x : Vec Ideal S1x12x32x32 .f32) (h : Fin 12) (i j : Fin 32) :
    chosen x (ix4 0 h i j) = Ideal.cmp .ogt (x (ix4 0 h i j)) 0 := by
  pointwise [chosen]

/-- The mask at query `l` and key `y` is that of their blocks. -/
theorem mask_at (b : IVec S1x12x32x32 1) (h : Fin 12) (l y : Fin 2048) :
    mask b (ix4 0 h l y) = b (ix4 0 h (Cert.Attn.blk l) (Cert.Attn.blk y)) := by
  pointwise [mask, Cert.Attn.blk]

/-- A masked score: the scaled inner product where the mask holds, else the fill. -/
theorem logits_at (b : IVec S1x12x2048x2048 1) (q k : Vec Ideal S1x12x2048x64 .f32) (h : Fin 12) (l y : Fin 2048) :
    logits b q k (ix4 0 h l y) = Scalar.select (b (ix4 0 h l y))
      ((∑ d : Fin 64, q (ix4 0 h l d) * k (ix4 0 h y d)) * Ideal.ofBits .f32 0x3E000000#32) (Ideal.ofBits .f32 0xFF800000#32) := by
  pointwise [logits]
  rfl

/-- The exponential of a masked score less its row's maximum. -/
theorem expS_at (x : Vec Ideal S1x12x2048x2048 .f32) (m : Vec Ideal S1x12x2048 .f32) (h : Fin 12) (l y : Fin 2048) :
    expS x m (ix4 0 h l y) = Ideal.exp (x (ix4 0 h l y) - m (ix3 0 h l)) := by
  pointwise [expS]

/-- That exponential over its row's sum. -/
theorem normS_at (x : Vec Ideal S1x12x2048x2048 .f32) (h : Fin 12) (l y : Fin 2048) :
    normS x (ix4 0 h l y) = Ideal.div (x (ix4 0 h l y)) (∑ y' : Fin 2048, x (ix4 0 h l y')) := by
  pointwise [normS]

/-- The exponential of a feature less its row's maximum. -/
theorem expF_at (x : Vec Ideal S1x12x2048x64 .f32) (m : Vec Ideal S1x12x2048 .f32) (h : Fin 12) (l : Fin 2048) (d : Fin 64) :
    expF x m (ix4 0 h l d) = Ideal.exp (x (ix4 0 h l d) - m (ix3 0 h l)) := by
  pointwise [expF]

/-- That exponential over its row's sum. -/
theorem normF_at (x : Vec Ideal S1x12x2048x64 .f32) (h : Fin 12) (l : Fin 2048) (d : Fin 64) :
    normF x (ix4 0 h l d) = Ideal.div (x (ix4 0 h l d)) (∑ d' : Fin 64, x (ix4 0 h l d')) := by
  pointwise [normF]

/-- The inner product of two rows of features where the mask does not hold, else times 0. -/
theorem prods_at (b : IVec S1x12x2048x2048 1) (x y : Vec Ideal S1x12x2048x64 .f32) (h : Fin 12) (l z : Fin 2048) :
    prods b x y (ix4 0 h l z) = (∑ d : Fin 64, x (ix4 0 h l d) * y (ix4 0 h z d)) * (1 - FloatOps.uitofp (F := Ideal) .f32 (b (ix4 0 h l z))) := by
  pointwise [prods]

/-- The linear branch: the weighted values over the weights' sum plus the small constant. -/
theorem lin_at (p : Vec Ideal S1x12x2048x2048 .f32) (v : Vec Ideal S1x12x2048x64 .f32) (h : Fin 12) (l : Fin 2048) (d : Fin 64) :
    lin p v (ix4 0 h l d) = Ideal.div (∑ y : Fin 2048, p (ix4 0 h l y) * v (ix4 0 h y d))
      ((∑ y : Fin 2048, p (ix4 0 h l y)) + Ideal.ofBits .f32 0x358637BD#32) := by
  pointwise [lin]

/-- The result: the sparse branch, the linear one through the weight matrix, and the bias. -/
theorem outR_at (p : Vec Ideal S1x12x2048x2048 .f32) (v o : Vec Ideal S1x12x2048x64 .f32) (w : Vec Ideal S64x64 .f32) (b : Vec Ideal S64 .f32)
    (h : Fin 12) (l : Fin 2048) (e : Fin 64) :
    outR p v o w b (ix4 0 h l e) = (∑ y : Fin 2048, p (ix4 0 h l y) * v (ix4 0 h y e)) + (∑ d : Fin 64, o (ix4 0 h l d) * w (ix2 e d)) + b (ix1 e) := by
  pointwise [outR]

/-- A block's mean: the sum over its 64 rows over 64. -/
theorem pooled_at (x : Vec Ideal S1x12x2048x64 .f32) (h : Fin 12) (i : Fin 32) (d : Fin 64) :
    pooled x (ix4 0 h i d) = Ideal.div (∑ r : Fin 64, x (ix4 0 h ⟨i.val * 64 + r.val, by omega⟩ d)) (Ideal.ofBits .f32 0x42800000#32) := by
  pointwise [pooled]

/-- A block score: the inner product of the two blocks' means. -/
theorem scores_at (x y : Vec Ideal S1x12x2048x64 .f32) (h : Fin 12) (i j : Fin 32) :
    scores x y (ix4 0 h i j) = ∑ d : Fin 64, pooled x (ix4 0 h i d) * pooled y (ix4 0 h j d) := by
  pointwise [scores]

end Cert.ReferenceIdeal.Attn

end
-- ==== Proof.RI.Max.lean ====
module

public import proofs.«01_k».proof.Proof.RI.Terms

/-!
# Rows' maxima and the numbers of the largest
-/

@[expose] public section

noncomputable section

namespace Cert.ReferenceIdeal.Attn

open Cert.ReferenceIdeal Cert.ReferenceIdeal.Gen
open Idealize.ShloMosaic

/-- A fold of maxima keeps a strict upper bound and a strict lower bound that one of its values has. -/
theorem foldl_max {ι : Type} (f : ι → EReal) (l : List ι) (a : EReal) (ha : a < ⊤) (hl : ∀ i ∈ l, f i < ⊤) (hb : ⊥ < a ∨ ∃ i ∈ l, ⊥ < f i) :
    ⊥ < l.foldl (fun r i => max r (f i)) a ∧ l.foldl (fun r i => max r (f i)) a < ⊤ := by
  induction l generalizing a with
  | nil =>
    refine ⟨?_, ha⟩
    rcases hb with h | ⟨i, hi, _⟩
    · exact h
    · exact absurd hi List.not_mem_nil
  | cons b l ih =>
    refine ih _ (max_lt ha (hl b List.mem_cons_self)) (fun i hi => hl i (List.mem_cons_of_mem _ hi)) ?_
    rcases hb with h | ⟨i, hi, h⟩
    · exact Or.inl (lt_max_of_lt_left h)
    · rcases List.mem_cons.1 hi with rfl | hi
      · exact Or.inl (lt_max_of_lt_right h)
      · exact Or.inr ⟨i, hi, h⟩

/-- A maximum over an axis of values below the greatest, one of which is above the least, is a real. -/
theorem reduceMax_real {s t u : Shape} {axes : List (Fin s.rank)} (h : s.ReducesTo axes t) (hu : 0 < u.numel) (x : s.Idx → EReal) (init : u.Idx → EReal)
    (j : t.Idx) (hi : init (Shape.Idx.first hu) < ⊤) (hx : ∀ i, h.drop i = j → x i < ⊤) (i0 : s.Idx) (h0 : h.drop i0 = j) (hb : ⊥ < x i0) :
    ⊥ < Host.reduce (FloatOps.maximumf (F := Ideal) (φ := .f32)) x init h hu j
      ∧ Host.reduce (FloatOps.maximumf (F := Ideal) (φ := .f32)) x init h hu j < ⊤ := by
  rw [Host.reduce_eq_foldl]
  refine foldl_max x _ _ hi (fun i hi => hx i ?_) (Or.inr ⟨i0, ?_, hb⟩)
  · exact of_decide_eq_true (List.mem_filter.1 hi).2
  · exact List.mem_filter.2 ⟨List.mem_map.2 ⟨s.rowMajor i0, List.mem_finRange _, Equiv.symm_apply_apply _ _⟩, decide_eq_true h0⟩

/-- The least extended real, as a constant. -/
theorem negInf : Ideal.ofBits .f32 0xFF800000#32 = ⊥ := by
  simp [Ideal.ofBits, Ideal.ieee]

/-- A value above the least and below the greatest extended real is a real. -/
theorem real_of_lt {x : EReal} (h : ⊥ < x ∧ x < ⊤) : ∃ r : ℝ, x = r :=
  ⟨x.toReal, (EReal.coe_toReal h.2.ne h.1.ne').symm⟩

/-- The larger of a constant array and another, read at an index. -/
theorem max_const {s : Shape} (hb : (⟨0, ![]⟩ : Shape).BroadcastsInDim s (![] : Fin 0 → Fin s.rank)) (x : s.Idx → EReal) (i : s.Idx) :
    maximumf (F := Ideal) (φ := .f32) (broadcastInDim s ![] hb (constant ⟨0, ![]⟩ .f32 0xFF800000#32)) x i = x i := by
  have e : maximumf (F := Ideal) (φ := .f32) (broadcastInDim s ![] hb (constant ⟨0, ![]⟩ .f32 0xFF800000#32)) x i
      = max (Ideal.ofBits .f32 0xFF800000#32) (x i) := rfl
  rw [e, negInf]
  exact max_eq_right bot_le

/-- The largest of a row of scores is a real. -/
theorem maxS_real (x : Vec Ideal S1x12x2048x2048 .f32) (h : Fin 12) (l : Fin 2048) (hx : ∀ y, x (ix4 0 h l y) < (⊤ : EReal)) (y0 : Fin 2048)
    (hb : (⊥ : EReal) < x (ix4 0 h l y0)) : ∃ r : ℝ, maxS x (ix3 0 h l) = (r : EReal) := by
  unfold maxS
  rw [max_const]
  refine real_of_lt (reduceMax_real _ _ x _ _ (by rw [show (constant (F := Ideal) S_ .f32 0xFF800000#32 (Shape.Idx.first h_S_) : EReal) = ⊥ from negInf]; exact bot_lt_top) (fun i hi => ?_) (ix4 0 h l y0) ?_ hb)
  · obtain ⟨k, rfl⟩ := (Shape.ReducesTo.fiber_r4_a3 reducesTo_S1x12x2048x2048_S1x12x2048_d3 (ix3 0 h l) i).1 hi
    exact hx k
  · exact (Shape.ReducesTo.fiber_r4_a3 reducesTo_S1x12x2048x2048_S1x12x2048_d3 (ix3 0 h l) _).2 ⟨y0, rfl⟩

/-- The largest of a row of features is a real. -/
theorem maxF_real (x : Vec Ideal S1x12x2048x64 .f32) (h : Fin 12) (l : Fin 2048) (hx : ∀ d, ∃ r : ℝ, x (ix4 0 h l d) = (r : EReal)) :
    ∃ r : ℝ, maxF x (ix3 0 h l) = (r : EReal) := by
  unfold maxF
  rw [max_const]
  refine real_of_lt (reduceMax_real _ _ x _ _ (by rw [show (constant (F := Ideal) S_ .f32 0xFF800000#32 (Shape.Idx.first h_S_) : EReal) = ⊥ from negInf]; exact bot_lt_top) (fun i hi => ?_) (ix4 0 h l 0) ?_ ?_)
  · obtain ⟨k, rfl⟩ := (Shape.ReducesTo.fiber_r4_a3 reducesTo_S1x12x2048x64_S1x12x2048_d3 (ix3 0 h l) i).1 hi
    obtain ⟨r, e⟩ := hx k
    exact lt_of_eq_of_lt e (EReal.coe_lt_top r)
  · exact (Shape.ReducesTo.fiber_r4_a3 reducesTo_S1x12x2048x64_S1x12x2048_d3 (ix3 0 h l) _).2 ⟨0, rfl⟩
  · obtain ⟨r, e⟩ := hx 0
    rw [e]
    exact EReal.bot_lt_coe r

/-- The numbers of the first values of a sort along the last axis. -/
theorem topK_at {α : Type} {n0 n1 n2 n3 p : Nat} (gt : α → α → BitVec 1) (x : (⟨4, ![n0, n1, n2, n3]⟩ : Shape).Idx → α)
    (h : (⟨4, ![n0, n1, n2, n3]⟩ : Shape).Slices (fun _ => 0) ⟨4, ![n0, n1, n2, p]⟩) (hp : p ≤ n3) (a : Fin n0) (b : Fin n1) (c : Fin n2) (t : Fin p) :
    (Host.topK (⟨4, ![n0, n1, n2, p]⟩ : Shape) 3 gt x h).2 (ix4 a b c t)
      = BitVec.ofNat 32 (sortedFrom (fun k k' : Fin n3 => gt (x (ix4 a b c k)) (x (ix4 a b c k')) == 1#1) (t.castLE hp)).val := by
  have al : ∀ (t k : Fin n3), (ix4 a b c t : (⟨4, ![n0, n1, n2, n3]⟩ : Shape).Idx).along (3 : Fin 4) k = ix4 a b c k := by
    intro t k
    funext i
    fin_cases i <;> rfl
  have key : ∀ J : (⟨4, ![n0, n1, n2, n3]⟩ : Shape).Idx, J = ix4 a b c (t.castLE hp) →
      (Host.sort2 (⟨4, ![n0, n1, n2, n3]⟩ : Shape) 3 (fun l r : α × BitVec 32 => gt l.1 r.1) x
        (fun i => iotaInDim (⟨4, ![n0, n1, n2, n3]⟩ : Shape) 32 (3 : Fin 4) i)).2 J
        = BitVec.ofNat 32 (sortedFrom (fun k k' : Fin n3 => gt (x (ix4 a b c k)) (x (ix4 a b c k')) == 1#1) (t.castLE hp)).val := by
    rintro J rfl
    show BitVec.ofNat 32 (((ix4 a b c (t.castLE hp) : (⟨4, ![n0, n1, n2, n3]⟩ : Shape).Idx).along (3 : Fin 4)
      (sortedFrom (fun k k' : Fin n3 => gt (x ((ix4 a b c (t.castLE hp) : (⟨4, ![n0, n1, n2, n3]⟩ : Shape).Idx).along (3 : Fin 4) k))
        (x ((ix4 a b c (t.castLE hp) : (⟨4, ![n0, n1, n2, n3]⟩ : Shape).Idx).along (3 : Fin 4) k')) == 1#1) (t.castLE hp))) 3).val = _
    simp only [al]
    rfl
  refine key _ ?_
  funext i
  apply Fin.ext
  fin_cases i <;> exact Nat.zero_add _

/-- The numbers of the four largest scores are the first of a sort. -/
theorem firsts_at (s : Vec Ideal S1x12x32x32 .f32) (h : Fin 12) (i : Fin 32) (t : Fin 4) :
    firsts s (ix4 0 h i t) = BitVec.ofNat 32 (sortedFrom (fun k k' : Fin 32 => decide ((s (ix4 0 h i k') : EReal) < s (ix4 0 h i k))) (t.castLE (by decide))).val := by
  unfold firsts
  refine (topK_at _ s sliceFits_S1x12x32x32_S1x12x32x4 (by decide) 0 h i t).trans ?_
  have e : (fun k k' : Fin 32 => (FloatOps.cmpfTotal (F := Ideal) (φ := .f32) .gt (s (ix4 0 h i k)) (s (ix4 0 h i k')) == 1#1))
      = fun k k' : Fin 32 => decide ((s (ix4 0 h i k') : EReal) < s (ix4 0 h i k)) := by
    funext k k'
    rw [Ideal.cmpfTotal_def]
    show (BitVec.ofBool (decide _) == 1#1) = _
    by_cases hc : (s (ix4 0 h i k') : EReal) < s (ix4 0 h i k)
    · rw [decide_eq_true hc]; rfl
    · rw [decide_eq_false hc]; rfl
  rw [e]

end Cert.ReferenceIdeal.Attn

end
-- ==== Proof.RI.Value.lean ====
module

public import proofs.«01_k».proof.Proof.RI.At
public import proofs.«01_k».proof.Proof.RI.Max

/-!
# The reference computes masked attention, a head at a time
-/

@[expose] public section

noncomputable section

namespace Cert.ReferenceIdeal.Attn

open Cert.ReferenceIdeal Cert.ReferenceIdeal.Gen
open Idealize.ShloMosaic

/-- Head `h` of an array, as a table. -/
def hd (x : Vec Ideal S1x12x2048x64 .f32) (h : Fin 12) (l : Fin 2048) (d : Fin 64) : EReal := x (ix4 0 h l d)

/-- A truth value as a float is one or zero. -/
theorem uit (p : Prop) [Decidable p] : FloatOps.uitofp (F := Ideal) .f32 (BitVec.ofBool (decide p)) = (if p then (1 : EReal) else 0) := by
  by_cases hp : p
  · rw [if_pos hp, decide_eq_true hp]
    show (((BitVec.ofBool true).toNat : ℝ) : EReal) = 1
    simp
  · rw [if_neg hp, decide_eq_false hp]
    show (((BitVec.ofBool false).toNat : ℝ) : EReal) = 0
    simp

/-- Two block numbers are equal as words when they are the same block. -/
theorem eq_bit (a b : Fin 32) : IntOp.cmpi .eq (BitVec.ofNat 32 a.val) (BitVec.ofNat 32 b.val) = BitVec.ofBool (decide (a = b)) := by
  show BitVec.ofBool (BitVec.ofNat 32 a.val == BitVec.ofNat 32 b.val) = _
  congr 1
  rw [Bool.eq_iff_iff, beq_iff_eq, decide_eq_true_eq, ← BitVec.toNat_inj, BitVec.toNat_ofNat, BitVec.toNat_ofNat, Fin.ext_iff]
  omega

/-- A block is counted when it is one of the four. -/
theorem counted (c : Fin 4 → Fin 32) (j : Fin 32) : 0 < (∑ t, if c t = j then (1 : EReal) else 0) ↔ ∃ t, c t = j := by
  have nn : ∀ t ∈ Finset.univ, 0 ≤ (if c t = j then (1 : EReal) else 0) := fun t _ => by split <;> norm_num
  constructor
  · intro h
    by_contra hn
    push Not at hn
    rw [Finset.sum_eq_zero fun t _ => if_neg (hn t)] at h
    exact lt_irrefl _ h
  · rintro ⟨t, ht⟩
    refine lt_of_lt_of_le ?_ (Finset.single_le_sum nn (Finset.mem_univ t))
    rw [if_pos ht]
    norm_num

/-- The mask of a pair of rows. -/
theorem maskOf_at (q k : Vec Ideal S1x12x2048x64 .f32) (h : Fin 12) (sel : Fin 32 → Fin 4 → Fin 32)
    (hs : ∀ i t, firsts (scores q k) (ix4 0 h i t) = BitVec.ofNat 32 (sel i t).val) (l y : Fin 2048) :
    maskOf q k (ix4 0 h l y) = BitVec.ofBool (decide (∃ t, sel (Cert.Attn.blk l) t = Cert.Attn.blk y)) := by
  unfold maskOf
  rw [mask_at, chosen_at, count_at]
  simp only [hits_at, hs, eq_bit, uit]
  show BitVec.ofBool (decide (0 < _)) = _
  congr 1
  exact decide_eq_decide.2 (counted _ _)

/-- The masked scores of a pair of rows. -/
theorem logits_eq (q k : Vec Ideal S1x12x2048x64 .f32) (h : Fin 12) (sel : Fin 32 → Fin 4 → Fin 32)
    (hs : ∀ i t, firsts (scores q k) (ix4 0 h i t) = BitVec.ofNat 32 (sel i t).val) (l y : Fin 2048) :
    logits (maskOf q k) q k (ix4 0 h l y) = Cert.Attn.lg (Ideal.ofBits .f32 0x3E000000#32) (hd q h) (hd k h) sel l y := by
  rw [logits_at, maskOf_at q k h sel hs, negInf]
  unfold Cert.Attn.lg hd
  by_cases hp : ∃ t, sel (Cert.Attn.blk l) t = Cert.Attn.blk y
  · rw [if_pos hp, decide_eq_true hp]; rfl
  · rw [if_neg hp, decide_eq_false hp]; rfl

/-- A softmax of the features. -/
theorem softF_eq (x : Vec Ideal S1x12x2048x64 .f32) (h : Fin 12) (l : Fin 2048) (d : Fin 64) :
    normF (expF x (maxF x)) (ix4 0 h l d) = Cert.Attn.sm (hd x h) (fun l => maxF x (ix3 0 h l)) l d := by
  unfold Cert.Attn.sm hd
  simp only [normF_at, expF_at]

/-- The masked products of a pair of rows. -/
theorem prods_eq (q k : Vec Ideal S1x12x2048x64 .f32) (h : Fin 12) (sel : Fin 32 → Fin 4 → Fin 32)
    (hs : ∀ i t, firsts (scores q k) (ix4 0 h i t) = BitVec.ofNat 32 (sel i t).val) (l y : Fin 2048) :
    prods (maskOf q k) (normF (expF q (maxF q))) (normF (expF k (maxF k))) (ix4 0 h l y)
      = Cert.Attn.qk (hd q h) (hd k h) (fun l => maxF q (ix3 0 h l)) (fun l => maxF k (ix3 0 h l)) sel l y := by
  rw [prods_at, maskOf_at q k h sel hs, uit]
  unfold Cert.Attn.qk
  simp only [softF_eq]
  by_cases hp : ∃ t, sel (Cert.Attn.blk l) t = Cert.Attn.blk y
  · rw [if_pos hp, if_pos hp]
  · rw [if_neg hp, if_neg hp]

/-- The reference's result at an index is the masked computation of its head. -/
theorem refOut_at (q k v : Vec Ideal S1x12x2048x64 .f32) (w : Vec Ideal S64x64 .f32) (b : Vec Ideal S64 .f32) (h : Fin 12)
    (sel : Fin 32 → Fin 4 → Fin 32) (hs : ∀ i t, firsts (scores q k) (ix4 0 h i t) = BitVec.ofNat 32 (sel i t).val) (l : Fin 2048) (e : Fin 64) :
    refOut q k v w b (ix4 0 h l e)
      = Cert.Attn.rOut (Ideal.ofBits .f32 0x3E000000#32) (Ideal.ofBits .f32 0x358637BD#32) (hd q h) (hd k h) (hd v h)
          (fun e d => w (ix2 e d)) (fun e => b (ix1 e)) sel
          (fun l => maxS (logits (maskOf q k) q k) (ix3 0 h l)) (fun l => maxF q (ix3 0 h l)) (fun l => maxF k (ix3 0 h l)) l e := by
  unfold refOut
  rw [outR_at]
  unfold Cert.Attn.rOut
  simp only [normS_at, expS_at, lin_at, logits_eq q k h sel hs, prods_eq q k h sel hs]
  rfl

end Cert.ReferenceIdeal.Attn

end
-- ==== Proof.Join.lean ====
module

public import proofs.«01_k».proof.Proof.PI.Select
public import proofs.«01_k».proof.Proof.RI.Value

/-!
# The two programs agree on real queries, keys and values
-/

@[expose] public section

noncomputable section

namespace Cert.Join

open Idealize.ShloMosaic
open Cert.KernelIdeal (S1x12x2048x64 S64x64 S64)

/-- A real among the extended reals. -/
def Re (x : EReal) : Prop := ∃ r : ℝ, x = (r : EReal)

/-- A product of two reals is a real. -/
theorem Re.mul {x y : EReal} (hx : Re x) (hy : Re y) : Re (x * y) := by
  obtain ⟨a, rfl⟩ := hx
  obtain ⟨b, rfl⟩ := hy
  exact ⟨a * b, (EReal.coe_mul a b).symm⟩

/-- A finite sum of reals is a real. -/
theorem Re.sum {ι : Type} [Fintype ι] (f : ι → EReal) (hf : ∀ i, Re (f i)) : Re (∑ i, f i) := by
  choose g hg using hf
  exact ⟨∑ i, g i, by rw [Cert.Attn.coe_sum]; exact Finset.sum_congr rfl fun i _ => hg i⟩

/-- The number of rows of a block, as a constant. -/
theorem c64 : Ideal.ofBits .f32 0x42800000#32 = ((64 : ℝ) : EReal) := by
  simp [Ideal.ofBits, Ideal.ieee, -EReal.coe_mul]
  norm_num

/-- A real divided by 64 is a real. -/
theorem Re.div64 {x : EReal} (hx : Re x) : Re (Ideal.div x (Ideal.ofBits .f32 0x42800000#32)) := by
  obtain ⟨a, rfl⟩ := hx
  rw [c64, Cert.Attn.div_coe (by norm_num)]
  exact ⟨_, rfl⟩

/-- The scale is a real. -/
theorem scale_re : Re (Ideal.ofBits .f32 0x3E000000#32) := by
  refine ⟨1 / 8, ?_⟩
  simp [Ideal.ofBits, Ideal.ieee, -EReal.coe_mul]
  norm_num

/-- The small constant is a positive real. -/
theorem eps_re : ∃ r : ℝ, 0 < r ∧ Ideal.ofBits .f32 0x358637BD#32 = (r : EReal) := by
  refine ⟨8796093 / 8796093022208, by norm_num, ?_⟩
  simp [Ideal.ofBits, Ideal.ieee, -EReal.coe_mul]
  norm_num

/-- The scores of real queries and keys are reals. -/
theorem scores_re (q k : Vec Ideal S1x12x2048x64 .f32) (hq : ∀ i, Re (q i)) (hk : ∀ i, Re (k i)) (h : Fin 12) (i j : Fin 32) :
    Re (Cert.ReferenceIdeal.Attn.scores q k (ix4 0 h i j)) := by
  rw [Cert.ReferenceIdeal.Attn.scores_at]
  refine Re.sum _ fun d => Re.mul ?_ ?_
  · rw [Cert.ReferenceIdeal.Attn.pooled_at]
    exact Re.div64 (Re.sum _ fun r => hq _)
  · rw [Cert.ReferenceIdeal.Attn.pooled_at]
    exact Re.div64 (Re.sum _ fun r => hk _)

/-- The kernel's table of scores holds the reference's. -/
theorem rowS_eq (q k : Vec Ideal S1x12x2048x64 .f32) (h : Fin 12) (i p : Fin 32) :
    Cert.KernelIdeal.Uni.rowS (Cert.KernelIdeal.Uni.scores q k) ⟨32 * h.val + i.val, by omega⟩ p
      = Cert.ReferenceIdeal.Attn.scores q k (ix4 0 h i p) := by
  have e : (Cert.KernelIdeal.Uni.scores4 q k : Vec Ideal _ .f32) = Cert.ReferenceIdeal.Attn.scores q k := rfl
  rw [← e]
  unfold Cert.KernelIdeal.Uni.rowS
  generalize hs : Cert.KernelIdeal.Uni.scores4 q k = s
  have e2 : Cert.KernelIdeal.Uni.scores q k = shapeCast Cert.KernelIdeal.S384x32 s Cert.KernelIdeal.Gen.shapeCasts_S1x12x32x32_S384x32 := by
    rw [← hs]; rfl
  rw [e2]
  pointwise

/-- The reference's four numbers are the kernel's. -/
theorem firsts_eq (q k : Vec Ideal S1x12x2048x64 .f32) (hq : ∀ i, Re (q i)) (hk : ∀ i, Re (k i)) (h : Fin 12) (i : Fin 32) (t : Fin 4) :
    Cert.ReferenceIdeal.Attn.firsts (Cert.ReferenceIdeal.Attn.scores q k) (ix4 0 h i t)
      = BitVec.ofNat 32 (Cert.KernelIdeal.Uni.selH (Cert.KernelIdeal.Uni.scores q k) h i t).val := by
  rw [Cert.ReferenceIdeal.Attn.firsts_at, Cert.KernelIdeal.Uni.selH_eq, ← Cert.KernelIdeal.Uni.found_sorted]
  · simp only [rowS_eq]
  · intro p
    rw [rowS_eq]
    obtain ⟨r, e⟩ := scores_re q k hq hk h i p
    rw [e]
    exact EReal.bot_lt_coe r

/-- The four blocks differ. -/
theorem sel_inj (q k : Vec Ideal S1x12x2048x64 .f32) (hq : ∀ i, Re (q i)) (hk : ∀ i, Re (k i)) (h : Fin 12) (i : Fin 32) :
    Function.Injective (Cert.KernelIdeal.Uni.selH (Cert.KernelIdeal.Uni.scores q k) h i) := by
  have e : Cert.KernelIdeal.Uni.selH (Cert.KernelIdeal.Uni.scores q k) h i
      = fun t : Fin 4 => Cert.KernelIdeal.Uni.found (Cert.KernelIdeal.Uni.scores q k) ⟨32 * h.val + i.val, by omega⟩ t.val :=
    funext fun t => Cert.KernelIdeal.Uni.selH_eq _ _ _ _
  rw [e]
  refine Cert.KernelIdeal.Uni.found_inj _ _ fun p => ?_
  rw [rowS_eq]
  obtain ⟨r, e⟩ := scores_re q k hq hk h i p
  rw [e]
  exact EReal.bot_lt_coe r

/-- The reference's result at an index is the kernel's. -/
theorem out_eq (q k v : Vec Ideal S1x12x2048x64 .f32) (w : Vec Ideal S64x64 .f32) (b : Vec Ideal S64 .f32)
    (hq : ∀ i, Re (q i)) (hk : ∀ i, Re (k i)) (hv : ∀ i, Re (v i)) (h : Fin 12) (l : Fin 2048) (e : Fin 64) :
    Cert.ReferenceIdeal.Attn.refOut q k v w b (ix4 0 h l e)
      = Cert.Attn.kOut Cert.KernelIdeal.Uni.scaleC Cert.KernelIdeal.Uni.epsC (Cert.KernelIdeal.Uni.hd q h) (Cert.KernelIdeal.Uni.hd k h)
          (Cert.KernelIdeal.Uni.hd v h) (fun e d => w (ix2 e d)) (fun e => b (ix1 e))
          (Cert.KernelIdeal.Uni.selH (Cert.KernelIdeal.Uni.scores q k) h) l e := by
  rw [Cert.ReferenceIdeal.Attn.refOut_at q k v w b h _ (firsts_eq q k hq hk h)]
  generalize hsel : Cert.KernelIdeal.Uni.selH (Cert.KernelIdeal.Uni.scores q k) h = sel
  have hs : ∀ i t, Cert.ReferenceIdeal.Attn.firsts (Cert.ReferenceIdeal.Attn.scores q k) (ix4 0 h i t) = BitVec.ofNat 32 (sel i t).val := by
    rw [← hsel]; exact firsts_eq q k hq hk h
  have hinj : ∀ i, Function.Injective (sel i) := by rw [← hsel]; exact sel_inj q k hq hk h
  obtain ⟨s, es⟩ := scale_re
  obtain ⟨c, hc, ec⟩ := eps_re
  have mx : ∀ l, Re (Cert.ReferenceIdeal.Attn.maxS (Cert.ReferenceIdeal.Attn.logits (Cert.ReferenceIdeal.Attn.maskOf q k) q k) (ix3 0 h l)) := fun l => by
    have hp : Re ((∑ d, Cert.ReferenceIdeal.Attn.hd q h l d * Cert.ReferenceIdeal.Attn.hd k h (Cert.Attn.at_ (sel (Cert.Attn.blk l) 0) 0) d) * Ideal.ofBits .f32 0x3E000000#32) :=
      (Re.sum _ fun d => (hq _).mul (hk _)).mul scale_re
    refine Cert.ReferenceIdeal.Attn.maxS_real _ h l (fun y => ?_) (Cert.Attn.at_ (sel (Cert.Attn.blk l) 0) 0) ?_
    · rw [Cert.ReferenceIdeal.Attn.logits_eq q k h sel hs]
      unfold Cert.Attn.lg
      split
      · obtain ⟨r, er⟩ : Re ((∑ d, Cert.ReferenceIdeal.Attn.hd q h l d * Cert.ReferenceIdeal.Attn.hd k h y d) * Ideal.ofBits .f32 0x3E000000#32) :=
          (Re.sum _ fun d => (hq _).mul (hk _)).mul scale_re
        rw [er]
        exact EReal.coe_lt_top r
      · exact bot_lt_top
    · rw [Cert.ReferenceIdeal.Attn.logits_eq q k h sel hs]
      unfold Cert.Attn.lg
      rw [if_pos ⟨0, (Cert.Attn.blk_at _ _).symm⟩]
      obtain ⟨r, er⟩ := hp
      rw [er]
      exact EReal.bot_lt_coe r
  have mq : ∀ l, Re (Cert.ReferenceIdeal.Attn.maxF q (ix3 0 h l)) := fun l => Cert.ReferenceIdeal.Attn.maxF_real q h l fun d => hq _
  have mk : ∀ l, Re (Cert.ReferenceIdeal.Attn.maxF k (ix3 0 h l)) := fun l => Cert.ReferenceIdeal.Attn.maxF_real k h l fun d => hk _
  choose mx' emx using mx
  choose mq' emq using mq
  choose mk' emk using mk
  choose q' eq using hq
  choose k' ek using hk
  choose v' ev using hv
  simp only [emx, emq, emk]
  have e1 : Cert.ReferenceIdeal.Attn.hd q h = Cert.Attn.up fun l d => q' (ix4 0 h l d) := funext fun l => funext fun d => eq _
  have e2 : Cert.ReferenceIdeal.Attn.hd k h = Cert.Attn.up fun l d => k' (ix4 0 h l d) := funext fun l => funext fun d => ek _
  have e3 : Cert.ReferenceIdeal.Attn.hd v h = Cert.Attn.up fun l d => v' (ix4 0 h l d) := funext fun l => funext fun d => ev _
  have f1 : Cert.KernelIdeal.Uni.hd q h = Cert.Attn.up fun l d => q' (ix4 0 h l d) := e1
  have f2 : Cert.KernelIdeal.Uni.hd k h = Cert.Attn.up fun l d => k' (ix4 0 h l d) := e2
  have f3 : Cert.KernelIdeal.Uni.hd v h = Cert.Attn.up fun l d => v' (ix4 0 h l d) := e3
  unfold Cert.KernelIdeal.Uni.scaleC Cert.KernelIdeal.Uni.epsC
  rw [e1, e2, e3, f1, f2, f3, es, ec]
  exact (Cert.Attn.kOut_eq_rOut s c _ _ _ sel mx' mq' mk' hc hinj _ _ l e).symm

end Cert.Join

end
-- ==== Proof.Final.lean ====
module

public import proofs.«01_k».proof.Defs
public import proofs.«01_k».proof.Proof.Join
public import Idealize.ShloMosaic.Lib.ReduceAll

/-!
# The two programs end with equal results
-/

@[expose] public section

noncomputable section

namespace Cert.Join

open Idealize.ShloMosaic Idealize.ShloMosaic.TcCoe Idealize.SL.Sem
open Cert.KernelIdeal (S1x12x2048x64 S64x64 S64)

/-- The side conditions of the precondition. -/
theorem preFacts : Cert.Pre_finite.Facts where
  bcast_S_S1x12x2048x64 := by decide
  reducesTo_S1x12x2048x64_S_d0_1_2_3 := by decide
  h_S_ := by decide

/-- The greatest extended real, as a constant. -/
theorem posInf : Ideal.ofBits .f32 0x7F800000#32 = ⊤ := by
  simp [Ideal.ofBits, Ideal.ieee]

/-- A value whose magnitude is below the greatest is a real. -/
theorem re_of_abs {x : EReal} (h : max x (-x) < ⊤) : Re x := by
  have h1 : x < ⊤ := lt_of_le_of_lt (le_max_left _ _) h
  have h2 : -x < ⊤ := lt_of_le_of_lt (le_max_right _ _) h
  have h3 : x ≠ ⊥ := fun e => by rw [e, EReal.neg_bot] at h2; exact lt_irrefl _ h2
  exact ⟨x.toReal, (EReal.coe_toReal h1.ne h3).symm⟩

/-- The test of one array: every value is a real. -/
theorem re_of_all {s t u : Shape} {axes : List (Fin s.rank)} [Subsingleton t.Idx] (x : FVec Ideal s .f32) (hb : (⟨0, ![]⟩ : Shape).BroadcastsInDim s (![] : Fin 0 → Fin s.rank))
    (h : s.ReducesTo axes t) (hu : 0 < u.numel) (init : u.Idx → BitVec 1) (j : t.Idx)
    (e : Host.reduce IntOp.andi (cmpf .olt (Host.absf x) (broadcastInDim s ![] hb (constant ⟨0, ![]⟩ .f32 0x7F800000#32))) init h hu j = 1#1) (i : s.Idx) :
    Re (x i) := by
  have ei := Host.reduce_andi_all _ _ _ _ j e i
  have e2 : cmpf .olt (Host.absf x) (broadcastInDim s ![] hb (constant ⟨0, ![]⟩ .f32 0x7F800000#32)) i
      = BitVec.ofBool (decide (max (x i) (-(x i)) < Ideal.ofBits .f32 0x7F800000#32)) := rfl
  rw [e2, posInf] at ei
  refine re_of_abs ?_
  by_contra hn
  rw [decide_eq_false hn] at ei
  exact absurd ei (by decide)

/-- The precondition: the queries, keys and values are reals. -/
theorem re_of_pre [Cert.Pre_finite.Facts] (q k v : FVec Ideal S1x12x2048x64 .f32) (w : FVec Ideal S64x64 .f32) (b : FVec Ideal S64 .f32)
    (e : Cert.Pre_finite.fn (F := Ideal) q k v w b = fun _ => 1#1) : (∀ i, Re (q i)) ∧ (∀ i, Re (k i)) ∧ ∀ i, Re (v i) := by
  have e0 := congrFun e ix0
  obtain ⟨e1, e2⟩ := IntOp.andi_eq_one.1 e0
  obtain ⟨e3, e4⟩ := IntOp.andi_eq_one.1 e1
  exact ⟨re_of_all q _ _ _ _ _ e3, re_of_all k _ _ _ _ _ e4, re_of_all v _ _ _ _ _ e2⟩

/-- Equal arguments give equal results. -/
theorem algebraic : Cert.algebraic_KernelIdeal_ReferenceIdeal_pre_finite (hKernelIdeal := Cert.KernelIdeal.Gen.facts)
    (hReferenceIdeal := Cert.ReferenceIdeal.Gen.facts) (hPre_finite := preFacts) := by
  haveI := preFacts
  intro m g m' g' hp ha
  refine ⟨Cert.KernelIdeal.Uni.resV m, Cert.KernelIdeal.Uni.value_run m g,
    (θ_run _ _ _).mono (fun r h c => ⟨(h c).1.trans ?_, (h c).2⟩) (Cert.ReferenceIdeal.Value.run (F := Ideal) m' g')⟩
  obtain ⟨a0, a1, a2, a3, a4⟩ := ha c
  obtain ⟨hq, hk, hv⟩ := re_of_pre _ _ _ _ _ (hp c)
  rw [Cert.ReferenceIdeal.Attn.res_eq, a0, a1, a2, a3, a4]
  funext i
  have h0 : (i 0).val < 1 := (i 0).isLt
  have e : i = ix4 (n0 := 1) (n1 := 12) (n2 := 2048) (n3 := 64) 0 (i 1) (i 2) (i 3) := by
    funext a; apply Fin.ext; fin_cases a
    · show (i 0).val = 0; omega
    · rfl
    · rfl
    · rfl
  refine (congrArg _ e).trans ?_
  exact out_eq _ _ _ _ _ hq hk hv (i 1) (i 2) (i 3)

end Cert.Join

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.PI.Bits
public import proofs.«01_k».proof.Proof.RI.Frame
public import proofs.«01_k».proof.Proof.Final

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Join.preFacts,
  fun m g _ => Cert.Kernel.Twin.frameBits m g,
  fun m g _ => Cert.KernelIdeal.Uni.frame_run m g (Cert.KernelIdeal.Uni.tableOk m),
  fun m g _ => Cert.KernelIdeal.Uni.frame_run m g (Cert.KernelIdeal.Uni.tableOk m),
  fun m g _ => Cert.ReferenceIdeal.Attn.frame_run m g,
  fun m g _ => Cert.ReferenceIdeal.Attn.frame_run m g,
  trivial,
  Cert.Join.algebraic⟩

end Cert.Proof

end
